-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)
      ∧ m' ((c.tc : Thread Cert.ConvReferenceIdeal.nD Cert.ConvReferenceIdeal.τ).loc Cert.ConvReferenceIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v11)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v11) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v74) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6))

def Claim : Prop :=
  ∃ (hKernel : Cert.Kernel.Facts) (hKernelIdeal : Cert.KernelIdeal.Facts) (hReferenceIdeal : Cert.ReferenceIdeal.Facts) (hConv : Cert.Conv.Facts) (hConvIdeal : Cert.ConvIdeal.Facts) (hConvReferenceIdeal : Cert.ConvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Conv (hConv := hConv)
    ∧ quiescent_ConvIdeal (hConvIdeal := hConvIdeal)
    ∧ quiescent_ConvReferenceIdeal (hConvReferenceIdeal := hConvReferenceIdeal)
    ∧ preserves_Kernel_KernelIdeal
    ∧ algebraic_KernelIdeal_ReferenceIdeal (hKernelIdeal := hKernelIdeal) (hReferenceIdeal := hReferenceIdeal)
    ∧ preserves_Conv_ConvIdeal
    ∧ algebraic_ConvIdeal_ConvReferenceIdeal (hConvIdeal := hConvIdeal) (hConvReferenceIdeal := hConvReferenceIdeal)
-- ==== Kernel.lean ====
abbrev S2x3x1024x1024 : Shape := ⟨4, ![2, 3, 1024, 1024]⟩
abbrev S2x512x64x64 : Shape := ⟨4, ![2, 512, 64, 64]⟩
abbrev S512x512x3x3 : Shape := ⟨4, ![512, 512, 3, 3]⟩
abbrev S512 : Shape := ⟨1, ![512]⟩
abbrev S1x512x1x1 : Shape := ⟨4, ![1, 512, 1, 1]⟩
abbrev S1 : Shape := ⟨1, ![1]⟩
abbrev S4x512x1x1 : Shape := ⟨4, ![4, 512, 1, 1]⟩
abbrev S4 : Shape := ⟨1, ![4]⟩
abbrev S2x512x4096 : Shape := ⟨3, ![2, 512, 4096]⟩
abbrev S3x3x512x512 : Shape := ⟨4, ![3, 3, 512, 512]⟩
abbrev S9x512x512 : Shape := ⟨3, ![9, 512, 512]⟩
abbrev S1x512 : Shape := ⟨2, ![1, 512]⟩
abbrev S4x512 : Shape := ⟨2, ![4, 512]⟩
abbrev S_ : Shape := ⟨0, ![]⟩
abbrev S3x512 : Shape := ⟨2, ![3, 512]⟩
abbrev S8x512 : Shape := ⟨2, ![8, 512]⟩
abbrev S3 : Shape := ⟨1, ![3]⟩
abbrev S8 : Shape := ⟨1, ![8]⟩
abbrev S8x1 : Shape := ⟨2, ![8, 1]⟩
abbrev S512x1 : Shape := ⟨2, ![512, 1]⟩
abbrev S2x8x4096 : Shape := ⟨3, ![2, 8, 4096]⟩
abbrev S1x512x512 : Shape := ⟨3, ![1, 512, 512]⟩
abbrev S1x8x512 : Shape := ⟨3, ![1, 8, 512]⟩
abbrev S512x512 : Shape := ⟨2, ![512, 512]⟩
abbrev S512x1536 : Shape := ⟨2, ![512, 1536]⟩
abbrev S2x1x4096 : Shape := ⟨3, ![2, 1, 4096]⟩
abbrev S2x4096 : Shape := ⟨2, ![2, 4096]⟩
abbrev S2x32x128 : Shape := ⟨3, ![2, 32, 128]⟩
abbrev S2x4x4096 : Shape := ⟨3, ![2, 4, 4096]⟩
abbrev S2x4x32x128 : Shape := ⟨4, ![2, 4, 32, 128]⟩
abbrev S2x1000x4 : Shape := ⟨3, ![2, 1000, 4]⟩
abbrev S2x128x8x8x128 : Shape := ⟨5, ![2, 128, 8, 8, 128]⟩
abbrev S64x128 : Shape := ⟨2, ![64, 128]⟩
abbrev S2x1x32x128 : Shape := ⟨4, ![2, 1, 32, 128]⟩
abbrev S8x128 : Shape := ⟨2, ![8, 128]⟩
abbrev S1x8x128 : Shape := ⟨3, ![1, 8, 128]⟩
abbrev S2x8x128 : Shape := ⟨3, ![2, 8, 128]⟩
abbrev S2x1x1x8x128 : Shape := ⟨5, ![2, 1, 1, 8, 128]⟩
abbrev S2x8 : Shape := ⟨2, ![2, 8]⟩
abbrev S2x8x1 : Shape := ⟨3, ![2, 8, 1]⟩
abbrev S2x8x1x1x1 : Shape := ⟨5, ![2, 8, 1, 1, 1]⟩
abbrev S2x8x1x8x128 : Shape := ⟨5, ![2, 8, 1, 8, 128]⟩
abbrev S2x1x8x8x128 : Shape := ⟨5, ![2, 1, 8, 8, 128]⟩
abbrev S2 : Shape := ⟨1, ![2]⟩
abbrev S2x1x1 : Shape := ⟨3, ![2, 1, 1]⟩
abbrev S2x8x128x1 : Shape := ⟨4, ![2, 8, 128, 1]⟩
abbrev S2x8x128x4 : Shape := ⟨4, ![2, 8, 128, 4]⟩
abbrev S2x1024x4 : Shape := ⟨3, ![2, 1024, 4]⟩

abbrev nBuf : Space → Nat
  | .hbm => 28
  | .vmem => 16
  | .smem => 0
  | _ => 0

abbrev bufTy : (tb : Table) → Fin (tcTables nBuf tb) → BufTy
  | .hbm, ⟨0, _⟩ => ⟨S2x3x1024x1024, .f32⟩
  | .hbm, ⟨1, _⟩ => ⟨S2x512x64x64, .f32⟩
  | .hbm, ⟨2, _⟩ => ⟨S512x512x3x3, .f32⟩
  | .hbm, ⟨3, _⟩ => ⟨S512, .f32⟩
  | .hbm, ⟨4, _⟩ => ⟨S1x512x1x1, .f32⟩
  | .hbm, ⟨5, _⟩ => ⟨S1, .f32⟩
  | .hbm, ⟨6, _⟩ => ⟨S4x512x1x1, .f32⟩
  | .hbm, ⟨7, _⟩ => ⟨S4, .f32⟩
  | .hbm, ⟨8, _⟩ => ⟨S2x512x4096, .f32⟩
  | .hbm, ⟨9, _⟩ => ⟨S3x3x512x512, .f32⟩
  | .hbm, ⟨10, _⟩ => ⟨S9x512x512, .f32⟩
  | .hbm, ⟨11, _⟩ => ⟨S1x512, .f32⟩
  | .hbm, ⟨12, _⟩ => ⟨S4x512, .f32⟩
  | .hbm, ⟨13, _⟩ => ⟨S_, .f32⟩
  | .hbm, ⟨14, _⟩ => ⟨S3x512, .f32⟩
  | .hbm, ⟨15, _⟩ => ⟨S8x512, .f32⟩
  | .hbm, ⟨16, _⟩ => ⟨S_, .f32⟩
  | .hbm, ⟨17, _⟩ => ⟨S3, .f32⟩
  | .hbm, ⟨18, _⟩ => ⟨S8, .f32⟩
  | .hbm, ⟨19, _⟩ => ⟨S8x1, .f32⟩
  | .hbm, ⟨20, _⟩ => ⟨S512x1, .f32⟩
  | .hbm, ⟨21, _⟩ => ⟨S2x8x4096, .f32⟩
  | .hbm, ⟨22, _⟩ => ⟨S2x1x4096, .f32⟩
  | .hbm, ⟨23, _⟩ => ⟨S2x4096, .f32⟩
  | .hbm, ⟨24, _⟩ => ⟨S2x32x128, .f32⟩
  | .hbm, ⟨25, _⟩ => ⟨S2x4x4096, .f32⟩
  | .hbm, ⟨26, _⟩ => ⟨S2x4x32x128, .f32⟩
  | .hbm, ⟨27, _⟩ => ⟨S2x1000x4, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S9x512x512, .f32⟩
  | .local _ .vmem, ⟨7, _⟩ => ⟨S8x512, .f32⟩
  | .local _ .vmem, ⟨8, _⟩ => ⟨S8x1, .f32⟩
  | .local _ .vmem, ⟨9, _⟩ => ⟨S512x1, .f32⟩
  | .local _ .vmem, ⟨10, _⟩ => ⟨S1x8x512, .f32⟩
  | .local _ .vmem, ⟨11, _⟩ => ⟨S1x8x512, .f32⟩
  | .local _ .vmem, ⟨12, _⟩ => ⟨S2x32x128, .f32⟩
  | .local _ .vmem, ⟨13, _⟩ => ⟨S2x4x32x128, .f32⟩
  | .local _ .vmem, ⟨14, _⟩ => ⟨S2x1000x4, .f32⟩
  | .local _ .vmem, ⟨15, _⟩ => ⟨S2x128x8x8x128, .f32⟩
  | _, _ => ⟨S2x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem1_0 : DmaSem sig := 13
abbrev cc1_sem2_0 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  ![arg0.toNat, c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S9x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := .none

@[reducible] def k1_t1_loop : Scf.Loop 32 :=
  let c0_i32_1280 : BitVec 32 := 0#32
  let c128_i32_1281 : BitVec 32 := 128#32
  let v2978 : BitVec 32 := Scalar.addi c0_i32_1280 c128_i32_1281
  let c1_i32_1282 : BitVec 32 := 1#32
  ⟨c0_i32_1280, v2978, c1_i32_1282⟩
def k1_off1 (k1_t1 : Fin k1_t1_loop.trips) : Fin 5 → Nat :=
  let c0_1311 : Index := 0#32
  let c0_i32_1280 : BitVec 32 := 0#32
  let c1_i32_1282 : BitVec 32 := 1#32
  let arg4 : BitVec 32 := Scf.iv c0_i32_1280 c1_i32_1282 k1_t1
  let v3074 : Index := Scalar.indexCast arg4
  let c0_1312 : Index := 0#32
  let c0_1313 : Index := 0#32
  let c0_1314 : Index := 0#32
  ![0, v3074.toNat, 0, 0, 0]
@[reducible] def k1_t2_loop : Scf.Loop 32 :=
  let c0_i32_1286 : BitVec 32 := 0#32
  let c1000_i32_1287 : BitVec 32 := 1000#32
  let v2982 : BitVec 32 := Scalar.addi c0_i32_1286 c1000_i32_1287
  let c1_i32_1288 : BitVec 32 := 1#32
  ⟨c0_i32_1286, v2982, c1_i32_1288⟩
def k1_off2 (k1_t2 : Fin k1_t2_loop.trips) : Fin 5 → Nat :=
  let c0_1311 : Index := 0#32
  let c0_i32_1286 : BitVec 32 := 0#32
  let c1_i32_1288 : BitVec 32 := 1#32
  let arg4 : BitVec 32 := Scf.iv c0_i32_1286 c1_i32_1288 k1_t2
  let c128_i32_1305 : BitVec 32 := 128#32
  let c0_i32_1306 : BitVec 32 := 0#32
  let v3025 : BitVec 1 := Scalar.cmpi .eq c128_i32_1305 c0_i32_1306
  let c1_i32_1307 : BitVec 32 := 1#32
  let v3026 : BitVec 32 := Scalar.select v3025 c1_i32_1307 c128_i32_1305
  let v3027 : BitVec 32 := Scalar.remsi arg4 v3026
  let c0_i32_1309 : BitVec 32 := 0#32
  let v3029 : BitVec 1 := Scalar.cmpi .slt v3027 c0_i32_1309
  let c0_i32_1310 : BitVec 32 := 0#32
  let v3030 : BitVec 1 := Scalar.cmpi .slt v3026 c0_i32_1310
  let v3031 : BitVec 1 := Scalar.xori v3029 v3030
  let c0_i32_1308 : BitVec 32 := 0#32
  let v3028 : BitVec 1 := Scalar.cmpi .ne v3027 c0_i32_1308
  let v3032 : BitVec 1 := Scalar.andi v3031 v3028
  let v3033 : BitVec 32 := Scalar.addi v3027 v3026
  let v3034 : BitVec 32 := Scalar.select v3032 v3033 v3027
  let v3035 : Index := Scalar.indexCast v3034
  let c0_i32_1299 : BitVec 32 := 0#32
  let v3009 : BitVec 1 := Scalar.cmpi .sgt arg4 c0_i32_1299
  let v3010 : BitVec 32 := Scalar.extui v3009
  let c0_i32_1300 : BitVec 32 := 0#32
  let v3011 : BitVec 1 := Scalar.cmpi .slt arg4 c0_i32_1300
  let v3012 : BitVec 32 := Scalar.extui v3011
  let v3013 : BitVec 32 := Scalar.subi v3010 v3012
  let c128_i32_1298 : BitVec 32 := 128#32
  let c0_i32_1301 : BitVec 32 := 0#32
  let v3014 : BitVec 1 := Scalar.cmpi .sgt c128_i32_1298 c0_i32_1301
  let v3015 : BitVec 32 := Scalar.extui v3014
  let c0_i32_1302 : BitVec 32 := 0#32
  let v3016 : BitVec 1 := Scalar.cmpi .slt c128_i32_1298 c0_i32_1302
  let v3017 : BitVec 32 := Scalar.extui v3016
  let v3018 : BitVec 32 := Scalar.subi v3015 v3017
  let v3019 : BitVec 1 := Scalar.cmpi .ne v3013 v3018
  let v3020 : BitVec 32 := Scalar.remsi arg4 c128_i32_1298
  let c0_i32_1303 : BitVec 32 := 0#32
  let v3021 : BitVec 1 := Scalar.cmpi .ne v3020 c0_i32_1303
  let v3022 : BitVec 1 := Scalar.andi v3019 v3021
  let v3008 : BitVec 32 := Scalar.divsi arg4 c128_i32_1298
  let c1_i32_1304 : BitVec 32 := 1#32
  let v3023 : BitVec 32 := Scalar.subi v3008 c1_i32_1304
  let v3024 : BitVec 32 := Scalar.select v3022 v3023 v3008
  let v3036 : Index := Scalar.indexCast v3024
  let c0_1312 : Index := 0#32
  let c0_1313 : Index := 0#32
  ![0, v3035.toNat, v3036.toNat, 0, 0]
abbrev stage1_0 : Fin 1 → Memref sig .tc .vmem S2x32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x4x32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x1000x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S2x3x1024x1024 : Shape := ⟨4, ![2, 3, 1024, 1024]⟩
abbrev S2x512x64x64 : Shape := ⟨4, ![2, 512, 64, 64]⟩
abbrev S512x512x3x3 : Shape := ⟨4, ![512, 512, 3, 3]⟩
abbrev S512 : Shape := ⟨1, ![512]⟩
abbrev S1x512x1x1 : Shape := ⟨4, ![1, 512, 1, 1]⟩
abbrev S1 : Shape := ⟨1, ![1]⟩
abbrev S4x512x1x1 : Shape := ⟨4, ![4, 512, 1, 1]⟩
abbrev S4 : Shape := ⟨1, ![4]⟩
abbrev S1x4 : Shape := ⟨2, ![1, 4]⟩
abbrev S_ : Shape := ⟨0, ![]⟩
abbrev S2x512x66x66 : Shape := ⟨4, ![2, 512, 66, 66]⟩
abbrev S512x512x1x1 : Shape := ⟨4, ![512, 512, 1, 1]⟩
abbrev S512x512 : Shape := ⟨2, ![512, 512]⟩
abbrev S2x64x64x512 : Shape := ⟨4, ![2, 64, 64, 512]⟩
abbrev S1x512 : Shape := ⟨2, ![1, 512]⟩
abbrev S2x64x64x1 : Shape := ⟨4, ![2, 64, 64, 1]⟩
abbrev S2x1x64x64 : Shape := ⟨4, ![2, 1, 64, 64]⟩
abbrev S1x1x1x1 : Shape := ⟨4, ![1, 1, 1, 1]⟩
abbrev S4x512 : Shape := ⟨2, ![4, 512]⟩
abbrev S2x64x64x4 : Shape := ⟨4, ![2, 64, 64, 4]⟩
abbrev S2x4x64x64 : Shape := ⟨4, ![2, 4, 64, 64]⟩
abbrev S1x4x1x1 : Shape := ⟨4, ![1, 4, 1, 1]⟩
abbrev S2x4096 : Shape := ⟨2, ![2, 4096]⟩
abbrev S2x4096x4 : Shape := ⟨3, ![2, 4096, 4]⟩
abbrev S64 : Shape := ⟨1, ![64]⟩
abbrev S64x64 : Shape := ⟨2, ![64, 64]⟩
abbrev S4096 : Shape := ⟨1, ![4096]⟩
abbrev S4096x1 : Shape := ⟨2, ![4096, 1]⟩
abbrev S4096x4 : Shape := ⟨2, ![4096, 4]⟩
abbrev S2x1000 : Shape := ⟨2, ![2, 1000]⟩
abbrev S2x1000x1 : Shape := ⟨3, ![2, 1000, 1]⟩
abbrev S2x1000x4 : Shape := ⟨3, ![2, 1000, 4]⟩
abbrev S1000 : Shape := ⟨1, ![1000]⟩
abbrev S2x1x4 : Shape := ⟨3, ![2, 1, 4]⟩
abbrev S2x4 : Shape := ⟨2, ![2, 4]⟩
abbrev S2x1 : Shape := ⟨2, ![2, 1]⟩
abbrev S2 : Shape := ⟨1, ![2]⟩
abbrev S1x1000 : Shape := ⟨2, ![1, 1000]⟩

abbrev nBuf : Space → Nat
  | .hbm => 390
  | .vmem => 0
  | .smem => 0
  | _ => 0

abbrev hbmTy0_0 (i : Nat) : BufTy := match i % 128 with
  | 0 => ⟨S2x3x1024x1024, .f32⟩
  | 1 => ⟨S2x512x64x64, .f32⟩
  | 2 => ⟨S512x512x3x3, .f32⟩
  | 3 => ⟨S512, .f32⟩
  | 4 => ⟨S1x512x1x1, .f32⟩
  | 5 => ⟨S1, .f32⟩
  | 6 => ⟨S4x512x1x1, .f32⟩
  | 7 => ⟨S4, .f32⟩
  | 8 => ⟨S4, .f32⟩
  | 9 => ⟨S1x4, .f32⟩
  | 10 => ⟨S_, .i32⟩
  | 11 => ⟨S_, .f32⟩
  | 12 => ⟨S2x512x66x66, .f32⟩
  | 13 => ⟨S_, .f32⟩
  | 14 => ⟨S2x512x64x64, .f32⟩
  | 15 => ⟨S512x512x1x1, .f32⟩
  | 16 => ⟨S512x512, .f32⟩
  | 17 => ⟨S2x512x64x64, .f32⟩
  | 18 => ⟨S2x64x64x512, .f32⟩
  | 19 => ⟨S2x512x64x64, .f32⟩
  | 20 => ⟨S2x512x64x64, .f32⟩
  | 21 => ⟨S512x512x1x1, .f32⟩
  | 22 => ⟨S512x512, .f32⟩
  | 23 => ⟨S2x512x64x64, .f32⟩
  | 24 => ⟨S2x64x64x512, .f32⟩
  | 25 => ⟨S2x512x64x64, .f32⟩
  | 26 => ⟨S2x512x64x64, .f32⟩
  | 27 => ⟨S512x512x1x1, .f32⟩
  | 28 => ⟨S512x512, .f32⟩
  | 29 => ⟨S2x512x64x64, .f32⟩
  | 30 => ⟨S2x64x64x512, .f32⟩
  | 31 => ⟨S2x512x64x64, .f32⟩
  | 32 => ⟨S2x512x64x64, .f32⟩
  | 33 => ⟨S512x512x1x1, .f32⟩
  | 34 => ⟨S512x512, .f32⟩
  | 35 => ⟨S2x512x64x64, .f32⟩
  | 36 => ⟨S2x64x64x512, .f32⟩
  | 37 => ⟨S2x512x64x64, .f32⟩
  | 38 => ⟨S2x512x64x64, .f32⟩
  | 39 => ⟨S512x512x1x1, .f32⟩
  | 40 => ⟨S512x512, .f32⟩
  | 41 => ⟨S2x512x64x64, .f32⟩
  | 42 => ⟨S2x64x64x512, .f32⟩
  | 43 => ⟨S2x512x64x64, .f32⟩
  | 44 => ⟨S2x512x64x64, .f32⟩
  | 45 => ⟨S512x512x1x1, .f32⟩
  | 46 => ⟨S512x512, .f32⟩
  | 47 => ⟨S2x512x64x64, .f32⟩
  | 48 => ⟨S2x64x64x512, .f32⟩
  | 49 => ⟨S2x512x64x64, .f32⟩
  | 50 => ⟨S2x512x64x64, .f32⟩
  | 51 => ⟨S512x512x1x1, .f32⟩
  | 52 => ⟨S512x512, .f32⟩
  | 53 => ⟨S2x512x64x64, .f32⟩
  | 54 => ⟨S2x64x64x512, .f32⟩
  | 55 => ⟨S2x512x64x64, .f32⟩
  | 56 => ⟨S2x512x64x64, .f32⟩
  | 57 => ⟨S512x512x1x1, .f32⟩
  | 58 => ⟨S512x512, .f32⟩
  | 59 => ⟨S2x512x64x64, .f32⟩
  | 60 => ⟨S2x64x64x512, .f32⟩
  | 61 => ⟨S2x512x64x64, .f32⟩
  | 62 => ⟨S2x512x64x64, .f32⟩
  | 63 => ⟨S512x512x1x1, .f32⟩
  | 64 => ⟨S512x512, .f32⟩
  | 65 => ⟨S2x512x64x64, .f32⟩
  | 66 => ⟨S2x64x64x512, .f32⟩
  | 67 => ⟨S2x512x64x64, .f32⟩
  | 68 => ⟨S2x512x64x64, .f32⟩
  | 69 => ⟨S1x512x1x1, .f32⟩
  | 70 => ⟨S2x512x64x64, .f32⟩
  | 71 => ⟨S2x512x64x64, .f32⟩
  | 72 => ⟨S_, .f32⟩
  | 73 => ⟨S2x512x64x64, .f32⟩
  | 74 => ⟨S2x512x64x64, .f32⟩
  | 75 => ⟨S1x512, .f32⟩
  | 76 => ⟨S2x64x64x1, .f32⟩
  | 77 => ⟨S2x1x64x64, .f32⟩
  | 78 => ⟨S1x1x1x1, .f32⟩
  | 79 => ⟨S2x1x64x64, .f32⟩
  | 80 => ⟨S2x1x64x64, .f32⟩
  | 81 => ⟨S4x512, .f32⟩
  | 82 => ⟨S2x64x64x4, .f32⟩
  | 83 => ⟨S2x4x64x64, .f32⟩
  | 84 => ⟨S1x4x1x1, .f32⟩
  | 85 => ⟨S2x4x64x64, .f32⟩
  | 86 => ⟨S2x4x64x64, .f32⟩
  | 87 => ⟨S2x64x64x1, .f32⟩
  | 88 => ⟨S2x4096, .f32⟩
  | 89 => ⟨S2x64x64x4, .f32⟩
  | 90 => ⟨S2x4096x4, .f32⟩
  | 91 => ⟨S64, .i32⟩
  | 92 => ⟨S_, .i32⟩
  | 93 => ⟨S64, .i32⟩
  | 94 => ⟨S64, .i32⟩
  | 95 => ⟨S64, .i32⟩
  | 96 => ⟨S_, .i32⟩
  | 97 => ⟨S64, .i32⟩
  | 98 => ⟨S64, .i32⟩
  | 99 => ⟨S64x64, .i32⟩
  | 100 => ⟨S64x64, .i32⟩
  | 101 => ⟨S4096, .i32⟩
  | 102 => ⟨S4096, .i32⟩
  | 103 => ⟨S4096, .i32⟩
  | 104 => ⟨S4096, .i32⟩
  | 105 => ⟨S4096x1, .i32⟩
  | 106 => ⟨S4096x1, .i32⟩
  | 107 => ⟨S4096x1, .i32⟩
  | 108 => ⟨S4096x1, .i32⟩
  | 109 => ⟨S4096x4, .i32⟩
  | 110 => ⟨S4096x4, .f32⟩
  | 111 => ⟨S4096x4, .f32⟩
  | 112 => ⟨S4096x4, .f32⟩
  | 113 => ⟨S2x4096, .f32⟩
  | 114 => ⟨S2x4096, .f32⟩
  | 115 => ⟨S_, .f32⟩
  | 116 => ⟨S2x4096, .f32⟩
  | 117 => ⟨S2x4096, .f32⟩
  | 118 => ⟨S_, .f32⟩
  | 119 => ⟨S2x4096, .f32⟩
  | 120 => ⟨S2x4096, .f32⟩
  | 121 => ⟨S2x1000, .f32⟩
  | 122 => ⟨S2x1000, .i32⟩
  | 123 => ⟨S_, .i32⟩
  | 124 => ⟨S2x1000, .i32⟩
  | 125 => ⟨S2x1000, .i1⟩
  | 126 => ⟨S_, .i32⟩
  | 127 => ⟨S2x1000, .i32⟩
  | _ => ⟨S2x3x1024x1024, .f32⟩

abbrev hbmTy0_1 (i : Nat) : BufTy := match i % 128 with
  | 0 => ⟨S2x1000, .i32⟩
  | 1 => ⟨S2x1000, .i32⟩
  | 2 => ⟨S2x1000x1, .i32⟩
  | 3 => ⟨S2x1000x4, .f32⟩
  | 4 => ⟨S_, .i32⟩
  | 5 => ⟨S2x1000, .i32⟩
  | 6 => ⟨S2x1000, .i1⟩
  | 7 => ⟨S_, .i32⟩
  | 8 => ⟨S2x1000, .i32⟩
  | 9 => ⟨S2x1000, .i32⟩
  | 10 => ⟨S2x1000, .i32⟩
  | 11 => ⟨S2x1000x1, .i32⟩
  | 12 => ⟨S2x1000x4, .f32⟩
  | 13 => ⟨S2x1000x1, .f32⟩
  | 14 => ⟨S2x1000, .f32⟩
  | 15 => ⟨S2x1000x1, .f32⟩
  | 16 => ⟨S2x1000, .f32⟩
  | 17 => ⟨S2x1000, .f32⟩
  | 18 => ⟨S2x1000x1, .f32⟩
  | 19 => ⟨S2x1000, .f32⟩
  | 20 => ⟨S2x1000x1, .f32⟩
  | 21 => ⟨S2x1000, .f32⟩
  | 22 => ⟨S2x1000, .f32⟩
  | 23 => ⟨S2x1000x1, .f32⟩
  | 24 => ⟨S2x1000, .f32⟩
  | 25 => ⟨S_, .f32⟩
  | 26 => ⟨S2x1000, .f32⟩
  | 27 => ⟨S2x1000, .f32⟩
  | 28 => ⟨S2x1000, .f32⟩
  | 29 => ⟨S2x1000x1, .f32⟩
  | 30 => ⟨S2x1000, .f32⟩
  | 31 => ⟨S_, .f32⟩
  | 32 => ⟨S2x1000, .f32⟩
  | 33 => ⟨S2x1000, .f32⟩
  | 34 => ⟨S2x1000, .f32⟩
  | 35 => ⟨S2x1000x1, .f32⟩
  | 36 => ⟨S2x1000, .f32⟩
  | 37 => ⟨S2x1000x1, .f32⟩
  | 38 => ⟨S2x1000, .f32⟩
  | 39 => ⟨S2x1000x1, .f32⟩
  | 40 => ⟨S2x1000, .f32⟩
  | 41 => ⟨S2x1000x1, .f32⟩
  | 42 => ⟨S2x1000, .f32⟩
  | 43 => ⟨S_, .f32⟩
  | 44 => ⟨S2x1000, .f32⟩
  | 45 => ⟨S2x1000, .f32⟩
  | 46 => ⟨S_, .f32⟩
  | 47 => ⟨S2x1000, .f32⟩
  | 48 => ⟨S2x1000, .f32⟩
  | 49 => ⟨S2x1000, .f32⟩
  | 50 => ⟨S2x1000, .f32⟩
  | 51 => ⟨S2x1000, .f32⟩
  | 52 => ⟨S2x1000, .f32⟩
  | 53 => ⟨S2x1000, .f32⟩
  | 54 => ⟨S2x1000, .f32⟩
  | 55 => ⟨S2x1000, .f32⟩
  | 56 => ⟨S2x1000, .f32⟩
  | 57 => ⟨S_, .f32⟩
  | 58 => ⟨S2x1000, .f32⟩
  | 59 => ⟨S2x1000, .f32⟩
  | 60 => ⟨S2x1000, .f32⟩
  | 61 => ⟨S_, .f32⟩
  | 62 => ⟨S2x1000, .f32⟩
  | 63 => ⟨S2x1000, .f32⟩
  | 64 => ⟨S2x1000, .f32⟩
  | 65 => ⟨S_, .f32⟩
  | 66 => ⟨S2x1000, .f32⟩
  | 67 => ⟨S2x1000, .f32⟩
  | 68 => ⟨S2x1000, .f32⟩
  | 69 => ⟨S_, .f32⟩
  | 70 => ⟨S2x1000, .f32⟩
  | 71 => ⟨S2x1000, .f32⟩
  | 72 => ⟨S2x1000, .f32⟩
  | 73 => ⟨S2x1000x1, .f32⟩
  | 74 => ⟨S2x1000x1, .f32⟩
  | 75 => ⟨S2x1000x1, .f32⟩
  | 76 => ⟨S2x1000x1, .f32⟩
  | 77 => ⟨S2x1000x4, .f32⟩
  | 78 => ⟨S2x1000x1, .f32⟩
  | 79 => ⟨S2x1000, .f32⟩
  | 80 => ⟨S_, .f32⟩
  | 81 => ⟨S_, .f32⟩
  | 82 => ⟨S_, .f32⟩
  | 83 => ⟨S2x1000, .f32⟩
  | 84 => ⟨S2x1000, .f32⟩
  | 85 => ⟨S_, .f32⟩
  | 86 => ⟨S2x1000, .f32⟩
  | 87 => ⟨S2x1000, .f32⟩
  | 88 => ⟨S2x1000x1, .f32⟩
  | 89 => ⟨S2x1000, .f32⟩
  | 90 => ⟨S_, .f32⟩
  | 91 => ⟨S_, .f32⟩
  | 92 => ⟨S_, .f32⟩
  | 93 => ⟨S2x1000, .f32⟩
  | 94 => ⟨S2x1000, .f32⟩
  | 95 => ⟨S_, .f32⟩
  | 96 => ⟨S2x1000, .f32⟩
  | 97 => ⟨S2x1000, .f32⟩
  | 98 => ⟨S2x1000x1, .f32⟩
  | 99 => ⟨S2x1000, .f32⟩
  | 100 => ⟨S_, .f32⟩
  | 101 => ⟨S_, .f32⟩
  | 102 => ⟨S_, .f32⟩
  | 103 => ⟨S2x1000, .f32⟩
  | 104 => ⟨S2x1000, .f32⟩
  | 105 => ⟨S_, .f32⟩
  | 106 => ⟨S2x1000, .f32⟩
  | 107 => ⟨S2x1000, .f32⟩
  | 108 => ⟨S2x1000x1, .f32⟩
  | 109 => ⟨S2x1000, .f32⟩
  | 110 => ⟨S_, .f32⟩
  | 111 => ⟨S_, .f32⟩
  | 112 => ⟨S_, .f32⟩
  | 113 => ⟨S2x1000, .f32⟩
  | 114 => ⟨S2x1000, .f32⟩
  | 115 => ⟨S_, .f32⟩
  | 116 => ⟨S2x1000, .f32⟩
  | 117 => ⟨S2x1000, .f32⟩
  | 118 => ⟨S2x1000x1, .f32⟩
  | 119 => ⟨S2x1000x1, .f32⟩
  | 120 => ⟨S2x1000x1, .f32⟩
  | 121 => ⟨S2x1000x1, .f32⟩
  | 122 => ⟨S2x1000x4, .f32⟩
  | 123 => ⟨S2x1000x1, .f32⟩
  | 124 => ⟨S2x1000, .f32⟩
  | 125 => ⟨S2x1000x1, .f32⟩
  | 126 => ⟨S2x1000, .f32⟩
  | 127 => ⟨S2x1000, .f32⟩
  | _ => ⟨S2x3x1024x1024, .f32⟩

abbrev hbmTy0_2 (i : Nat) : BufTy := match i % 128 with
  | 0 => ⟨S_, .f32⟩
  | 1 => ⟨S2x1000, .f32⟩
  | 2 => ⟨S2x1000, .i1⟩
  | 3 => ⟨S2x1000x1, .f32⟩
  | 4 => ⟨S2x1000, .f32⟩
  | 5 => ⟨S2x1000x1, .f32⟩
  | 6 => ⟨S2x1000, .f32⟩
  | 7 => ⟨S2x1000, .f32⟩
  | 8 => ⟨S_, .f32⟩
  | 9 => ⟨S2x1000, .f32⟩
  | 10 => ⟨S2x1000, .i1⟩
  | 11 => ⟨S2x1000, .i1⟩
  | 12 => ⟨S1000, .i32⟩
  | 13 => ⟨S2x1000, .i1⟩
  | 14 => ⟨S_, .i32⟩
  | 15 => ⟨S_, .i32⟩
  | 16 => ⟨S2x1000x4, .f32⟩
  | 17 => ⟨S1000, .i32⟩
  | 18 => ⟨S_, .i32⟩
  | 19 => ⟨S_, .i32⟩
  | 20 => ⟨S2x1000, .i1⟩
  | 21 => ⟨S_, .i32⟩
  | 22 => ⟨S_, .i1⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S2x1x4, .f32⟩
  | 34 => ⟨S2x4, .f32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S2x1, .i1⟩
  | 43 => ⟨S2x1, .f32⟩
  | 44 => ⟨S2, .f32⟩
  | 45 => ⟨S2x1, .f32⟩
  | 46 => ⟨S2x1000x1, .f32⟩
  | 47 => ⟨S2x1000, .f32⟩
  | 48 => ⟨S2x1000, .f32⟩
  | 49 => ⟨S2x1000, .f32⟩
  | 50 => ⟨S2x1, .f32⟩
  | 51 => ⟨S2, .f32⟩
  | 52 => ⟨S2x1, .f32⟩
  | 53 => ⟨S2x1000x1, .f32⟩
  | 54 => ⟨S2x1000, .f32⟩
  | 55 => ⟨S2x1000, .f32⟩
  | 56 => ⟨S2x1000, .f32⟩
  | 57 => ⟨S2x1, .f32⟩
  | 58 => ⟨S2, .f32⟩
  | 59 => ⟨S2x1, .f32⟩
  | 60 => ⟨S2x1000x1, .f32⟩
  | 61 => ⟨S2x1000, .f32⟩
  | 62 => ⟨S2x1000, .f32⟩
  | 63 => ⟨S2x1000, .f32⟩
  | 64 => ⟨S2x1, .f32⟩
  | 65 => ⟨S2, .f32⟩
  | 66 => ⟨S2x1, .f32⟩
  | 67 => ⟨S2x1000x1, .f32⟩
  | 68 => ⟨S2x1000, .f32⟩
  | 69 => ⟨S2x1000, .f32⟩
  | 70 => ⟨S2x1000, .f32⟩
  | 71 => ⟨S2x1000, .f32⟩
  | 72 => ⟨S_, .f32⟩
  | 73 => ⟨S2x1000, .f32⟩
  | 74 => ⟨S2x1000, .f32⟩
  | 75 => ⟨S2x1000, .f32⟩
  | 76 => ⟨S_, .f32⟩
  | 77 => ⟨S2x1000, .f32⟩
  | 78 => ⟨S2x1000, .f32⟩
  | 79 => ⟨S2x1000, .f32⟩
  | 80 => ⟨S2x1, .f32⟩
  | 81 => ⟨S2, .f32⟩
  | 82 => ⟨S2x1, .f32⟩
  | 83 => ⟨S2x1, .f32⟩
  | 84 => ⟨S2, .f32⟩
  | 85 => ⟨S2x1, .f32⟩
  | 86 => ⟨S2x1, .f32⟩
  | 87 => ⟨S2x1, .f32⟩
  | 88 => ⟨S2, .f32⟩
  | 89 => ⟨S2x1, .f32⟩
  | 90 => ⟨S2x1, .f32⟩
  | 91 => ⟨S2, .f32⟩
  | 92 => ⟨S2x1, .f32⟩
  | 93 => ⟨S2x1, .f32⟩
  | 94 => ⟨S2x1, .f32⟩
  | 95 => ⟨S2x1000x1, .f32⟩
  | 96 => ⟨S2x1000, .f32⟩
  | 97 => ⟨S2x1000x1, .f32⟩
  | 98 => ⟨S2x1000, .f32⟩
  | 99 => ⟨S2x1000, .f32⟩
  | 100 => ⟨S2x1000x1, .f32⟩
  | 101 => ⟨S2x1000, .f32⟩
  | 102 => ⟨S2x1000x1, .f32⟩
  | 103 => ⟨S2x1000, .f32⟩
  | 104 => ⟨S2x1000, .f32⟩
  | 105 => ⟨S2x1000, .f32⟩
  | 106 => ⟨S2x1000, .f32⟩
  | 107 => ⟨S2x1000, .f32⟩
  | 108 => ⟨S2x1000, .f32⟩
  | 109 => ⟨S_, .f32⟩
  | 110 => ⟨S2x1000, .f32⟩
  | 111 => ⟨S2x1000, .f32⟩
  | 112 => ⟨S2x1000, .f32⟩
  | 113 => ⟨S_, .f32⟩
  | 114 => ⟨S2x1000, .f32⟩
  | 115 => ⟨S2x1000, .i1⟩
  | 116 => ⟨S_, .i32⟩
  | 117 => ⟨S1000, .i32⟩
  | 118 => ⟨S1000, .i1⟩
  | 119 => ⟨S1x1000, .i1⟩
  | 120 => ⟨S2x1000, .i1⟩
  | 121 => ⟨S2x1000, .i1⟩
  | 122 => ⟨S2x1, .i1⟩
  | 123 => ⟨S2x1000, .i1⟩
  | 124 => ⟨S2x1000, .i1⟩
  | 125 => ⟨S2x1000, .i1⟩
  | 126 => ⟨S_, .i32⟩
  | 127 => ⟨S_, .i32⟩
  | _ => ⟨S2x3x1024x1024, .f32⟩

abbrev hbmTy0_3 (i : Nat) : BufTy := match i % 128 with
  | 0 => ⟨S2x1000, .i1⟩
  | 1 => ⟨S2x1000, .i1⟩
  | 2 => ⟨S2x1000x1, .i1⟩
  | 3 => ⟨S2x1000x1, .f32⟩
  | 4 => ⟨S2x1000x4, .f32⟩
  | 5 => ⟨S2x1000x4, .f32⟩
  | _ => ⟨S2x3x1024x1024, .f32⟩

abbrev hbmTy (i : Nat) : BufTy := match i / 128 with
  | 0 => hbmTy0_0 i
  | 1 => hbmTy0_1 i
  | 2 => hbmTy0_2 i
  | 3 => hbmTy0_3 i
  | _ => ⟨S2x3x1024x1024, .f32⟩

abbrev bufTy : (tb : Table) → Fin (tcTables nBuf tb) → BufTy
  | .hbm, ⟨i, _⟩ => hbmTy i
  | _, _ => ⟨S2x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_call1_cst : Ref sig .tc := ⟨.hbm, 72, rfl⟩
abbrev main_call1_v0 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_c_1 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_c_2 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_cst_3 : Ref sig .tc := ⟨.hbm, 115, rfl⟩
abbrev main_v99 : Ref sig .tc := ⟨.hbm, 116, rfl⟩
abbrev main_v100 : Ref sig .tc := ⟨.hbm, 117, rfl⟩
abbrev main_cst_4 : Ref sig .tc := ⟨.hbm, 118, rfl⟩
abbrev main_v101 : Ref sig .tc := ⟨.hbm, 119, rfl⟩
abbrev main_v102 : Ref sig .tc := ⟨.hbm, 120, rfl⟩
abbrev main_values : Ref sig .tc := ⟨.hbm, 121, rfl⟩
abbrev main_indices : Ref sig .tc := ⟨.hbm, 122, rfl⟩
abbrev main_c_5 : Ref sig .tc := ⟨.hbm, 123, rfl⟩
abbrev main_v103 : Ref sig .tc := ⟨.hbm, 124, rfl⟩
abbrev main_v104 : Ref sig .tc := ⟨.hbm, 125, rfl⟩
abbrev main_c_6 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_c_7 : Ref sig .tc := ⟨.hbm, 132, rfl⟩
abbrev main_v110 : Ref sig .tc := ⟨.hbm, 133, rfl⟩
abbrev main_v111 : Ref sig .tc := ⟨.hbm, 134, rfl⟩
abbrev main_c_8 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_cst_9 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_cst_10 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_cst_11 : Ref sig .tc := ⟨.hbm, 171, rfl⟩
abbrev main_v145 : Ref sig .tc := ⟨.hbm, 172, rfl⟩
abbrev main_v146 : Ref sig .tc := ⟨.hbm, 173, rfl⟩
abbrev main_cst_12 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_cst_13 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_cst_14 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_cst_15 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_cst_16 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_cst_17 : Ref sig .tc := ⟨.hbm, 208, rfl⟩
abbrev main_cst_18 : Ref sig .tc := ⟨.hbm, 209, rfl⟩
abbrev main_call2_v0 : Ref sig .tc := ⟨.hbm, 210, rfl⟩
abbrev main_call2_v1 : Ref sig .tc := ⟨.hbm, 211, rfl⟩
abbrev main_call2_v2 : Ref sig .tc := ⟨.hbm, 212, rfl⟩
abbrev main_call2_v3 : Ref sig .tc := ⟨.hbm, 213, rfl⟩
abbrev main_call2_v4 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_cst_19 : Ref sig .tc := ⟨.hbm, 218, rfl⟩
abbrev main_cst_20 : Ref sig .tc := ⟨.hbm, 219, rfl⟩
abbrev main_call3_v0 : Ref sig .tc := ⟨.hbm, 220, rfl⟩
abbrev main_call3_v1 : Ref sig .tc := ⟨.hbm, 221, rfl⟩
abbrev main_call3_v2 : Ref sig .tc := ⟨.hbm, 222, rfl⟩
abbrev main_call3_v3 : Ref sig .tc := ⟨.hbm, 223, rfl⟩
abbrev main_call3_v4 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_cst_21 : Ref sig .tc := ⟨.hbm, 228, rfl⟩
abbrev main_cst_22 : Ref sig .tc := ⟨.hbm, 229, rfl⟩
abbrev main_call4_v0 : Ref sig .tc := ⟨.hbm, 230, rfl⟩
abbrev main_call4_v1 : Ref sig .tc := ⟨.hbm, 231, rfl⟩
abbrev main_call4_v2 : Ref sig .tc := ⟨.hbm, 232, rfl⟩
abbrev main_call4_v3 : Ref sig .tc := ⟨.hbm, 233, rfl⟩
abbrev main_call4_v4 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_cst_23 : Ref sig .tc := ⟨.hbm, 238, rfl⟩
abbrev main_cst_24 : Ref sig .tc := ⟨.hbm, 239, rfl⟩
abbrev main_call5_v0 : Ref sig .tc := ⟨.hbm, 240, rfl⟩
abbrev main_call5_v1 : Ref sig .tc := ⟨.hbm, 241, rfl⟩
abbrev main_call5_v2 : Ref sig .tc := ⟨.hbm, 242, rfl⟩
abbrev main_call5_v3 : Ref sig .tc := ⟨.hbm, 243, rfl⟩
abbrev main_call5_v4 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_cst_25 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_cst_26 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_c_27 : Ref sig .tc := ⟨.hbm, 270, rfl⟩
abbrev main_c_28 : Ref sig .tc := ⟨.hbm, 271, rfl⟩
abbrev main_v208_0 : Ref sig .tc := ⟨.hbm, 272, rfl⟩
abbrev main_v208_1 : Ref sig .tc := ⟨.hbm, 273, rfl⟩
abbrev main_v208_2 : Ref sig .tc := ⟨.hbm, 274, rfl⟩
abbrev main_v208_3 : Ref sig .tc := ⟨.hbm, 275, rfl⟩
abbrev main_v208_4 : Ref sig .tc := ⟨.hbm, 276, rfl⟩
abbrev main_while0c_c_33 : Ref sig .tc := ⟨.hbm, 277, rfl⟩
abbrev main_while0c_v215 : Ref sig .tc := ⟨.hbm, 278, rfl⟩
abbrev main_while0b_c_33 : Ref sig .tc := ⟨.hbm, 279, rfl⟩
abbrev main_while0b_v215 : Ref sig .tc := ⟨.hbm, 280, rfl⟩
abbrev main_while0b_call6_c : Ref sig .tc := ⟨.hbm, 281, rfl⟩
abbrev main_while0b_call6_v0 : Ref sig .tc := ⟨.hbm, 282, rfl⟩
abbrev main_while0b_call6_v1 : Ref sig .tc := ⟨.hbm, 283, rfl⟩
abbrev main_while0b_call6_c_0 : Ref sig .tc := ⟨.hbm, 284, rfl⟩
abbrev main_while0b_call6_v2 : Ref sig .tc := ⟨.hbm, 285, rfl⟩
abbrev main_while0b_call6_v3 : Ref sig .tc := ⟨.hbm, 286, rfl⟩
abbrev main_while0b_call6_c_1 : Ref sig .tc := ⟨.hbm, 287, rfl⟩
abbrev main_while0b_call6_c_2 : Ref sig .tc := ⟨.hbm, 288, rfl⟩
abbrev main_while0b_call6_v4 : Ref sig .tc := ⟨.hbm, 289, rfl⟩
abbrev main_while0b_v216 : Ref sig .tc := ⟨.hbm, 290, rfl⟩
abbrev main_while0b_call7_c : Ref sig .tc := ⟨.hbm, 291, rfl⟩
abbrev main_while0b_call7_v0 : Ref sig .tc := ⟨.hbm, 292, rfl⟩
abbrev main_while0b_call7_v1 : Ref sig .tc := ⟨.hbm, 293, rfl⟩
abbrev main_while0b_call7_c_0 : Ref sig .tc := ⟨.hbm, 294, rfl⟩
abbrev main_while0b_call7_v2 : Ref sig .tc := ⟨.hbm, 295, rfl⟩
abbrev main_while0b_call7_v3 : Ref sig .tc := ⟨.hbm, 296, rfl⟩
abbrev main_while0b_call7_c_1 : Ref sig .tc := ⟨.hbm, 297, rfl⟩
abbrev main_while0b_v217 : Ref sig .tc := ⟨.hbm, 298, rfl⟩
abbrev main_while0b_v218 : Ref sig .tc := ⟨.hbm, 299, rfl⟩
abbrev main_while0b_v219 : Ref sig .tc := ⟨.hbm, 300, rfl⟩
abbrev main_while0b_v220 : Ref sig .tc := ⟨.hbm, 301, rfl⟩
abbrev main_while0b_v221 : Ref sig .tc := ⟨.hbm, 302, rfl⟩
abbrev main_while0b_v222 : Ref sig .tc := ⟨.hbm, 303, rfl⟩
abbrev main_while0b_v223 : Ref sig .tc := ⟨.hbm, 304, rfl⟩
abbrev main_while0b_v224 : Ref sig .tc := ⟨.hbm, 305, rfl⟩
abbrev main_while0b_v225 : Ref sig .tc := ⟨.hbm, 306, rfl⟩
abbrev main_while0b_v226 : Ref sig .tc := ⟨.hbm, 307, rfl⟩
abbrev main_while0b_v227 : Ref sig .tc := ⟨.hbm, 308, rfl⟩
abbrev main_while0b_v228 : Ref sig .tc := ⟨.hbm, 309, rfl⟩
abbrev main_while0b_v229 : Ref sig .tc := ⟨.hbm, 310, rfl⟩
abbrev main_while0b_v230 : Ref sig .tc := ⟨.hbm, 311, rfl⟩
abbrev main_while0b_v231 : Ref sig .tc := ⟨.hbm, 312, rfl⟩
abbrev main_while0b_v232 : Ref sig .tc := ⟨.hbm, 313, rfl⟩
abbrev main_while0b_v233 : Ref sig .tc := ⟨.hbm, 314, rfl⟩
abbrev main_while0b_v234 : Ref sig .tc := ⟨.hbm, 315, rfl⟩
abbrev main_while0b_v235 : Ref sig .tc := ⟨.hbm, 316, rfl⟩
abbrev main_while0b_v236 : Ref sig .tc := ⟨.hbm, 317, rfl⟩
abbrev main_while0b_v237 : Ref sig .tc := ⟨.hbm, 318, rfl⟩
abbrev main_while0b_v238 : Ref sig .tc := ⟨.hbm, 319, rfl⟩
abbrev main_while0b_v239 : Ref sig .tc := ⟨.hbm, 320, rfl⟩
abbrev main_while0b_v240 : Ref sig .tc := ⟨.hbm, 321, rfl⟩
abbrev main_while0b_v241 : Ref sig .tc := ⟨.hbm, 322, rfl⟩
abbrev main_while0b_v242 : Ref sig .tc := ⟨.hbm, 323, rfl⟩
abbrev main_while0b_v243 : Ref sig .tc := ⟨.hbm, 324, rfl⟩
abbrev main_while0b_v244 : Ref sig .tc := ⟨.hbm, 325, rfl⟩
abbrev main_while0b_v245 : Ref sig .tc := ⟨.hbm, 326, rfl⟩
abbrev main_while0b_v246 : Ref sig .tc := ⟨.hbm, 327, rfl⟩
abbrev main_while0b_cst_34 : Ref sig .tc := ⟨.hbm, 328, rfl⟩
abbrev main_while0b_v247 : Ref sig .tc := ⟨.hbm, 329, rfl⟩
abbrev main_while0b_v248 : Ref sig .tc := ⟨.hbm, 330, rfl⟩
abbrev main_while0b_v249 : Ref sig .tc := ⟨.hbm, 331, rfl⟩
abbrev main_while0b_cst_35 : Ref sig .tc := ⟨.hbm, 332, rfl⟩
abbrev main_while0b_v250 : Ref sig .tc := ⟨.hbm, 333, rfl⟩
abbrev main_while0b_v251 : Ref sig .tc := ⟨.hbm, 334, rfl⟩
abbrev main_while0b_v252 : Ref sig .tc := ⟨.hbm, 335, rfl⟩
abbrev main_while0b_v253 : Ref sig .tc := ⟨.hbm, 336, rfl⟩
abbrev main_while0b_v254 : Ref sig .tc := ⟨.hbm, 337, rfl⟩
abbrev main_while0b_v255 : Ref sig .tc := ⟨.hbm, 338, rfl⟩
abbrev main_while0b_v256 : Ref sig .tc := ⟨.hbm, 339, rfl⟩
abbrev main_while0b_v257 : Ref sig .tc := ⟨.hbm, 340, rfl⟩
abbrev main_while0b_v258 : Ref sig .tc := ⟨.hbm, 341, rfl⟩
abbrev main_while0b_v259 : Ref sig .tc := ⟨.hbm, 342, rfl⟩
abbrev main_while0b_v260 : Ref sig .tc := ⟨.hbm, 343, rfl⟩
abbrev main_while0b_v261 : Ref sig .tc := ⟨.hbm, 344, rfl⟩
abbrev main_while0b_v262 : Ref sig .tc := ⟨.hbm, 345, rfl⟩
abbrev main_while0b_v263 : Ref sig .tc := ⟨.hbm, 346, rfl⟩
abbrev main_while0b_v264 : Ref sig .tc := ⟨.hbm, 347, rfl⟩
abbrev main_while0b_v265 : Ref sig .tc := ⟨.hbm, 348, rfl⟩
abbrev main_while0b_v266 : Ref sig .tc := ⟨.hbm, 349, rfl⟩
abbrev main_while0b_v267 : Ref sig .tc := ⟨.hbm, 350, rfl⟩
abbrev main_while0b_v268 : Ref sig .tc := ⟨.hbm, 351, rfl⟩
abbrev main_while0b_v269 : Ref sig .tc := ⟨.hbm, 352, rfl⟩
abbrev main_while0b_v270 : Ref sig .tc := ⟨.hbm, 353, rfl⟩
abbrev main_while0b_v271 : Ref sig .tc := ⟨.hbm, 354, rfl⟩
abbrev main_while0b_v272 : Ref sig .tc := ⟨.hbm, 355, rfl⟩
abbrev main_while0b_v273 : Ref sig .tc := ⟨.hbm, 356, rfl⟩
abbrev main_while0b_v274 : Ref sig .tc := ⟨.hbm, 357, rfl⟩
abbrev main_while0b_v275 : Ref sig .tc := ⟨.hbm, 358, rfl⟩
abbrev main_while0b_v276 : Ref sig .tc := ⟨.hbm, 359, rfl⟩
abbrev main_while0b_v277 : Ref sig .tc := ⟨.hbm, 360, rfl⟩
abbrev main_while0b_v278 : Ref sig .tc := ⟨.hbm, 361, rfl⟩
abbrev main_while0b_v279 : Ref sig .tc := ⟨.hbm, 362, rfl⟩
abbrev main_while0b_v280 : Ref sig .tc := ⟨.hbm, 363, rfl⟩
abbrev main_while0b_v281 : Ref sig .tc := ⟨.hbm, 364, rfl⟩
abbrev main_while0b_cst_36 : Ref sig .tc := ⟨.hbm, 365, rfl⟩
abbrev main_while0b_v282 : Ref sig .tc := ⟨.hbm, 366, rfl⟩
abbrev main_while0b_v283 : Ref sig .tc := ⟨.hbm, 367, rfl⟩
abbrev main_while0b_v284 : Ref sig .tc := ⟨.hbm, 368, rfl⟩
abbrev main_while0b_cst_37 : Ref sig .tc := ⟨.hbm, 369, rfl⟩
abbrev main_while0b_v285 : Ref sig .tc := ⟨.hbm, 370, rfl⟩
abbrev main_while0b_v286 : Ref sig .tc := ⟨.hbm, 371, rfl⟩
abbrev main_while0b_v287 : Ref sig .tc := ⟨.hbm, 372, rfl⟩
abbrev main_while0b_v288 : Ref sig .tc := ⟨.hbm, 373, rfl⟩
abbrev main_while0b_v289 : Ref sig .tc := ⟨.hbm, 374, rfl⟩
abbrev main_while0b_v290 : Ref sig .tc := ⟨.hbm, 375, rfl⟩
abbrev main_while0b_v291 : Ref sig .tc := ⟨.hbm, 376, rfl⟩
abbrev main_while0b_v292 : Ref sig .tc := ⟨.hbm, 377, rfl⟩
abbrev main_while0b_v293 : Ref sig .tc := ⟨.hbm, 378, rfl⟩
abbrev main_while0b_v294 : Ref sig .tc := ⟨.hbm, 379, rfl⟩
abbrev main_while0b_call8_v0 : Ref sig .tc := ⟨.hbm, 380, rfl⟩
abbrev main_while0b_v295 : Ref sig .tc := ⟨.hbm, 381, rfl⟩
abbrev main_while0b_c_38 : Ref sig .tc := ⟨.hbm, 382, rfl⟩
abbrev main_while0b_v296 : Ref sig .tc := ⟨.hbm, 383, rfl⟩
abbrev main_v209 : Ref sig .tc := ⟨.hbm, 384, rfl⟩
abbrev main_v210 : Ref sig .tc := ⟨.hbm, 385, rfl⟩
abbrev main_v211 : Ref sig .tc := ⟨.hbm, 386, rfl⟩
abbrev main_v212 : Ref sig .tc := ⟨.hbm, 387, rfl⟩
abbrev main_v213 : Ref sig .tc := ⟨.hbm, 388, rfl⟩
abbrev main_v214 : Ref sig .tc := ⟨.hbm, 389, rfl⟩

abbrev nD : Nat := 1
abbrev τ : Topo := Topo.v7x

variable {F : FTy → Type} [FloatOps F]

abbrev main_while0_count : Scf.Loop 32 := ⟨0#32, 1000#32, 1#32⟩
-- ==== Conv.lean ====
abbrev S2x512x64x64 : Shape := ⟨4, ![2, 512, 64, 64]⟩
abbrev S512x512x3x3 : Shape := ⟨4, ![512, 512, 3, 3]⟩
abbrev S512 : Shape := ⟨1, ![512]⟩
abbrev S1x512x1x1 : Shape := ⟨4, ![1, 512, 1, 1]⟩
abbrev S1 : Shape := ⟨1, ![1]⟩
abbrev S4x512x1x1 : Shape := ⟨4, ![4, 512, 1, 1]⟩
abbrev S4 : Shape := ⟨1, ![4]⟩
abbrev S2x512x4096 : Shape := ⟨3, ![2, 512, 4096]⟩
abbrev S3x3x512x512 : Shape := ⟨4, ![3, 3, 512, 512]⟩
abbrev S9x512x512 : Shape := ⟨3, ![9, 512, 512]⟩
abbrev S1x512 : Shape := ⟨2, ![1, 512]⟩
abbrev S4x512 : Shape := ⟨2, ![4, 512]⟩
abbrev S_ : Shape := ⟨0, ![]⟩
abbrev S3x512 : Shape := ⟨2, ![3, 512]⟩
abbrev S8x512 : Shape := ⟨2, ![8, 512]⟩
abbrev S3 : Shape := ⟨1, ![3]⟩
abbrev S8 : Shape := ⟨1, ![8]⟩
abbrev S8x1 : Shape := ⟨2, ![8, 1]⟩
abbrev S512x1 : Shape := ⟨2, ![512, 1]⟩
abbrev S2x8x4096 : Shape := ⟨3, ![2, 8, 4096]⟩
abbrev S1x512x512 : Shape := ⟨3, ![1, 512, 512]⟩
abbrev S1x8x512 : Shape := ⟨3, ![1, 8, 512]⟩
abbrev S512x512 : Shape := ⟨2, ![512, 512]⟩
abbrev S512x1536 : Shape := ⟨2, ![512, 1536]⟩

abbrev nBuf : Space → Nat
  | .hbm => 21
  | .vmem => 12
  | .smem => 0
  | _ => 0

abbrev bufTy : (tb : Table) → Fin (tcTables nBuf tb) → BufTy
  | .hbm, ⟨0, _⟩ => ⟨S2x512x64x64, .f32⟩
  | .hbm, ⟨1, _⟩ => ⟨S512x512x3x3, .f32⟩
  | .hbm, ⟨2, _⟩ => ⟨S512, .f32⟩
  | .hbm, ⟨3, _⟩ => ⟨S1x512x1x1, .f32⟩
  | .hbm, ⟨4, _⟩ => ⟨S1, .f32⟩
  | .hbm, ⟨5, _⟩ => ⟨S4x512x1x1, .f32⟩
  | .hbm, ⟨6, _⟩ => ⟨S4, .f32⟩
  | .hbm, ⟨7, _⟩ => ⟨S2x512x4096, .f32⟩
  | .hbm, ⟨8, _⟩ => ⟨S3x3x512x512, .f32⟩
  | .hbm, ⟨9, _⟩ => ⟨S9x512x512, .f32⟩
  | .hbm, ⟨10, _⟩ => ⟨S1x512, .f32⟩
  | .hbm, ⟨11, _⟩ => ⟨S4x512, .f32⟩
  | .hbm, ⟨12, _⟩ => ⟨S_, .f32⟩
  | .hbm, ⟨13, _⟩ => ⟨S3x512, .f32⟩
  | .hbm, ⟨14, _⟩ => ⟨S8x512, .f32⟩
  | .hbm, ⟨15, _⟩ => ⟨S_, .f32⟩
  | .hbm, ⟨16, _⟩ => ⟨S3, .f32⟩
  | .hbm, ⟨17, _⟩ => ⟨S8, .f32⟩
  | .hbm, ⟨18, _⟩ => ⟨S8x1, .f32⟩
  | .hbm, ⟨19, _⟩ => ⟨S512x1, .f32⟩
  | .hbm, ⟨20, _⟩ => ⟨S2x8x4096, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S9x512x512, .f32⟩
  | .local _ .vmem, ⟨7, _⟩ => ⟨S8x512, .f32⟩
  | .local _ .vmem, ⟨8, _⟩ => ⟨S8x1, .f32⟩
  | .local _ .vmem, ⟨9, _⟩ => ⟨S512x1, .f32⟩
  | .local _ .vmem, ⟨10, _⟩ => ⟨S1x8x512, .f32⟩
  | .local _ .vmem, ⟨11, _⟩ => ⟨S1x8x512, .f32⟩
  | _, _ => ⟨S2x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  ![arg0.toNat, c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S9x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvReferenceIdeal.lean ====
abbrev S2x512x64x64 : Shape := ⟨4, ![2, 512, 64, 64]⟩
abbrev S512x512x3x3 : Shape := ⟨4, ![512, 512, 3, 3]⟩
abbrev S512 : Shape := ⟨1, ![512]⟩
abbrev S1x512x1x1 : Shape := ⟨4, ![1, 512, 1, 1]⟩
abbrev S1 : Shape := ⟨1, ![1]⟩
abbrev S4x512x1x1 : Shape := ⟨4, ![4, 512, 1, 1]⟩
abbrev S4 : Shape := ⟨1, ![4]⟩
abbrev S_ : Shape := ⟨0, ![]⟩
abbrev S2x512x66x66 : Shape := ⟨4, ![2, 512, 66, 66]⟩
abbrev S512x512x1x1 : Shape := ⟨4, ![512, 512, 1, 1]⟩
abbrev S512x512 : Shape := ⟨2, ![512, 512]⟩
abbrev S2x64x64x512 : Shape := ⟨4, ![2, 64, 64, 512]⟩
abbrev S1x512 : Shape := ⟨2, ![1, 512]⟩
abbrev S2x64x64x1 : Shape := ⟨4, ![2, 64, 64, 1]⟩
abbrev S2x1x64x64 : Shape := ⟨4, ![2, 1, 64, 64]⟩
abbrev S1x1x1x1 : Shape := ⟨4, ![1, 1, 1, 1]⟩
abbrev S4x512 : Shape := ⟨2, ![4, 512]⟩
abbrev S2x64x64x4 : Shape := ⟨4, ![2, 64, 64, 4]⟩
abbrev S2x4x64x64 : Shape := ⟨4, ![2, 4, 64, 64]⟩
abbrev S1x4x1x1 : Shape := ⟨4, ![1, 4, 1, 1]⟩
abbrev S2x3x64x64 : Shape := ⟨4, ![2, 3, 64, 64]⟩
abbrev S2x8x64x64 : Shape := ⟨4, ![2, 8, 64, 64]⟩
abbrev S2x8x4096 : Shape := ⟨3, ![2, 8, 4096]⟩

abbrev nBuf : Space → Nat
  | .hbm => 88
  | .vmem => 0
  | .smem => 0
  | _ => 0

abbrev bufTy : (tb : Table) → Fin (tcTables nBuf tb) → BufTy
  | .hbm, ⟨0, _⟩ => ⟨S2x512x64x64, .f32⟩
  | .hbm, ⟨1, _⟩ => ⟨S512x512x3x3, .f32⟩
  | .hbm, ⟨2, _⟩ => ⟨S512, .f32⟩
  | .hbm, ⟨3, _⟩ => ⟨S1x512x1x1, .f32⟩
  | .hbm, ⟨4, _⟩ => ⟨S1, .f32⟩
  | .hbm, ⟨5, _⟩ => ⟨S4x512x1x1, .f32⟩
  | .hbm, ⟨6, _⟩ => ⟨S4, .f32⟩
  | .hbm, ⟨7, _⟩ => ⟨S_, .i32⟩
  | .hbm, ⟨8, _⟩ => ⟨S_, .f32⟩
  | .hbm, ⟨9, _⟩ => ⟨S2x512x66x66, .f32⟩
  | .hbm, ⟨10, _⟩ => ⟨S_, .f32⟩
  | .hbm, ⟨11, _⟩ => ⟨S2x512x64x64, .f32⟩
  | .hbm, ⟨12, _⟩ => ⟨S512x512x1x1, .f32⟩
  | .hbm, ⟨13, _⟩ => ⟨S512x512, .f32⟩
  | .hbm, ⟨14, _⟩ => ⟨S2x512x64x64, .f32⟩
  | .hbm, ⟨15, _⟩ => ⟨S2x64x64x512, .f32⟩
  | .hbm, ⟨16, _⟩ => ⟨S2x512x64x64, .f32⟩
  | .hbm, ⟨17, _⟩ => ⟨S2x512x64x64, .f32⟩
  | .hbm, ⟨18, _⟩ => ⟨S512x512x1x1, .f32⟩
  | .hbm, ⟨19, _⟩ => ⟨S512x512, .f32⟩
  | .hbm, ⟨20, _⟩ => ⟨S2x512x64x64, .f32⟩
  | .hbm, ⟨21, _⟩ => ⟨S2x64x64x512, .f32⟩
  | .hbm, ⟨22, _⟩ => ⟨S2x512x64x64, .f32⟩
  | .hbm, ⟨23, _⟩ => ⟨S2x512x64x64, .f32⟩
  | .hbm, ⟨24, _⟩ => ⟨S512x512x1x1, .f32⟩
  | .hbm, ⟨25, _⟩ => ⟨S512x512, .f32⟩
  | .hbm, ⟨26, _⟩ => ⟨S2x512x64x64, .f32⟩
  | .hbm, ⟨27, _⟩ => ⟨S2x64x64x512, .f32⟩
  | .hbm, ⟨28, _⟩ => ⟨S2x512x64x64, .f32⟩
  | .hbm, ⟨29, _⟩ => ⟨S2x512x64x64, .f32⟩
  | .hbm, ⟨30, _⟩ => ⟨S512x512x1x1, .f32⟩
  | .hbm, ⟨31, _⟩ => ⟨S512x512, .f32⟩
  | .hbm, ⟨32, _⟩ => ⟨S2x512x64x64, .f32⟩
  | .hbm, ⟨33, _⟩ => ⟨S2x64x64x512, .f32⟩
  | .hbm, ⟨34, _⟩ => ⟨S2x512x64x64, .f32⟩
  | .hbm, ⟨35, _⟩ => ⟨S2x512x64x64, .f32⟩
  | .hbm, ⟨36, _⟩ => ⟨S512x512x1x1, .f32⟩
  | .hbm, ⟨37, _⟩ => ⟨S512x512, .f32⟩
  | .hbm, ⟨38, _⟩ => ⟨S2x512x64x64, .f32⟩
  | .hbm, ⟨39, _⟩ => ⟨S2x64x64x512, .f32⟩
  | .hbm, ⟨40, _⟩ => ⟨S2x512x64x64, .f32⟩
  | .hbm, ⟨41, _⟩ => ⟨S2x512x64x64, .f32⟩
  | .hbm, ⟨42, _⟩ => ⟨S512x512x1x1, .f32⟩
  | .hbm, ⟨43, _⟩ => ⟨S512x512, .f32⟩
  | .hbm, ⟨44, _⟩ => ⟨S2x512x64x64, .f32⟩
  | .hbm, ⟨45, _⟩ => ⟨S2x64x64x512, .f32⟩
  | .hbm, ⟨46, _⟩ => ⟨S2x512x64x64, .f32⟩
  | .hbm, ⟨47, _⟩ => ⟨S2x512x64x64, .f32⟩
  | .hbm, ⟨48, _⟩ => ⟨S512x512x1x1, .f32⟩
  | .hbm, ⟨49, _⟩ => ⟨S512x512, .f32⟩
  | .hbm, ⟨50, _⟩ => ⟨S2x512x64x64, .f32⟩
  | .hbm, ⟨51, _⟩ => ⟨S2x64x64x512, .f32⟩
  | .hbm, ⟨52, _⟩ => ⟨S2x512x64x64, .f32⟩
  | .hbm, ⟨53, _⟩ => ⟨S2x512x64x64, .f32⟩
  | .hbm, ⟨54, _⟩ => ⟨S512x512x1x1, .f32⟩
  | .hbm, ⟨55, _⟩ => ⟨S512x512, .f32⟩
  | .hbm, ⟨56, _⟩ => ⟨S2x512x64x64, .f32⟩
  | .hbm, ⟨57, _⟩ => ⟨S2x64x64x512, .f32⟩
  | .hbm, ⟨58, _⟩ => ⟨S2x512x64x64, .f32⟩
  | .hbm, ⟨59, _⟩ => ⟨S2x512x64x64, .f32⟩
  | .hbm, ⟨60, _⟩ => ⟨S512x512x1x1, .f32⟩
  | .hbm, ⟨61, _⟩ => ⟨S512x512, .f32⟩
  | .hbm, ⟨62, _⟩ => ⟨S2x512x64x64, .f32⟩
  | .hbm, ⟨63, _⟩ => ⟨S2x64x64x512, .f32⟩
  | .hbm, ⟨64, _⟩ => ⟨S2x512x64x64, .f32⟩
  | .hbm, ⟨65, _⟩ => ⟨S2x512x64x64, .f32⟩
  | .hbm, ⟨66, _⟩ => ⟨S1x512x1x1, .f32⟩
  | .hbm, ⟨67, _⟩ => ⟨S2x512x64x64, .f32⟩
  | .hbm, ⟨68, _⟩ => ⟨S2x512x64x64, .f32⟩
  | .hbm, ⟨69, _⟩ => ⟨S_, .f32⟩
  | .hbm, ⟨70, _⟩ => ⟨S2x512x64x64, .f32⟩
  | .hbm, ⟨71, _⟩ => ⟨S2x512x64x64, .f32⟩
  | .hbm, ⟨72, _⟩ => ⟨S1x512, .f32⟩
  | .hbm, ⟨73, _⟩ => ⟨S2x64x64x1, .f32⟩
  | .hbm, ⟨74, _⟩ => ⟨S2x1x64x64, .f32⟩
  | .hbm, ⟨75, _⟩ => ⟨S1x1x1x1, .f32⟩
  | .hbm, ⟨76, _⟩ => ⟨S2x1x64x64, .f32⟩
  | .hbm, ⟨77, _⟩ => ⟨S2x1x64x64, .f32⟩
  | .hbm, ⟨78, _⟩ => ⟨S4x512, .f32⟩
  | .hbm, ⟨79, _⟩ => ⟨S2x64x64x4, .f32⟩
  | .hbm, ⟨80, _⟩ => ⟨S2x4x64x64, .f32⟩
  | .hbm, ⟨81, _⟩ => ⟨S1x4x1x1, .f32⟩
  | .hbm, ⟨82, _⟩ => ⟨S2x4x64x64, .f32⟩
  | .hbm, ⟨83, _⟩ => ⟨S2x4x64x64, .f32⟩
  | .hbm, ⟨84, _⟩ => ⟨S_, .f32⟩
  | .hbm, ⟨85, _⟩ => ⟨S2x3x64x64, .f32⟩
  | .hbm, ⟨86, _⟩ => ⟨S2x8x64x64, .f32⟩
  | .hbm, ⟨87, _⟩ => ⟨S2x8x4096, .f32⟩
  | _, _ => ⟨S2x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_call1_cst : Ref sig .tc := ⟨.hbm, 69, rfl⟩
abbrev main_call1_v0 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_0 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩

abbrev nD : Nat := 1
abbrev τ : Topo := Topo.v7x

variable {F : FTy → Type} [FloatOps F]
-- ==== Proof.KernelIdealSort.lean ====
module

public import proofs.«01_k».proof.Proof.Gen.KernelIdeal.Skeleton

@[expose] public section

set_option maxRecDepth 65536

noncomputable section

/-! # The sorting network of the second call, part by part

The second call's body computes, between its loads and its two loops, nothing but vectors: it decodes the boxes and
carries them through a sorting network. The program is split into parts that pass their live values on. `restN` is the
program from part `N`, and `chainN` says that it hands four arrays to what follows, the second equal to the fourth as
soon as the live values say that the two y coordinates have been treated alike so far. -/

namespace Cert.KernelIdeal.Sort

open Cert.KernelIdeal Cert.KernelIdeal.Gen Idealize.ShloMosaic Idealize.SL.Sem

variable {F : FTy → Type} [FloatOps F]

/-- What follows the sort: a program that takes the four sorted arrays. -/
abbrev Next (F : FTy → Type) [FloatOps F] : Type 1 := FVec F S2x8x128 .f32 → FVec F S2x8x128 .f32 → FVec F S2x8x128 .f32 → FVec F S2x8x128 .f32 →
  Prog (TpuEff nD τ sig (Elt F) Λ₀ .tc) PUnit

/-- A program with a hole for what follows hands it four arrays, the second equal to the fourth if `inv`. -/
def Good (inv : Prop) (p : Next F → Prog (TpuEff nD τ sig (Elt F) Λ₀ .tc) PUnit) : Prop :=
  ∃ X1 Y1 X2 Y2, (∀ K, p K = K X1 Y1 X2 Y2) ∧ (inv → Y1 = Y2)

/-- A step in front of such a program. -/
theorem Good.step {inv inv' : Prop} {p p' : Next F → Prog (TpuEff nD τ sig (Elt F) Λ₀ .tc) PUnit} (h : Good inv' p')
    (hp : ∀ K, p K = p' K) (hi : inv → inv') : Good inv p := by
  obtain ⟨X1, Y1, X2, Y2, hK, hY⟩ := h
  exact ⟨X1, Y1, X2, Y2, fun K => (hp K).trans (hK K), fun h => hY (hi h)⟩

variable (arg0 : Memref sig .tc .vmem S2x32x128 .f32) (harg0 : arg0.IsWhole) (arg1 : Memref sig .tc .vmem S2x4x32x128 .f32) (harg1 : arg1.IsWhole)
  (arg2 : Memref sig .tc .vmem S2x1000x4 .f32) (harg2 : arg2.IsWhole) (arg3 : Memref sig .tc .vmem S2x128x8x8x128 .f32) (harg3 : arg3.IsWhole)

/-- The program from part 73. -/
def rest73 (K : Next F) (v2881 : FVec F S64x128 .f32) (v2885 : FVec F S64x128 .f32) (v2889 : FVec F S64x128 .f32) (v2893 : FVec F S64x128 .f32) (v2897 : FVec F S64x128 .f32) (v2901 : IVec S64x128 1) (v2903 : IVec S64x128 32) (v2904 : IVec S64x128 32) : Prog (TpuEff nD τ sig (Elt F) Λ₀ .tc) PUnit := do
  let ⟨v2937, v2942, v2947, v2952⟩ : Σ' (v2937 : FVec F S2x8x128 .f32) (v2942 : FVec F S2x8x128 .f32) (v2947 : FVec F S2x8x128 .f32), FVec F S2x8x128 .f32 ← k1_part73 arg0 harg0 arg1 harg1 arg2 harg2 arg3 harg3 v2881 v2885 v2889 v2893 v2897 v2901 v2903 v2904
  K v2937 v2942 v2947 v2952

/-- It hands four arrays on. -/
theorem chain73 (v2881 : FVec F S64x128 .f32) (v2885 : FVec F S64x128 .f32) (v2889 : FVec F S64x128 .f32) (v2893 : FVec F S64x128 .f32) (v2897 : FVec F S64x128 .f32) (v2901 : IVec S64x128 1) (v2903 : IVec S64x128 32) (v2904 : IVec S64x128 32) :
    Good (F := F) (v2889 = v2897 ∧ v2904 = broadcast S64x128 0#32) (fun K => rest73 arg0 harg0 arg1 harg1 arg2 harg2 arg3 harg3 K v2881 v2885 v2889 v2893 v2897 v2901 v2903 v2904) :=
  Good.step (⟨_, _, _, _, fun _ => rfl, id⟩ : Good (F := F) (k1_pay673 v2881 v2889 v2901 v2903 v2904 = k1_pay675 v2881 v2897 v2901 v2903 v2904) (fun K => K (k1_pay672 v2881 v2885 v2901 v2903 v2904) (k1_pay673 v2881 v2889 v2901 v2903 v2904) (k1_pay674 v2881 v2893 v2901 v2903 v2904) (k1_pay675 v2881 v2897 v2901 v2903 v2904)))
    (fun K => by unfold rest73; rw [k1_part73_eq_skeleton]; rfl)
    (by rintro ⟨rfl, rfl⟩; exact rfl)

/-- The program from part 72. -/
def rest72 (K : Next F) (v35 : IVec S64x128 32) (v2845 : FVec F S64x128 .f32) (v2849 : FVec F S64x128 .f32) (v2853 : FVec F S64x128 .f32) (v2857 : FVec F S64x128 .f32) (v2861 : FVec F S64x128 .f32) (v2863 : IVec S64x128 32) : Prog (TpuEff nD τ sig (Elt F) Λ₀ .tc) PUnit := do
  let ⟨v2881, v2885, v2889, v2893, v2897, v2901, v2903, v2904⟩ : Σ' (v2881 : FVec F S64x128 .f32) (v2885 : FVec F S64x128 .f32) (v2889 : FVec F S64x128 .f32) (v2893 : FVec F S64x128 .f32) (v2897 : FVec F S64x128 .f32) (v2901 : IVec S64x128 1) (v2903 : IVec S64x128 32), IVec S64x128 32 ← k1_part72 arg0 harg0 arg1 harg1 arg2 harg2 arg3 harg3 v35 v2845 v2849 v2853 v2857 v2861 v2863
  rest73 arg0 harg0 arg1 harg1 arg2 harg2 arg3 harg3 K v2881 v2885 v2889 v2893 v2897 v2901 v2903 v2904

/-- It hands four arrays on. -/
theorem chain72 (v35 : IVec S64x128 32) (v2845 : FVec F S64x128 .f32) (v2849 : FVec F S64x128 .f32) (v2853 : FVec F S64x128 .f32) (v2857 : FVec F S64x128 .f32) (v2861 : FVec F S64x128 .f32) (v2863 : IVec S64x128 32) :
    Good (F := F) (v2853 = v2861) (fun K => rest72 arg0 harg0 arg1 harg1 arg2 harg2 arg3 harg3 K v35 v2845 v2849 v2853 v2857 v2861 v2863) :=
  Good.step (chain73 arg0 harg0 arg1 harg1 arg2 harg2 arg3 harg3 (k1_pay663 v35 v2845 v2863) (k1_pay664 v35 v2845 v2849 v2863) (k1_pay665 v35 v2845 v2853 v2863) (k1_pay666 v35 v2845 v2857 v2863) (k1_pay667 v35 v2845 v2861 v2863) (k1_pay668 v35) (k1_pay669 v35) k1_pay670)
    (fun K => by unfold rest72; rw [k1_part72_eq_skeleton]; rfl)
    (by rintro rfl; exact ⟨rfl, rfl⟩)

/-- The program from part 71. -/
def rest71 (K : Next F) (v35 : IVec S64x128 32) (v2789 : FVec F S64x128 .f32) (v2793 : IVec S64x128 1) (v2808 : IVec S64x128 1) (v2809 : FVec F S64x128 .f32) (v2813 : FVec F S64x128 .f32) (v2817 : FVec F S64x128 .f32) (v2821 : FVec F S64x128 .f32) (c120_i32_1227 : BitVec 32) : Prog (TpuEff nD τ sig (Elt F) Λ₀ .tc) PUnit := do
  let ⟨v2845, v2849, v2853, v2857, v2861, v2863⟩ : Σ' (v2845 : FVec F S64x128 .f32) (v2849 : FVec F S64x128 .f32) (v2853 : FVec F S64x128 .f32) (v2857 : FVec F S64x128 .f32) (v2861 : FVec F S64x128 .f32), IVec S64x128 32 ← k1_part71 arg0 harg0 arg1 harg1 arg2 harg2 arg3 harg3 v35 v2789 v2793 v2808 v2809 v2813 v2817 v2821 c120_i32_1227
  rest72 arg0 harg0 arg1 harg1 arg2 harg2 arg3 harg3 K v35 v2845 v2849 v2853 v2857 v2861 v2863

/-- It hands four arrays on. -/
theorem chain71 (v35 : IVec S64x128 32) (v2789 : FVec F S64x128 .f32) (v2793 : IVec S64x128 1) (v2808 : IVec S64x128 1) (v2809 : FVec F S64x128 .f32) (v2813 : FVec F S64x128 .f32) (v2817 : FVec F S64x128 .f32) (v2821 : FVec F S64x128 .f32) (c120_i32_1227 : BitVec 32) :
    Good (F := F) (v2817 = select v2808 (select v2793 (dynamicRotate 1 120#32 none v2789 rotates_S64x128_d1) (dynamicRotate 1 8#32 none v2789 rotates_S64x128_d1)) v2789 ∧ c120_i32_1227 = 120#32) (fun K => rest71 arg0 harg0 arg1 harg1 arg2 harg2 arg3 harg3 K v35 v2789 v2793 v2808 v2809 v2813 v2817 v2821 c120_i32_1227) :=
  Good.step (chain72 arg0 harg0 arg1 harg1 arg2 harg2 arg3 harg3 v35 (k1_pay654 v35 v2809) (k1_pay655 v35 v2809 v2813) (k1_pay656 v35 v2809 v2817) (k1_pay657 v35 v2809 v2821) (k1_pay658 v35 v2789 v2793 v2808 v2809 c120_i32_1227) (k1_pay659 v35))
    (fun K => by unfold rest71; rw [k1_part71_eq_skeleton]; rfl)
    (by rintro ⟨rfl, rfl⟩; exact rfl)

/-- The program from part 70. -/
def rest70 (K : Next F) (v35 : IVec S64x128 32) (v2745 : FVec F S64x128 .f32) (v2749 : FVec F S64x128 .f32) (v2753 : FVec F S64x128 .f32) (v2757 : IVec S64x128 1) (v2772 : IVec S64x128 1) (v2773 : FVec F S64x128 .f32) (v2777 : FVec F S64x128 .f32) (v2780 : FVec F S64x128 .f32) : Prog (TpuEff nD τ sig (Elt F) Λ₀ .tc) PUnit := do
  let ⟨v2789, v2793, v2808, v2809, v2813, v2817, v2821, c120_i32_1227⟩ : Σ' (v2789 : FVec F S64x128 .f32) (v2793 : IVec S64x128 1) (v2808 : IVec S64x128 1) (v2809 : FVec F S64x128 .f32) (v2813 : FVec F S64x128 .f32) (v2817 : FVec F S64x128 .f32) (v2821 : FVec F S64x128 .f32), BitVec 32 ← k1_part70 arg0 harg0 arg1 harg1 arg2 harg2 arg3 harg3 v35 v2745 v2749 v2753 v2757 v2772 v2773 v2777 v2780
  rest71 arg0 harg0 arg1 harg1 arg2 harg2 arg3 harg3 K v35 v2789 v2793 v2808 v2809 v2813 v2817 v2821 c120_i32_1227

/-- It hands four arrays on. -/
theorem chain70 (v35 : IVec S64x128 32) (v2745 : FVec F S64x128 .f32) (v2749 : FVec F S64x128 .f32) (v2753 : FVec F S64x128 .f32) (v2757 : IVec S64x128 1) (v2772 : IVec S64x128 1) (v2773 : FVec F S64x128 .f32) (v2777 : FVec F S64x128 .f32) (v2780 : FVec F S64x128 .f32) :
    Good (F := F) (v2745 = v2753 ∧ v2780 = select v2757 (dynamicRotate 1 112#32 none v2753 rotates_S64x128_d1) (dynamicRotate 1 16#32 none v2753 rotates_S64x128_d1)) (fun K => rest70 arg0 harg0 arg1 harg1 arg2 harg2 arg3 harg3 K v35 v2745 v2749 v2753 v2757 v2772 v2773 v2777 v2780) :=
  Good.step (chain71 arg0 harg0 arg1 harg1 arg2 harg2 arg3 harg3 v35 (k1_pay643 v2753 v2757 v2772) (k1_pay644 v35) (k1_pay646 v35 v2773) (k1_pay647 v35 v2773) (k1_pay648 v35 v2773 v2777) (k1_pay649 v35 v2745 v2772 v2773 v2780) (k1_pay650 v35 v2749 v2757 v2772 v2773) 120#32)
    (fun K => by unfold rest70; rw [k1_part70_eq_skeleton]; rfl)
    (by rintro ⟨rfl, rfl⟩; exact ⟨rfl, rfl⟩)

/-- The program from part 69. -/
def rest69 (K : Next F) (v35 : IVec S64x128 32) (v2705 : FVec F S64x128 .f32) (v2709 : FVec F S64x128 .f32) (v2713 : FVec F S64x128 .f32) (v2717 : FVec F S64x128 .f32) (v2721 : IVec S64x128 1) (v2736 : IVec S64x128 1) (v2737 : FVec F S64x128 .f32) (v2738 : FVec F S64x128 .f32) (c32_i32_1190 : BitVec 32) : Prog (TpuEff nD τ sig (Elt F) Λ₀ .tc) PUnit := do
  let ⟨v2745, v2749, v2753, v2757, v2772, v2773, v2777, v2780⟩ : Σ' (v2745 : FVec F S64x128 .f32) (v2749 : FVec F S64x128 .f32) (v2753 : FVec F S64x128 .f32) (v2757 : IVec S64x128 1) (v2772 : IVec S64x128 1) (v2773 : FVec F S64x128 .f32) (v2777 : FVec F S64x128 .f32), FVec F S64x128 .f32 ← k1_part69 arg0 harg0 arg1 harg1 arg2 harg2 arg3 harg3 v35 v2705 v2709 v2713 v2717 v2721 v2736 v2737 v2738 c32_i32_1190
  rest70 arg0 harg0 arg1 harg1 arg2 harg2 arg3 harg3 K v35 v2745 v2749 v2753 v2757 v2772 v2773 v2777 v2780

/-- It hands four arrays on. -/
theorem chain69 (v35 : IVec S64x128 32) (v2705 : FVec F S64x128 .f32) (v2709 : FVec F S64x128 .f32) (v2713 : FVec F S64x128 .f32) (v2717 : FVec F S64x128 .f32) (v2721 : IVec S64x128 1) (v2736 : IVec S64x128 1) (v2737 : FVec F S64x128 .f32) (v2738 : FVec F S64x128 .f32) (c32_i32_1190 : BitVec 32) :
    Good (F := F) (v2709 = v2717 ∧ c32_i32_1190 = 32#32) (fun K => rest69 arg0 harg0 arg1 harg1 arg2 harg2 arg3 harg3 K v35 v2705 v2709 v2713 v2717 v2721 v2736 v2737 v2738 c32_i32_1190) :=
  Good.step (chain70 arg0 harg0 arg1 harg1 arg2 harg2 arg3 harg3 v35 (k1_pay634 v2709 v2721 v2736) (k1_pay635 v2713 v2721 v2736) (k1_pay636 v2717 v2721 v2736) (k1_pay637 v35) (k1_pay639 v35 v2737) (k1_pay640 v35 v2737) (k1_pay641 v35 v2705 v2721 v2736 v2737 v2738 c32_i32_1190) (k1_pay642 v35 v2709 v2721 v2736))
    (fun K => by unfold rest69; rw [k1_part69_eq_skeleton]; rfl)
    (by rintro ⟨rfl, rfl⟩; exact ⟨rfl, rfl⟩)

/-- The program from part 68. -/
def rest68 (K : Next F) (v35 : IVec S64x128 32) (v2665 : FVec F S64x128 .f32) (v2669 : FVec F S64x128 .f32) (v2673 : FVec F S64x128 .f32) (v2677 : FVec F S64x128 .f32) (v2681 : FVec F S64x128 .f32) (v2685 : IVec S64x128 1) (v2692 : FVec F S64x128 .f32) (v2694 : IVec S64x128 1) (v2696 : IVec S64x128 1) (cst_1172 : IVec S64x128 1) : Prog (TpuEff nD τ sig (Elt F) Λ₀ .tc) PUnit := do
  let ⟨v2705, v2709, v2713, v2717, v2721, v2736, v2737, v2738, c32_i32_1190⟩ : Σ' (v2705 : FVec F S64x128 .f32) (v2709 : FVec F S64x128 .f32) (v2713 : FVec F S64x128 .f32) (v2717 : FVec F S64x128 .f32) (v2721 : IVec S64x128 1) (v2736 : IVec S64x128 1) (v2737 : FVec F S64x128 .f32) (v2738 : FVec F S64x128 .f32), BitVec 32 ← k1_part68 arg0 harg0 arg1 harg1 arg2 harg2 arg3 harg3 v35 v2665 v2669 v2673 v2677 v2681 v2685 v2692 v2694 v2696 cst_1172
  rest69 arg0 harg0 arg1 harg1 arg2 harg2 arg3 harg3 K v35 v2705 v2709 v2713 v2717 v2721 v2736 v2737 v2738 c32_i32_1190

/-- It hands four arrays on. -/
theorem chain68 (v35 : IVec S64x128 32) (v2665 : FVec F S64x128 .f32) (v2669 : FVec F S64x128 .f32) (v2673 : FVec F S64x128 .f32) (v2677 : FVec F S64x128 .f32) (v2681 : FVec F S64x128 .f32) (v2685 : IVec S64x128 1) (v2692 : FVec F S64x128 .f32) (v2694 : IVec S64x128 1) (v2696 : IVec S64x128 1) (cst_1172 : IVec S64x128 1) :
    Good (F := F) (v2673 = v2681 ∧ cst_1172 = constantI S64x128 1 1#1) (fun K => rest68 arg0 harg0 arg1 harg1 arg2 harg2 arg3 harg3 K v35 v2665 v2669 v2673 v2677 v2681 v2685 v2692 v2694 v2696 cst_1172) :=
  Good.step (chain69 arg0 harg0 arg1 harg1 arg2 harg2 arg3 harg3 v35 (k1_pay625 v2665 v2669 v2685 v2692 v2694 v2696 cst_1172) (k1_pay626 v2665 v2673 v2685 v2692 v2694 v2696 cst_1172) (k1_pay627 v2665 v2677 v2685 v2692 v2694 v2696 cst_1172) (k1_pay628 v2665 v2681 v2685 v2692 v2694 v2696 cst_1172) (k1_pay629 v35) (k1_pay631 v35 v2665 v2692 v2694 v2696 cst_1172) (k1_pay632 v35 v2665 v2692 v2694 v2696 cst_1172) (k1_pay633 v2665 v2669 v2685 v2692 v2694 v2696 cst_1172) 32#32)
    (fun K => by unfold rest68; rw [k1_part68_eq_skeleton]; rfl)
    (by rintro ⟨rfl, rfl⟩; exact ⟨rfl, rfl⟩)

/-- The program from part 67. -/
def rest67 (K : Next F) (v35 : IVec S64x128 32) (v2629 : FVec F S64x128 .f32) (v2633 : FVec F S64x128 .f32) (v2637 : FVec F S64x128 .f32) (v2641 : FVec F S64x128 .f32) (v2645 : FVec F S64x128 .f32) (v2649 : IVec S64x128 1) (v2653 : IVec S64x128 1) (v2654 : FVec F S64x128 .f32) (c1_i32_1154 : BitVec 32) : Prog (TpuEff nD τ sig (Elt F) Λ₀ .tc) PUnit := do
  let ⟨v2665, v2669, v2673, v2677, v2681, v2685, v2692, v2694, v2696, cst_1172⟩ : Σ' (v2665 : FVec F S64x128 .f32) (v2669 : FVec F S64x128 .f32) (v2673 : FVec F S64x128 .f32) (v2677 : FVec F S64x128 .f32) (v2681 : FVec F S64x128 .f32) (v2685 : IVec S64x128 1) (v2692 : FVec F S64x128 .f32) (v2694 : IVec S64x128 1) (v2696 : IVec S64x128 1), IVec S64x128 1 ← k1_part67 arg0 harg0 arg1 harg1 arg2 harg2 arg3 harg3 v35 v2629 v2633 v2637 v2641 v2645 v2649 v2653 v2654 c1_i32_1154
  rest68 arg0 harg0 arg1 harg1 arg2 harg2 arg3 harg3 K v35 v2665 v2669 v2673 v2677 v2681 v2685 v2692 v2694 v2696 cst_1172

/-- It hands four arrays on. -/
theorem chain67 (v35 : IVec S64x128 32) (v2629 : FVec F S64x128 .f32) (v2633 : FVec F S64x128 .f32) (v2637 : FVec F S64x128 .f32) (v2641 : FVec F S64x128 .f32) (v2645 : FVec F S64x128 .f32) (v2649 : IVec S64x128 1) (v2653 : IVec S64x128 1) (v2654 : FVec F S64x128 .f32) (c1_i32_1154 : BitVec 32) :
    Good (F := F) (v2637 = v2645 ∧ c1_i32_1154 = 1#32) (fun K => rest67 arg0 harg0 arg1 harg1 arg2 harg2 arg3 harg3 K v35 v2629 v2633 v2637 v2641 v2645 v2649 v2653 v2654 c1_i32_1154) :=
  Good.step (chain68 arg0 harg0 arg1 harg1 arg2 harg2 arg3 harg3 v35 (k1_pay614 v2629 v2649 v2653 v2654 c1_i32_1154) (k1_pay615 v2629 v2633 v2649 v2653 v2654 c1_i32_1154) (k1_pay616 v2629 v2637 v2649 v2653 v2654 c1_i32_1154) (k1_pay617 v2629 v2641 v2649 v2653 v2654 c1_i32_1154) (k1_pay618 v2629 v2645 v2649 v2653 v2654 c1_i32_1154) (k1_pay619 v35) (k1_pay620 v35 v2629 v2649 v2653 v2654 c1_i32_1154) (k1_pay621 v35) (k1_pay622 v35 v2629 v2649 v2653 v2654 c1_i32_1154) (constantI S64x128 1 1#1))
    (fun K => by unfold rest67; rw [k1_part67_eq_skeleton]; rfl)
    (by rintro ⟨rfl, rfl⟩; exact ⟨rfl, rfl⟩)

/-- The program from part 66. -/
def rest66 (K : Next F) (v35 : IVec S64x128 32) (v2593 : FVec F S64x128 .f32) (v2597 : FVec F S64x128 .f32) (v2601 : FVec F S64x128 .f32) (v2605 : FVec F S64x128 .f32) (v2609 : FVec F S64x128 .f32) (v2613 : IVec S64x128 1) (c4096_i32_1135 : BitVec 32) : Prog (TpuEff nD τ sig (Elt F) Λ₀ .tc) PUnit := do
  let ⟨v2629, v2633, v2637, v2641, v2645, v2649, v2653, v2654, c1_i32_1154⟩ : Σ' (v2629 : FVec F S64x128 .f32) (v2633 : FVec F S64x128 .f32) (v2637 : FVec F S64x128 .f32) (v2641 : FVec F S64x128 .f32) (v2645 : FVec F S64x128 .f32) (v2649 : IVec S64x128 1) (v2653 : IVec S64x128 1) (v2654 : FVec F S64x128 .f32), BitVec 32 ← k1_part66 arg0 harg0 arg1 harg1 arg2 harg2 arg3 harg3 v35 v2593 v2597 v2601 v2605 v2609 v2613 c4096_i32_1135
  rest67 arg0 harg0 arg1 harg1 arg2 harg2 arg3 harg3 K v35 v2629 v2633 v2637 v2641 v2645 v2649 v2653 v2654 c1_i32_1154

/-- It hands four arrays on. -/
theorem chain66 (v35 : IVec S64x128 32) (v2593 : FVec F S64x128 .f32) (v2597 : FVec F S64x128 .f32) (v2601 : FVec F S64x128 .f32) (v2605 : FVec F S64x128 .f32) (v2609 : FVec F S64x128 .f32) (v2613 : IVec S64x128 1) (c4096_i32_1135 : BitVec 32) :
    Good (F := F) (v2601 = v2609 ∧ c4096_i32_1135 = 4096#32) (fun K => rest66 arg0 harg0 arg1 harg1 arg2 harg2 arg3 harg3 K v35 v2593 v2597 v2601 v2605 v2609 v2613 c4096_i32_1135) :=
  Good.step (chain67 arg0 harg0 arg1 harg1 arg2 harg2 arg3 harg3 v35 (k1_pay604 v35 v2593 v2613 c4096_i32_1135) (k1_pay605 v35 v2593 v2597 v2613 c4096_i32_1135) (k1_pay606 v35 v2593 v2601 v2613 c4096_i32_1135) (k1_pay607 v35 v2593 v2605 v2613 c4096_i32_1135) (k1_pay608 v35 v2593 v2609 v2613 c4096_i32_1135) (k1_pay609 v35) (k1_pay610 v35) (k1_pay611 v35 v2593 v2613 c4096_i32_1135) 1#32)
    (fun K => by unfold rest66; rw [k1_part66_eq_skeleton]; rfl)
    (by rintro ⟨rfl, rfl⟩; exact ⟨rfl, rfl⟩)

/-- The program from part 65. -/
def rest65 (K : Next F) (v35 : IVec S64x128 32) (v2537 : FVec F S64x128 .f32) (v2556 : IVec S64x128 1) (v2557 : FVec F S64x128 .f32) (v2561 : FVec F S64x128 .f32) (v2565 : FVec F S64x128 .f32) (v2569 : FVec F S64x128 .f32) (v2572 : FVec F S64x128 .f32) : Prog (TpuEff nD τ sig (Elt F) Λ₀ .tc) PUnit := do
  let ⟨v2593, v2597, v2601, v2605, v2609, v2613, c4096_i32_1135⟩ : Σ' (v2593 : FVec F S64x128 .f32) (v2597 : FVec F S64x128 .f32) (v2601 : FVec F S64x128 .f32) (v2605 : FVec F S64x128 .f32) (v2609 : FVec F S64x128 .f32) (v2613 : IVec S64x128 1), BitVec 32 ← k1_part65 arg0 harg0 arg1 harg1 arg2 harg2 arg3 harg3 v35 v2537 v2556 v2557 v2561 v2565 v2569 v2572
  rest66 arg0 harg0 arg1 harg1 arg2 harg2 arg3 harg3 K v35 v2593 v2597 v2601 v2605 v2609 v2613 c4096_i32_1135

/-- It hands four arrays on. -/
theorem chain65 (v35 : IVec S64x128 32) (v2537 : FVec F S64x128 .f32) (v2556 : IVec S64x128 1) (v2557 : FVec F S64x128 .f32) (v2561 : FVec F S64x128 .f32) (v2565 : FVec F S64x128 .f32) (v2569 : FVec F S64x128 .f32) (v2572 : FVec F S64x128 .f32) :
    Good (F := F) (v2565 = select v2556 v2572 v2537) (fun K => rest65 arg0 harg0 arg1 harg1 arg2 harg2 arg3 harg3 K v35 v2537 v2556 v2557 v2561 v2565 v2569 v2572) :=
  Good.step (chain66 arg0 harg0 arg1 harg1 arg2 harg2 arg3 harg3 v35 (k1_pay596 v35 v2557) (k1_pay597 v35 v2557 v2561) (k1_pay598 v35 v2557 v2565) (k1_pay599 v35 v2557 v2569) (k1_pay600 v35 v2537 v2556 v2557 v2572) (k1_pay601 v35) 4096#32)
    (fun K => by unfold rest65; rw [k1_part65_eq_skeleton]; rfl)
    (by rintro rfl; exact ⟨rfl, rfl⟩)

/-- The program from part 64. -/
def rest64 (K : Next F) (v35 : IVec S64x128 32) (v2497 : FVec F S64x128 .f32) (v2501 : FVec F S64x128 .f32) (v2505 : IVec S64x128 1) (v2520 : IVec S64x128 1) (v2521 : FVec F S64x128 .f32) (v2525 : FVec F S64x128 .f32) (v2529 : FVec F S64x128 .f32) (v2530 : FVec F S64x128 .f32) (c16_i32_1098 : BitVec 32) : Prog (TpuEff nD τ sig (Elt F) Λ₀ .tc) PUnit := do
  let ⟨v2537, v2556, v2557, v2561, v2565, v2569, v2572⟩ : Σ' (v2537 : FVec F S64x128 .f32) (v2556 : IVec S64x128 1) (v2557 : FVec F S64x128 .f32) (v2561 : FVec F S64x128 .f32) (v2565 : FVec F S64x128 .f32) (v2569 : FVec F S64x128 .f32), FVec F S64x128 .f32 ← k1_part64 arg0 harg0 arg1 harg1 arg2 harg2 arg3 harg3 v35 v2497 v2501 v2505 v2520 v2521 v2525 v2529 v2530 c16_i32_1098
  rest65 arg0 harg0 arg1 harg1 arg2 harg2 arg3 harg3 K v35 v2537 v2556 v2557 v2561 v2565 v2569 v2572

/-- It hands four arrays on. -/
theorem chain64 (v35 : IVec S64x128 32) (v2497 : FVec F S64x128 .f32) (v2501 : FVec F S64x128 .f32) (v2505 : IVec S64x128 1) (v2520 : IVec S64x128 1) (v2521 : FVec F S64x128 .f32) (v2525 : FVec F S64x128 .f32) (v2529 : FVec F S64x128 .f32) (v2530 : FVec F S64x128 .f32) (c16_i32_1098 : BitVec 32) :
    Good (F := F) (v2529 = select v2520 (select v2505 (dynamicRotate 0 48#32 none v2501 rotates_S64x128_d0) (dynamicRotate 0 16#32 none v2501 rotates_S64x128_d0)) v2501 ∧ c16_i32_1098 = 16#32) (fun K => rest64 arg0 harg0 arg1 harg1 arg2 harg2 arg3 harg3 K v35 v2497 v2501 v2505 v2520 v2521 v2525 v2529 v2530 c16_i32_1098) :=
  Good.step (chain65 arg0 harg0 arg1 harg1 arg2 harg2 arg3 harg3 v35 (k1_pay584 v2501 v2505 v2520) (k1_pay587 v35 v2521) (k1_pay588 v35 v2521) (k1_pay589 v35 v2521 v2525) (k1_pay590 v35 v2521 v2529) (k1_pay591 v35 v2497 v2505 v2520 v2521 v2530 c16_i32_1098) (k1_pay592 v35 v2501 v2505 v2520))
    (fun K => by unfold rest64; rw [k1_part64_eq_skeleton]; rfl)
    (by rintro ⟨rfl, rfl⟩; exact rfl)

/-- The program from part 63. -/
def rest63 (K : Next F) (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32) (c127_i32_1081 : BitVec 32) : Prog (TpuEff nD τ sig (Elt F) Λ₀ .tc) PUnit := do
  let ⟨v2497, v2501, v2505, v2520, v2521, v2525, v2529, v2530, c16_i32_1098⟩ : Σ' (v2497 : FVec F S64x128 .f32) (v2501 : FVec F S64x128 .f32) (v2505 : IVec S64x128 1) (v2520 : IVec S64x128 1) (v2521 : FVec F S64x128 .f32) (v2525 : FVec F S64x128 .f32) (v2529 : FVec F S64x128 .f32) (v2530 : FVec F S64x128 .f32), BitVec 32 ← k1_part63 arg0 harg0 arg1 harg1 arg2 harg2 arg3 harg3 v35 v2457 v2461 v2465 v2469 v2484 v2485 v2489 c127_i32_1081
  rest64 arg0 harg0 arg1 harg1 arg2 harg2 arg3 harg3 K v35 v2497 v2501 v2505 v2520 v2521 v2525 v2529 v2530 c16_i32_1098

/-- It hands four arrays on. -/
theorem chain63 (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32) (c127_i32_1081 : BitVec 32) :
    Good (F := F) (v2457 = v2465 ∧ c127_i32_1081 = 127#32) (fun K => rest63 arg0 harg0 arg1 harg1 arg2 harg2 arg3 harg3 K v35 v2457 v2461 v2465 v2469 v2484 v2485 v2489 c127_i32_1081) :=
  Good.step (chain64 arg0 harg0 arg1 harg1 arg2 harg2 arg3 harg3 v35 (k1_pay575 v2461 v2469 v2484) (k1_pay576 v2465 v2469 v2484) (k1_pay577 v35) (k1_pay579 v35 v2485) (k1_pay580 v35 v2485) (k1_pay581 v35 v2485 v2489) (k1_pay582 v35 v2457 v2469 v2484 v2485 c127_i32_1081) (k1_pay583 v2461 v2469 v2484) 16#32)
    (fun K => by unfold rest63; rw [k1_part63_eq_skeleton]; rfl)
    (by rintro ⟨rfl, rfl⟩; exact ⟨rfl, rfl⟩)

/-- The second half, entered with the nine values the first half returns. -/
def glue (K : Next F) (t : Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) : Prog (TpuEff nD τ sig (Elt F) Λ₀ .tc) PUnit :=
  match t with
  | ⟨v35, v2457, v2461, v2465, v2469, v2484, v2485, v2489, c127_i32_1081⟩ => rest63 arg0 harg0 arg1 harg1 arg2 harg2 arg3 harg3 K v35 v2457 v2461 v2465 v2469 v2484 v2485 v2489 c127_i32_1081

/-- The first half from part 62. -/
def rest62 (v35 : IVec S64x128 32) (v2413 : FVec F S64x128 .f32) (v2417 : FVec F S64x128 .f32) (v2421 : FVec F S64x128 .f32) (v2425 : FVec F S64x128 .f32) (v2429 : FVec F S64x128 .f32) (v2433 : IVec S64x128 1) (v2440 : FVec F S64x128 .f32) (v2448 : IVec S64x128 1) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v2457, v2461, v2465, v2469, v2484, v2485, v2489, c127_i32_1081⟩ : Σ' (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32 ← k1_part62 arg0 harg0 arg1 harg1 arg2 harg2 arg3 harg3 v35 v2413 v2417 v2421 v2425 v2429 v2433 v2440 v2448
  pure ⟨v35, v2457, v2461, v2465, v2469, v2484, v2485, v2489, c127_i32_1081⟩

/-- It hands four arrays on. -/
theorem chain62 (v35 : IVec S64x128 32) (v2413 : FVec F S64x128 .f32) (v2417 : FVec F S64x128 .f32) (v2421 : FVec F S64x128 .f32) (v2425 : FVec F S64x128 .f32) (v2429 : FVec F S64x128 .f32) (v2433 : IVec S64x128 1) (v2440 : FVec F S64x128 .f32) (v2448 : IVec S64x128 1) :
    Good (F := F) (v2421 = v2429) (fun K => rest62 arg0 harg0 arg1 harg1 arg2 harg2 arg3 harg3 v35 v2413 v2417 v2421 v2425 v2429 v2433 v2440 v2448 >>= glue arg0 harg0 arg1 harg1 arg2 harg2 arg3 harg3 K) :=
  Good.step (chain63 arg0 harg0 arg1 harg1 arg2 harg2 arg3 harg3 v35 (k1_pay567 v2421 v2433 v2448) (k1_pay568 v2425 v2433 v2448) (k1_pay569 v2429 v2433 v2448) (k1_pay570 v35) (k1_pay572 v35 v2413 v2440 v2448) (k1_pay573 v35 v2413 v2440 v2448) (k1_pay574 v35 v2413 v2417 v2433 v2440 v2448) 127#32)
    (fun K => by unfold rest62; rw [k1_part62_eq_skeleton]; rfl)
    (by rintro rfl; exact ⟨rfl, rfl⟩)

/-- The first half from part 61. -/
def rest61 (v35 : IVec S64x128 32) (v2377 : FVec F S64x128 .f32) (v2381 : FVec F S64x128 .f32) (v2385 : FVec F S64x128 .f32) (v2389 : FVec F S64x128 .f32) (v2393 : FVec F S64x128 .f32) (v2397 : IVec S64x128 1) (v2404 : FVec F S64x128 .f32) (v2405 : IVec S64x128 1) (cst_1045 : IVec S64x128 1) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v2413, v2417, v2421, v2425, v2429, v2433, v2440, v2448⟩ : Σ' (v2413 : FVec F S64x128 .f32) (v2417 : FVec F S64x128 .f32) (v2421 : FVec F S64x128 .f32) (v2425 : FVec F S64x128 .f32) (v2429 : FVec F S64x128 .f32) (v2433 : IVec S64x128 1) (v2440 : FVec F S64x128 .f32), IVec S64x128 1 ← k1_part61 arg0 harg0 arg1 harg1 arg2 harg2 arg3 harg3 v35 v2377 v2381 v2385 v2389 v2393 v2397 v2404 v2405 cst_1045
  rest62 arg0 harg0 arg1 harg1 arg2 harg2 arg3 harg3 v35 v2413 v2417 v2421 v2425 v2429 v2433 v2440 v2448

/-- It hands four arrays on. -/
theorem chain61 (v35 : IVec S64x128 32) (v2377 : FVec F S64x128 .f32) (v2381 : FVec F S64x128 .f32) (v2385 : FVec F S64x128 .f32) (v2389 : FVec F S64x128 .f32) (v2393 : FVec F S64x128 .f32) (v2397 : IVec S64x128 1) (v2404 : FVec F S64x128 .f32) (v2405 : IVec S64x128 1) (cst_1045 : IVec S64x128 1) :
    Good (F := F) (v2385 = v2393 ∧ cst_1045 = constantI S64x128 1 1#1) (fun K => rest61 arg0 harg0 arg1 harg1 arg2 harg2 arg3 harg3 v35 v2377 v2381 v2385 v2389 v2393 v2397 v2404 v2405 cst_1045 >>= glue arg0 harg0 arg1 harg1 arg2 harg2 arg3 harg3 K) :=
  Good.step (chain62 arg0 harg0 arg1 harg1 arg2 harg2 arg3 harg3 v35 (k1_pay558 v2377 v2404 v2405 cst_1045) (k1_pay559 v2377 v2381 v2397 v2404 v2405 cst_1045) (k1_pay560 v2377 v2385 v2397 v2404 v2405 cst_1045) (k1_pay561 v2377 v2389 v2397 v2404 v2405 cst_1045) (k1_pay562 v2377 v2393 v2397 v2404 v2405 cst_1045) (k1_pay563 v35) (k1_pay564 v35 v2377 v2404 v2405 cst_1045) (k1_pay565 v35 v2377 v2404 v2405 cst_1045))
    (fun K => by unfold rest61; rw [k1_part61_eq_skeleton]; rfl)
    (by rintro ⟨rfl, rfl⟩; exact rfl)

/-- The first half from part 60. -/
def rest60 (v35 : IVec S64x128 32) (v2341 : FVec F S64x128 .f32) (v2345 : FVec F S64x128 .f32) (v2349 : FVec F S64x128 .f32) (v2353 : FVec F S64x128 .f32) (v2357 : FVec F S64x128 .f32) (v2361 : IVec S64x128 1) (v2363 : IVec S64x128 32) (v2364 : IVec S64x128 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v2377, v2381, v2385, v2389, v2393, v2397, v2404, v2405, cst_1045⟩ : Σ' (v2377 : FVec F S64x128 .f32) (v2381 : FVec F S64x128 .f32) (v2385 : FVec F S64x128 .f32) (v2389 : FVec F S64x128 .f32) (v2393 : FVec F S64x128 .f32) (v2397 : IVec S64x128 1) (v2404 : FVec F S64x128 .f32) (v2405 : IVec S64x128 1), IVec S64x128 1 ← k1_part60 arg0 harg0 arg1 harg1 arg2 harg2 arg3 harg3 v35 v2341 v2345 v2349 v2353 v2357 v2361 v2363 v2364
  rest61 arg0 harg0 arg1 harg1 arg2 harg2 arg3 harg3 v35 v2377 v2381 v2385 v2389 v2393 v2397 v2404 v2405 cst_1045

/-- It hands four arrays on. -/
theorem chain60 (v35 : IVec S64x128 32) (v2341 : FVec F S64x128 .f32) (v2345 : FVec F S64x128 .f32) (v2349 : FVec F S64x128 .f32) (v2353 : FVec F S64x128 .f32) (v2357 : FVec F S64x128 .f32) (v2361 : IVec S64x128 1) (v2363 : IVec S64x128 32) (v2364 : IVec S64x128 32) :
    Good (F := F) (v2349 = v2357 ∧ v2364 = broadcast S64x128 0#32) (fun K => rest60 arg0 harg0 arg1 harg1 arg2 harg2 arg3 harg3 v35 v2341 v2345 v2349 v2353 v2357 v2361 v2363 v2364 >>= glue arg0 harg0 arg1 harg1 arg2 harg2 arg3 harg3 K) :=
  Good.step (chain61 arg0 harg0 arg1 harg1 arg2 harg2 arg3 harg3 v35 (k1_pay549 v2341 v2361 v2363 v2364) (k1_pay550 v2341 v2345 v2361 v2363 v2364) (k1_pay551 v2341 v2349 v2361 v2363 v2364) (k1_pay552 v2341 v2353 v2361 v2363 v2364) (k1_pay553 v2341 v2357 v2361 v2363 v2364) (k1_pay554 v35) (k1_pay555 v35 v2341 v2361 v2363 v2364) (k1_pay556 v35) (constantI S64x128 1 1#1))
    (fun K => by unfold rest60; rw [k1_part60_eq_skeleton]; rfl)
    (by rintro ⟨rfl, rfl⟩; exact ⟨rfl, rfl⟩)

/-- The first half from part 59. -/
def rest59 (v35 : IVec S64x128 32) (v2305 : FVec F S64x128 .f32) (v2309 : FVec F S64x128 .f32) (v2313 : FVec F S64x128 .f32) (v2317 : FVec F S64x128 .f32) (v2321 : FVec F S64x128 .f32) (v2323 : IVec S64x128 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v2341, v2345, v2349, v2353, v2357, v2361, v2363, v2364⟩ : Σ' (v2341 : FVec F S64x128 .f32) (v2345 : FVec F S64x128 .f32) (v2349 : FVec F S64x128 .f32) (v2353 : FVec F S64x128 .f32) (v2357 : FVec F S64x128 .f32) (v2361 : IVec S64x128 1) (v2363 : IVec S64x128 32), IVec S64x128 32 ← k1_part59 arg0 harg0 arg1 harg1 arg2 harg2 arg3 harg3 v35 v2305 v2309 v2313 v2317 v2321 v2323
  rest60 arg0 harg0 arg1 harg1 arg2 harg2 arg3 harg3 v35 v2341 v2345 v2349 v2353 v2357 v2361 v2363 v2364

/-- It hands four arrays on. -/
theorem chain59 (v35 : IVec S64x128 32) (v2305 : FVec F S64x128 .f32) (v2309 : FVec F S64x128 .f32) (v2313 : FVec F S64x128 .f32) (v2317 : FVec F S64x128 .f32) (v2321 : FVec F S64x128 .f32) (v2323 : IVec S64x128 32) :
    Good (F := F) (v2313 = v2321) (fun K => rest59 arg0 harg0 arg1 harg1 arg2 harg2 arg3 harg3 v35 v2305 v2309 v2313 v2317 v2321 v2323 >>= glue arg0 harg0 arg1 harg1 arg2 harg2 arg3 harg3 K) :=
  Good.step (chain60 arg0 harg0 arg1 harg1 arg2 harg2 arg3 harg3 v35 (k1_pay539 v35 v2305 v2323) (k1_pay540 v35 v2305 v2309 v2323) (k1_pay541 v35 v2305 v2313 v2323) (k1_pay542 v35 v2305 v2317 v2323) (k1_pay543 v35 v2305 v2321 v2323) (k1_pay544 v35) (k1_pay545 v35) k1_pay546)
    (fun K => by unfold rest59; rw [k1_part59_eq_skeleton]; rfl)
    (by rintro rfl; exact ⟨rfl, rfl⟩)

/-- The first half from part 58. -/
def rest58 (v35 : IVec S64x128 32) (v2249 : FVec F S64x128 .f32) (v2253 : IVec S64x128 1) (v2268 : IVec S64x128 1) (v2269 : FVec F S64x128 .f32) (v2273 : FVec F S64x128 .f32) (v2277 : FVec F S64x128 .f32) (v2281 : FVec F S64x128 .f32) (c64_i32_989 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v2305, v2309, v2313, v2317, v2321, v2323⟩ : Σ' (v2305 : FVec F S64x128 .f32) (v2309 : FVec F S64x128 .f32) (v2313 : FVec F S64x128 .f32) (v2317 : FVec F S64x128 .f32) (v2321 : FVec F S64x128 .f32), IVec S64x128 32 ← k1_part58 arg0 harg0 arg1 harg1 arg2 harg2 arg3 harg3 v35 v2249 v2253 v2268 v2269 v2273 v2277 v2281 c64_i32_989
  rest59 arg0 harg0 arg1 harg1 arg2 harg2 arg3 harg3 v35 v2305 v2309 v2313 v2317 v2321 v2323

/-- It hands four arrays on. -/
theorem chain58 (v35 : IVec S64x128 32) (v2249 : FVec F S64x128 .f32) (v2253 : IVec S64x128 1) (v2268 : IVec S64x128 1) (v2269 : FVec F S64x128 .f32) (v2273 : FVec F S64x128 .f32) (v2277 : FVec F S64x128 .f32) (v2281 : FVec F S64x128 .f32) (c64_i32_989 : BitVec 32) :
    Good (F := F) (v2277 = select v2268 (select v2253 (dynamicRotate 1 64#32 none v2249 rotates_S64x128_d1) (dynamicRotate 1 64#32 none v2249 rotates_S64x128_d1)) v2249 ∧ c64_i32_989 = 64#32) (fun K => rest58 arg0 harg0 arg1 harg1 arg2 harg2 arg3 harg3 v35 v2249 v2253 v2268 v2269 v2273 v2277 v2281 c64_i32_989 >>= glue arg0 harg0 arg1 harg1 arg2 harg2 arg3 harg3 K) :=
  Good.step (chain59 arg0 harg0 arg1 harg1 arg2 harg2 arg3 harg3 v35 (k1_pay530 v35 v2269) (k1_pay531 v35 v2269 v2273) (k1_pay532 v35 v2269 v2277) (k1_pay533 v35 v2269 v2281) (k1_pay534 v35 v2249 v2253 v2268 v2269 c64_i32_989) (k1_pay535 v35))
    (fun K => by unfold rest58; rw [k1_part58_eq_skeleton]; rfl)
    (by rintro ⟨rfl, rfl⟩; exact rfl)

/-- The first half from part 57. -/
def rest57 (v35 : IVec S64x128 32) (v2205 : FVec F S64x128 .f32) (v2209 : FVec F S64x128 .f32) (v2213 : FVec F S64x128 .f32) (v2217 : IVec S64x128 1) (v2232 : IVec S64x128 1) (v2233 : FVec F S64x128 .f32) (v2237 : FVec F S64x128 .f32) (v2240 : FVec F S64x128 .f32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v2249, v2253, v2268, v2269, v2273, v2277, v2281, c64_i32_989⟩ : Σ' (v2249 : FVec F S64x128 .f32) (v2253 : IVec S64x128 1) (v2268 : IVec S64x128 1) (v2269 : FVec F S64x128 .f32) (v2273 : FVec F S64x128 .f32) (v2277 : FVec F S64x128 .f32) (v2281 : FVec F S64x128 .f32), BitVec 32 ← k1_part57 arg0 harg0 arg1 harg1 arg2 harg2 arg3 harg3 v35 v2205 v2209 v2213 v2217 v2232 v2233 v2237 v2240
  rest58 arg0 harg0 arg1 harg1 arg2 harg2 arg3 harg3 v35 v2249 v2253 v2268 v2269 v2273 v2277 v2281 c64_i32_989

/-- It hands four arrays on. -/
theorem chain57 (v35 : IVec S64x128 32) (v2205 : FVec F S64x128 .f32) (v2209 : FVec F S64x128 .f32) (v2213 : FVec F S64x128 .f32) (v2217 : IVec S64x128 1) (v2232 : IVec S64x128 1) (v2233 : FVec F S64x128 .f32) (v2237 : FVec F S64x128 .f32) (v2240 : FVec F S64x128 .f32) :
    Good (F := F) (v2205 = v2213 ∧ v2240 = select v2217 (dynamicRotate 0 63#32 none v2213 rotates_S64x128_d0) (dynamicRotate 0 1#32 none v2213 rotates_S64x128_d0)) (fun K => rest57 arg0 harg0 arg1 harg1 arg2 harg2 arg3 harg3 v35 v2205 v2209 v2213 v2217 v2232 v2233 v2237 v2240 >>= glue arg0 harg0 arg1 harg1 arg2 harg2 arg3 harg3 K) :=
  Good.step (chain58 arg0 harg0 arg1 harg1 arg2 harg2 arg3 harg3 v35 (k1_pay519 v2213 v2217 v2232) (k1_pay520 v35) (k1_pay522 v35 v2233) (k1_pay523 v35 v2233) (k1_pay524 v35 v2233 v2237) (k1_pay525 v35 v2205 v2232 v2233 v2240) (k1_pay526 v35 v2209 v2217 v2232 v2233) 64#32)
    (fun K => by unfold rest57; rw [k1_part57_eq_skeleton]; rfl)
    (by rintro ⟨rfl, rfl⟩; exact ⟨rfl, rfl⟩)

/-- The first half from part 56. -/
def rest56 (v35 : IVec S64x128 32) (v2165 : FVec F S64x128 .f32) (v2169 : FVec F S64x128 .f32) (v2173 : FVec F S64x128 .f32) (v2177 : FVec F S64x128 .f32) (v2181 : IVec S64x128 1) (v2196 : IVec S64x128 1) (v2197 : FVec F S64x128 .f32) (v2198 : FVec F S64x128 .f32) (c2_i32_952 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v2205, v2209, v2213, v2217, v2232, v2233, v2237, v2240⟩ : Σ' (v2205 : FVec F S64x128 .f32) (v2209 : FVec F S64x128 .f32) (v2213 : FVec F S64x128 .f32) (v2217 : IVec S64x128 1) (v2232 : IVec S64x128 1) (v2233 : FVec F S64x128 .f32) (v2237 : FVec F S64x128 .f32), FVec F S64x128 .f32 ← k1_part56 arg0 harg0 arg1 harg1 arg2 harg2 arg3 harg3 v35 v2165 v2169 v2173 v2177 v2181 v2196 v2197 v2198 c2_i32_952
  rest57 arg0 harg0 arg1 harg1 arg2 harg2 arg3 harg3 v35 v2205 v2209 v2213 v2217 v2232 v2233 v2237 v2240

/-- It hands four arrays on. -/
theorem chain56 (v35 : IVec S64x128 32) (v2165 : FVec F S64x128 .f32) (v2169 : FVec F S64x128 .f32) (v2173 : FVec F S64x128 .f32) (v2177 : FVec F S64x128 .f32) (v2181 : IVec S64x128 1) (v2196 : IVec S64x128 1) (v2197 : FVec F S64x128 .f32) (v2198 : FVec F S64x128 .f32) (c2_i32_952 : BitVec 32) :
    Good (F := F) (v2169 = v2177 ∧ c2_i32_952 = 2#32) (fun K => rest56 arg0 harg0 arg1 harg1 arg2 harg2 arg3 harg3 v35 v2165 v2169 v2173 v2177 v2181 v2196 v2197 v2198 c2_i32_952 >>= glue arg0 harg0 arg1 harg1 arg2 harg2 arg3 harg3 K) :=
  Good.step (chain57 arg0 harg0 arg1 harg1 arg2 harg2 arg3 harg3 v35 (k1_pay510 v2169 v2181 v2196) (k1_pay511 v2173 v2181 v2196) (k1_pay512 v2177 v2181 v2196) (k1_pay513 v35) (k1_pay515 v35 v2197) (k1_pay516 v35 v2197) (k1_pay517 v35 v2165 v2181 v2196 v2197 v2198 c2_i32_952) (k1_pay518 v35 v2169 v2181 v2196))
    (fun K => by unfold rest56; rw [k1_part56_eq_skeleton]; rfl)
    (by rintro ⟨rfl, rfl⟩; exact ⟨rfl, rfl⟩)

/-- The first half from part 55. -/
def rest55 (v35 : IVec S64x128 32) (v2125 : FVec F S64x128 .f32) (v2129 : FVec F S64x128 .f32) (v2133 : FVec F S64x128 .f32) (v2137 : FVec F S64x128 .f32) (v2141 : FVec F S64x128 .f32) (v2145 : IVec S64x128 1) (v2152 : FVec F S64x128 .f32) (v2154 : IVec S64x128 1) (v2156 : IVec S64x128 1) (cst_934 : IVec S64x128 1) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v2165, v2169, v2173, v2177, v2181, v2196, v2197, v2198, c2_i32_952⟩ : Σ' (v2165 : FVec F S64x128 .f32) (v2169 : FVec F S64x128 .f32) (v2173 : FVec F S64x128 .f32) (v2177 : FVec F S64x128 .f32) (v2181 : IVec S64x128 1) (v2196 : IVec S64x128 1) (v2197 : FVec F S64x128 .f32) (v2198 : FVec F S64x128 .f32), BitVec 32 ← k1_part55 arg0 harg0 arg1 harg1 arg2 harg2 arg3 harg3 v35 v2125 v2129 v2133 v2137 v2141 v2145 v2152 v2154 v2156 cst_934
  rest56 arg0 harg0 arg1 harg1 arg2 harg2 arg3 harg3 v35 v2165 v2169 v2173 v2177 v2181 v2196 v2197 v2198 c2_i32_952

/-- It hands four arrays on. -/
theorem chain55 (v35 : IVec S64x128 32) (v2125 : FVec F S64x128 .f32) (v2129 : FVec F S64x128 .f32) (v2133 : FVec F S64x128 .f32) (v2137 : FVec F S64x128 .f32) (v2141 : FVec F S64x128 .f32) (v2145 : IVec S64x128 1) (v2152 : FVec F S64x128 .f32) (v2154 : IVec S64x128 1) (v2156 : IVec S64x128 1) (cst_934 : IVec S64x128 1) :
    Good (F := F) (v2133 = v2141 ∧ cst_934 = constantI S64x128 1 1#1) (fun K => rest55 arg0 harg0 arg1 harg1 arg2 harg2 arg3 harg3 v35 v2125 v2129 v2133 v2137 v2141 v2145 v2152 v2154 v2156 cst_934 >>= glue arg0 harg0 arg1 harg1 arg2 harg2 arg3 harg3 K) :=
  Good.step (chain56 arg0 harg0 arg1 harg1 arg2 harg2 arg3 harg3 v35 (k1_pay501 v2125 v2129 v2145 v2152 v2154 v2156 cst_934) (k1_pay502 v2125 v2133 v2145 v2152 v2154 v2156 cst_934) (k1_pay503 v2125 v2137 v2145 v2152 v2154 v2156 cst_934) (k1_pay504 v2125 v2141 v2145 v2152 v2154 v2156 cst_934) (k1_pay505 v35) (k1_pay507 v35 v2125 v2152 v2154 v2156 cst_934) (k1_pay508 v35 v2125 v2152 v2154 v2156 cst_934) (k1_pay509 v2125 v2129 v2145 v2152 v2154 v2156 cst_934) 2#32)
    (fun K => by unfold rest55; rw [k1_part55_eq_skeleton]; rfl)
    (by rintro ⟨rfl, rfl⟩; exact ⟨rfl, rfl⟩)

/-- The first half from part 54. -/
def rest54 (v35 : IVec S64x128 32) (v2089 : FVec F S64x128 .f32) (v2093 : FVec F S64x128 .f32) (v2097 : FVec F S64x128 .f32) (v2101 : FVec F S64x128 .f32) (v2105 : FVec F S64x128 .f32) (v2109 : IVec S64x128 1) (v2113 : IVec S64x128 1) (v2114 : FVec F S64x128 .f32) (c8_i32_916 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v2125, v2129, v2133, v2137, v2141, v2145, v2152, v2154, v2156, cst_934⟩ : Σ' (v2125 : FVec F S64x128 .f32) (v2129 : FVec F S64x128 .f32) (v2133 : FVec F S64x128 .f32) (v2137 : FVec F S64x128 .f32) (v2141 : FVec F S64x128 .f32) (v2145 : IVec S64x128 1) (v2152 : FVec F S64x128 .f32) (v2154 : IVec S64x128 1) (v2156 : IVec S64x128 1), IVec S64x128 1 ← k1_part54 arg0 harg0 arg1 harg1 arg2 harg2 arg3 harg3 v35 v2089 v2093 v2097 v2101 v2105 v2109 v2113 v2114 c8_i32_916
  rest55 arg0 harg0 arg1 harg1 arg2 harg2 arg3 harg3 v35 v2125 v2129 v2133 v2137 v2141 v2145 v2152 v2154 v2156 cst_934

/-- It hands four arrays on. -/
theorem chain54 (v35 : IVec S64x128 32) (v2089 : FVec F S64x128 .f32) (v2093 : FVec F S64x128 .f32) (v2097 : FVec F S64x128 .f32) (v2101 : FVec F S64x128 .f32) (v2105 : FVec F S64x128 .f32) (v2109 : IVec S64x128 1) (v2113 : IVec S64x128 1) (v2114 : FVec F S64x128 .f32) (c8_i32_916 : BitVec 32) :
    Good (F := F) (v2097 = v2105 ∧ c8_i32_916 = 8#32) (fun K => rest54 arg0 harg0 arg1 harg1 arg2 harg2 arg3 harg3 v35 v2089 v2093 v2097 v2101 v2105 v2109 v2113 v2114 c8_i32_916 >>= glue arg0 harg0 arg1 harg1 arg2 harg2 arg3 harg3 K) :=
  Good.step (chain55 arg0 harg0 arg1 harg1 arg2 harg2 arg3 harg3 v35 (k1_pay490 v2089 v2109 v2113 v2114 c8_i32_916) (k1_pay491 v2089 v2093 v2109 v2113 v2114 c8_i32_916) (k1_pay492 v2089 v2097 v2109 v2113 v2114 c8_i32_916) (k1_pay493 v2089 v2101 v2109 v2113 v2114 c8_i32_916) (k1_pay494 v2089 v2105 v2109 v2113 v2114 c8_i32_916) (k1_pay495 v35) (k1_pay496 v35 v2089 v2109 v2113 v2114 c8_i32_916) (k1_pay497 v35) (k1_pay498 v35 v2089 v2109 v2113 v2114 c8_i32_916) (constantI S64x128 1 1#1))
    (fun K => by unfold rest54; rw [k1_part54_eq_skeleton]; rfl)
    (by rintro ⟨rfl, rfl⟩; exact ⟨rfl, rfl⟩)

/-- The first half from part 53. -/
def rest53 (v35 : IVec S64x128 32) (v2053 : FVec F S64x128 .f32) (v2057 : FVec F S64x128 .f32) (v2061 : FVec F S64x128 .f32) (v2065 : FVec F S64x128 .f32) (v2069 : FVec F S64x128 .f32) (v2073 : IVec S64x128 1) (c1024_i32_899 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v2089, v2093, v2097, v2101, v2105, v2109, v2113, v2114, c8_i32_916⟩ : Σ' (v2089 : FVec F S64x128 .f32) (v2093 : FVec F S64x128 .f32) (v2097 : FVec F S64x128 .f32) (v2101 : FVec F S64x128 .f32) (v2105 : FVec F S64x128 .f32) (v2109 : IVec S64x128 1) (v2113 : IVec S64x128 1) (v2114 : FVec F S64x128 .f32), BitVec 32 ← k1_part53 arg0 harg0 arg1 harg1 arg2 harg2 arg3 harg3 v35 v2053 v2057 v2061 v2065 v2069 v2073 c1024_i32_899
  rest54 arg0 harg0 arg1 harg1 arg2 harg2 arg3 harg3 v35 v2089 v2093 v2097 v2101 v2105 v2109 v2113 v2114 c8_i32_916

/-- It hands four arrays on. -/
theorem chain53 (v35 : IVec S64x128 32) (v2053 : FVec F S64x128 .f32) (v2057 : FVec F S64x128 .f32) (v2061 : FVec F S64x128 .f32) (v2065 : FVec F S64x128 .f32) (v2069 : FVec F S64x128 .f32) (v2073 : IVec S64x128 1) (c1024_i32_899 : BitVec 32) :
    Good (F := F) (v2061 = v2069 ∧ c1024_i32_899 = 1024#32) (fun K => rest53 arg0 harg0 arg1 harg1 arg2 harg2 arg3 harg3 v35 v2053 v2057 v2061 v2065 v2069 v2073 c1024_i32_899 >>= glue arg0 harg0 arg1 harg1 arg2 harg2 arg3 harg3 K) :=
  Good.step (chain54 arg0 harg0 arg1 harg1 arg2 harg2 arg3 harg3 v35 (k1_pay480 v35 v2053 v2073 c1024_i32_899) (k1_pay481 v35 v2053 v2057 v2073 c1024_i32_899) (k1_pay482 v35 v2053 v2061 v2073 c1024_i32_899) (k1_pay483 v35 v2053 v2065 v2073 c1024_i32_899) (k1_pay484 v35 v2053 v2069 v2073 c1024_i32_899) (k1_pay485 v35) (k1_pay486 v35) (k1_pay487 v35 v2053 v2073 c1024_i32_899) 8#32)
    (fun K => by unfold rest53; rw [k1_part53_eq_skeleton]; rfl)
    (by rintro ⟨rfl, rfl⟩; exact ⟨rfl, rfl⟩)

/-- The first half from part 52. -/
def rest52 (v35 : IVec S64x128 32) (v1997 : FVec F S64x128 .f32) (v2016 : IVec S64x128 1) (v2017 : FVec F S64x128 .f32) (v2021 : FVec F S64x128 .f32) (v2025 : FVec F S64x128 .f32) (v2029 : FVec F S64x128 .f32) (v2032 : FVec F S64x128 .f32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v2053, v2057, v2061, v2065, v2069, v2073, c1024_i32_899⟩ : Σ' (v2053 : FVec F S64x128 .f32) (v2057 : FVec F S64x128 .f32) (v2061 : FVec F S64x128 .f32) (v2065 : FVec F S64x128 .f32) (v2069 : FVec F S64x128 .f32) (v2073 : IVec S64x128 1), BitVec 32 ← k1_part52 arg0 harg0 arg1 harg1 arg2 harg2 arg3 harg3 v35 v1997 v2016 v2017 v2021 v2025 v2029 v2032
  rest53 arg0 harg0 arg1 harg1 arg2 harg2 arg3 harg3 v35 v2053 v2057 v2061 v2065 v2069 v2073 c1024_i32_899

/-- It hands four arrays on. -/
theorem chain52 (v35 : IVec S64x128 32) (v1997 : FVec F S64x128 .f32) (v2016 : IVec S64x128 1) (v2017 : FVec F S64x128 .f32) (v2021 : FVec F S64x128 .f32) (v2025 : FVec F S64x128 .f32) (v2029 : FVec F S64x128 .f32) (v2032 : FVec F S64x128 .f32) :
    Good (F := F) (v2025 = select v2016 v2032 v1997) (fun K => rest52 arg0 harg0 arg1 harg1 arg2 harg2 arg3 harg3 v35 v1997 v2016 v2017 v2021 v2025 v2029 v2032 >>= glue arg0 harg0 arg1 harg1 arg2 harg2 arg3 harg3 K) :=
  Good.step (chain53 arg0 harg0 arg1 harg1 arg2 harg2 arg3 harg3 v35 (k1_pay472 v35 v2017) (k1_pay473 v35 v2017 v2021) (k1_pay474 v35 v2017 v2025) (k1_pay475 v35 v2017 v2029) (k1_pay476 v35 v1997 v2016 v2017 v2032) (k1_pay477 v35) 1024#32)
    (fun K => by unfold rest52; rw [k1_part52_eq_skeleton]; rfl)
    (by rintro rfl; exact ⟨rfl, rfl⟩)

/-- The first half from part 51. -/
def rest51 (v35 : IVec S64x128 32) (v1957 : FVec F S64x128 .f32) (v1961 : FVec F S64x128 .f32) (v1965 : IVec S64x128 1) (v1980 : IVec S64x128 1) (v1981 : FVec F S64x128 .f32) (v1985 : FVec F S64x128 .f32) (v1989 : FVec F S64x128 .f32) (v1990 : FVec F S64x128 .f32) (c8_i32_862 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1997, v2016, v2017, v2021, v2025, v2029, v2032⟩ : Σ' (v1997 : FVec F S64x128 .f32) (v2016 : IVec S64x128 1) (v2017 : FVec F S64x128 .f32) (v2021 : FVec F S64x128 .f32) (v2025 : FVec F S64x128 .f32) (v2029 : FVec F S64x128 .f32), FVec F S64x128 .f32 ← k1_part51 arg0 harg0 arg1 harg1 arg2 harg2 arg3 harg3 v35 v1957 v1961 v1965 v1980 v1981 v1985 v1989 v1990 c8_i32_862
  rest52 arg0 harg0 arg1 harg1 arg2 harg2 arg3 harg3 v35 v1997 v2016 v2017 v2021 v2025 v2029 v2032

/-- It hands four arrays on. -/
theorem chain51 (v35 : IVec S64x128 32) (v1957 : FVec F S64x128 .f32) (v1961 : FVec F S64x128 .f32) (v1965 : IVec S64x128 1) (v1980 : IVec S64x128 1) (v1981 : FVec F S64x128 .f32) (v1985 : FVec F S64x128 .f32) (v1989 : FVec F S64x128 .f32) (v1990 : FVec F S64x128 .f32) (c8_i32_862 : BitVec 32) :
    Good (F := F) (v1989 = select v1980 (select v1965 (dynamicRotate 1 120#32 none v1961 rotates_S64x128_d1) (dynamicRotate 1 8#32 none v1961 rotates_S64x128_d1)) v1961 ∧ c8_i32_862 = 8#32) (fun K => rest51 arg0 harg0 arg1 harg1 arg2 harg2 arg3 harg3 v35 v1957 v1961 v1965 v1980 v1981 v1985 v1989 v1990 c8_i32_862 >>= glue arg0 harg0 arg1 harg1 arg2 harg2 arg3 harg3 K) :=
  Good.step (chain52 arg0 harg0 arg1 harg1 arg2 harg2 arg3 harg3 v35 (k1_pay460 v1961 v1965 v1980) (k1_pay463 v35 v1981) (k1_pay464 v35 v1981) (k1_pay465 v35 v1981 v1985) (k1_pay466 v35 v1981 v1989) (k1_pay467 v35 v1957 v1965 v1980 v1981 v1990 c8_i32_862) (k1_pay468 v35 v1961 v1965 v1980))
    (fun K => by unfold rest51; rw [k1_part51_eq_skeleton]; rfl)
    (by rintro ⟨rfl, rfl⟩; exact rfl)

/-- The first half from part 50. -/
def rest50 (v35 : IVec S64x128 32) (v1917 : FVec F S64x128 .f32) (v1921 : FVec F S64x128 .f32) (v1925 : FVec F S64x128 .f32) (v1929 : IVec S64x128 1) (v1944 : IVec S64x128 1) (v1945 : FVec F S64x128 .f32) (v1949 : FVec F S64x128 .f32) (c112_i32_843 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1957, v1961, v1965, v1980, v1981, v1985, v1989, v1990, c8_i32_862⟩ : Σ' (v1957 : FVec F S64x128 .f32) (v1961 : FVec F S64x128 .f32) (v1965 : IVec S64x128 1) (v1980 : IVec S64x128 1) (v1981 : FVec F S64x128 .f32) (v1985 : FVec F S64x128 .f32) (v1989 : FVec F S64x128 .f32) (v1990 : FVec F S64x128 .f32), BitVec 32 ← k1_part50 arg0 harg0 arg1 harg1 arg2 harg2 arg3 harg3 v35 v1917 v1921 v1925 v1929 v1944 v1945 v1949 c112_i32_843
  rest51 arg0 harg0 arg1 harg1 arg2 harg2 arg3 harg3 v35 v1957 v1961 v1965 v1980 v1981 v1985 v1989 v1990 c8_i32_862

/-- It hands four arrays on. -/
theorem chain50 (v35 : IVec S64x128 32) (v1917 : FVec F S64x128 .f32) (v1921 : FVec F S64x128 .f32) (v1925 : FVec F S64x128 .f32) (v1929 : IVec S64x128 1) (v1944 : IVec S64x128 1) (v1945 : FVec F S64x128 .f32) (v1949 : FVec F S64x128 .f32) (c112_i32_843 : BitVec 32) :
    Good (F := F) (v1917 = v1925 ∧ c112_i32_843 = 112#32) (fun K => rest50 arg0 harg0 arg1 harg1 arg2 harg2 arg3 harg3 v35 v1917 v1921 v1925 v1929 v1944 v1945 v1949 c112_i32_843 >>= glue arg0 harg0 arg1 harg1 arg2 harg2 arg3 harg3 K) :=
  Good.step (chain51 arg0 harg0 arg1 harg1 arg2 harg2 arg3 harg3 v35 (k1_pay451 v1921 v1929 v1944) (k1_pay452 v1925 v1929 v1944) (k1_pay453 v35) (k1_pay455 v35 v1945) (k1_pay456 v35 v1945) (k1_pay457 v35 v1945 v1949) (k1_pay458 v35 v1917 v1929 v1944 v1945 c112_i32_843) (k1_pay459 v1921 v1929 v1944) 8#32)
    (fun K => by unfold rest50; rw [k1_part50_eq_skeleton]; rfl)
    (by rintro ⟨rfl, rfl⟩; exact ⟨rfl, rfl⟩)

/-- The first half from part 49. -/
def rest49 (v35 : IVec S64x128 32) (v1873 : FVec F S64x128 .f32) (v1877 : FVec F S64x128 .f32) (v1881 : FVec F S64x128 .f32) (v1885 : FVec F S64x128 .f32) (v1889 : FVec F S64x128 .f32) (v1893 : IVec S64x128 1) (v1900 : FVec F S64x128 .f32) (v1908 : IVec S64x128 1) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1917, v1921, v1925, v1929, v1944, v1945, v1949, c112_i32_843⟩ : Σ' (v1917 : FVec F S64x128 .f32) (v1921 : FVec F S64x128 .f32) (v1925 : FVec F S64x128 .f32) (v1929 : IVec S64x128 1) (v1944 : IVec S64x128 1) (v1945 : FVec F S64x128 .f32) (v1949 : FVec F S64x128 .f32), BitVec 32 ← k1_part49 arg0 harg0 arg1 harg1 arg2 harg2 arg3 harg3 v35 v1873 v1877 v1881 v1885 v1889 v1893 v1900 v1908
  rest50 arg0 harg0 arg1 harg1 arg2 harg2 arg3 harg3 v35 v1917 v1921 v1925 v1929 v1944 v1945 v1949 c112_i32_843

/-- It hands four arrays on. -/
theorem chain49 (v35 : IVec S64x128 32) (v1873 : FVec F S64x128 .f32) (v1877 : FVec F S64x128 .f32) (v1881 : FVec F S64x128 .f32) (v1885 : FVec F S64x128 .f32) (v1889 : FVec F S64x128 .f32) (v1893 : IVec S64x128 1) (v1900 : FVec F S64x128 .f32) (v1908 : IVec S64x128 1) :
    Good (F := F) (v1881 = v1889) (fun K => rest49 arg0 harg0 arg1 harg1 arg2 harg2 arg3 harg3 v35 v1873 v1877 v1881 v1885 v1889 v1893 v1900 v1908 >>= glue arg0 harg0 arg1 harg1 arg2 harg2 arg3 harg3 K) :=
  Good.step (chain50 arg0 harg0 arg1 harg1 arg2 harg2 arg3 harg3 v35 (k1_pay443 v1881 v1893 v1908) (k1_pay444 v1885 v1893 v1908) (k1_pay445 v1889 v1893 v1908) (k1_pay446 v35) (k1_pay448 v35 v1873 v1900 v1908) (k1_pay449 v35 v1873 v1900 v1908) (k1_pay450 v35 v1873 v1877 v1893 v1900 v1908) 112#32)
    (fun K => by unfold rest49; rw [k1_part49_eq_skeleton]; rfl)
    (by rintro rfl; exact ⟨rfl, rfl⟩)

/-- The first half from part 48. -/
def rest48 (v35 : IVec S64x128 32) (v1837 : FVec F S64x128 .f32) (v1841 : FVec F S64x128 .f32) (v1845 : FVec F S64x128 .f32) (v1849 : FVec F S64x128 .f32) (v1853 : FVec F S64x128 .f32) (v1857 : IVec S64x128 1) (v1864 : FVec F S64x128 .f32) (v1865 : IVec S64x128 1) (cst_807 : IVec S64x128 1) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1873, v1877, v1881, v1885, v1889, v1893, v1900, v1908⟩ : Σ' (v1873 : FVec F S64x128 .f32) (v1877 : FVec F S64x128 .f32) (v1881 : FVec F S64x128 .f32) (v1885 : FVec F S64x128 .f32) (v1889 : FVec F S64x128 .f32) (v1893 : IVec S64x128 1) (v1900 : FVec F S64x128 .f32), IVec S64x128 1 ← k1_part48 arg0 harg0 arg1 harg1 arg2 harg2 arg3 harg3 v35 v1837 v1841 v1845 v1849 v1853 v1857 v1864 v1865 cst_807
  rest49 arg0 harg0 arg1 harg1 arg2 harg2 arg3 harg3 v35 v1873 v1877 v1881 v1885 v1889 v1893 v1900 v1908

/-- It hands four arrays on. -/
theorem chain48 (v35 : IVec S64x128 32) (v1837 : FVec F S64x128 .f32) (v1841 : FVec F S64x128 .f32) (v1845 : FVec F S64x128 .f32) (v1849 : FVec F S64x128 .f32) (v1853 : FVec F S64x128 .f32) (v1857 : IVec S64x128 1) (v1864 : FVec F S64x128 .f32) (v1865 : IVec S64x128 1) (cst_807 : IVec S64x128 1) :
    Good (F := F) (v1845 = v1853 ∧ cst_807 = constantI S64x128 1 1#1) (fun K => rest48 arg0 harg0 arg1 harg1 arg2 harg2 arg3 harg3 v35 v1837 v1841 v1845 v1849 v1853 v1857 v1864 v1865 cst_807 >>= glue arg0 harg0 arg1 harg1 arg2 harg2 arg3 harg3 K) :=
  Good.step (chain49 arg0 harg0 arg1 harg1 arg2 harg2 arg3 harg3 v35 (k1_pay434 v1837 v1864 v1865 cst_807) (k1_pay435 v1837 v1841 v1857 v1864 v1865 cst_807) (k1_pay436 v1837 v1845 v1857 v1864 v1865 cst_807) (k1_pay437 v1837 v1849 v1857 v1864 v1865 cst_807) (k1_pay438 v1837 v1853 v1857 v1864 v1865 cst_807) (k1_pay439 v35) (k1_pay440 v35 v1837 v1864 v1865 cst_807) (k1_pay441 v35 v1837 v1864 v1865 cst_807))
    (fun K => by unfold rest48; rw [k1_part48_eq_skeleton]; rfl)
    (by rintro ⟨rfl, rfl⟩; exact rfl)

/-- The first half from part 47. -/
def rest47 (v35 : IVec S64x128 32) (v1801 : FVec F S64x128 .f32) (v1805 : FVec F S64x128 .f32) (v1809 : FVec F S64x128 .f32) (v1813 : FVec F S64x128 .f32) (v1817 : FVec F S64x128 .f32) (v1821 : IVec S64x128 1) (v1823 : IVec S64x128 32) (v1824 : IVec S64x128 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1837, v1841, v1845, v1849, v1853, v1857, v1864, v1865, cst_807⟩ : Σ' (v1837 : FVec F S64x128 .f32) (v1841 : FVec F S64x128 .f32) (v1845 : FVec F S64x128 .f32) (v1849 : FVec F S64x128 .f32) (v1853 : FVec F S64x128 .f32) (v1857 : IVec S64x128 1) (v1864 : FVec F S64x128 .f32) (v1865 : IVec S64x128 1), IVec S64x128 1 ← k1_part47 arg0 harg0 arg1 harg1 arg2 harg2 arg3 harg3 v35 v1801 v1805 v1809 v1813 v1817 v1821 v1823 v1824
  rest48 arg0 harg0 arg1 harg1 arg2 harg2 arg3 harg3 v35 v1837 v1841 v1845 v1849 v1853 v1857 v1864 v1865 cst_807

/-- It hands four arrays on. -/
theorem chain47 (v35 : IVec S64x128 32) (v1801 : FVec F S64x128 .f32) (v1805 : FVec F S64x128 .f32) (v1809 : FVec F S64x128 .f32) (v1813 : FVec F S64x128 .f32) (v1817 : FVec F S64x128 .f32) (v1821 : IVec S64x128 1) (v1823 : IVec S64x128 32) (v1824 : IVec S64x128 32) :
    Good (F := F) (v1809 = v1817 ∧ v1824 = broadcast S64x128 0#32) (fun K => rest47 arg0 harg0 arg1 harg1 arg2 harg2 arg3 harg3 v35 v1801 v1805 v1809 v1813 v1817 v1821 v1823 v1824 >>= glue arg0 harg0 arg1 harg1 arg2 harg2 arg3 harg3 K) :=
  Good.step (chain48 arg0 harg0 arg1 harg1 arg2 harg2 arg3 harg3 v35 (k1_pay425 v1801 v1821 v1823 v1824) (k1_pay426 v1801 v1805 v1821 v1823 v1824) (k1_pay427 v1801 v1809 v1821 v1823 v1824) (k1_pay428 v1801 v1813 v1821 v1823 v1824) (k1_pay429 v1801 v1817 v1821 v1823 v1824) (k1_pay430 v35) (k1_pay431 v35 v1801 v1821 v1823 v1824) (k1_pay432 v35) (constantI S64x128 1 1#1))
    (fun K => by unfold rest47; rw [k1_part47_eq_skeleton]; rfl)
    (by rintro ⟨rfl, rfl⟩; exact ⟨rfl, rfl⟩)

/-- The first half from part 46. -/
def rest46 (v35 : IVec S64x128 32) (v1765 : FVec F S64x128 .f32) (v1769 : FVec F S64x128 .f32) (v1773 : FVec F S64x128 .f32) (v1777 : FVec F S64x128 .f32) (v1781 : FVec F S64x128 .f32) (v1783 : IVec S64x128 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1801, v1805, v1809, v1813, v1817, v1821, v1823, v1824⟩ : Σ' (v1801 : FVec F S64x128 .f32) (v1805 : FVec F S64x128 .f32) (v1809 : FVec F S64x128 .f32) (v1813 : FVec F S64x128 .f32) (v1817 : FVec F S64x128 .f32) (v1821 : IVec S64x128 1) (v1823 : IVec S64x128 32), IVec S64x128 32 ← k1_part46 arg0 harg0 arg1 harg1 arg2 harg2 arg3 harg3 v35 v1765 v1769 v1773 v1777 v1781 v1783
  rest47 arg0 harg0 arg1 harg1 arg2 harg2 arg3 harg3 v35 v1801 v1805 v1809 v1813 v1817 v1821 v1823 v1824

/-- It hands four arrays on. -/
theorem chain46 (v35 : IVec S64x128 32) (v1765 : FVec F S64x128 .f32) (v1769 : FVec F S64x128 .f32) (v1773 : FVec F S64x128 .f32) (v1777 : FVec F S64x128 .f32) (v1781 : FVec F S64x128 .f32) (v1783 : IVec S64x128 32) :
    Good (F := F) (v1773 = v1781) (fun K => rest46 arg0 harg0 arg1 harg1 arg2 harg2 arg3 harg3 v35 v1765 v1769 v1773 v1777 v1781 v1783 >>= glue arg0 harg0 arg1 harg1 arg2 harg2 arg3 harg3 K) :=
  Good.step (chain47 arg0 harg0 arg1 harg1 arg2 harg2 arg3 harg3 v35 (k1_pay415 v35 v1765 v1783) (k1_pay416 v35 v1765 v1769 v1783) (k1_pay417 v35 v1765 v1773 v1783) (k1_pay418 v35 v1765 v1777 v1783) (k1_pay419 v35 v1765 v1781 v1783) (k1_pay420 v35) (k1_pay421 v35) k1_pay422)
    (fun K => by unfold rest46; rw [k1_part46_eq_skeleton]; rfl)
    (by rintro rfl; exact ⟨rfl, rfl⟩)

/-- The first half from part 45. -/
def rest45 (v35 : IVec S64x128 32) (v1709 : FVec F S64x128 .f32) (v1713 : IVec S64x128 1) (v1728 : IVec S64x128 1) (v1729 : FVec F S64x128 .f32) (v1733 : FVec F S64x128 .f32) (v1737 : FVec F S64x128 .f32) (v1741 : FVec F S64x128 .f32) (c127_i32_753 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1765, v1769, v1773, v1777, v1781, v1783⟩ : Σ' (v1765 : FVec F S64x128 .f32) (v1769 : FVec F S64x128 .f32) (v1773 : FVec F S64x128 .f32) (v1777 : FVec F S64x128 .f32) (v1781 : FVec F S64x128 .f32), IVec S64x128 32 ← k1_part45 arg0 harg0 arg1 harg1 arg2 harg2 arg3 harg3 v35 v1709 v1713 v1728 v1729 v1733 v1737 v1741 c127_i32_753
  rest46 arg0 harg0 arg1 harg1 arg2 harg2 arg3 harg3 v35 v1765 v1769 v1773 v1777 v1781 v1783

/-- It hands four arrays on. -/
theorem chain45 (v35 : IVec S64x128 32) (v1709 : FVec F S64x128 .f32) (v1713 : IVec S64x128 1) (v1728 : IVec S64x128 1) (v1729 : FVec F S64x128 .f32) (v1733 : FVec F S64x128 .f32) (v1737 : FVec F S64x128 .f32) (v1741 : FVec F S64x128 .f32) (c127_i32_753 : BitVec 32) :
    Good (F := F) (v1737 = select v1728 (select v1713 (dynamicRotate 1 127#32 none v1709 rotates_S64x128_d1) (dynamicRotate 1 1#32 none v1709 rotates_S64x128_d1)) v1709 ∧ c127_i32_753 = 127#32) (fun K => rest45 arg0 harg0 arg1 harg1 arg2 harg2 arg3 harg3 v35 v1709 v1713 v1728 v1729 v1733 v1737 v1741 c127_i32_753 >>= glue arg0 harg0 arg1 harg1 arg2 harg2 arg3 harg3 K) :=
  Good.step (chain46 arg0 harg0 arg1 harg1 arg2 harg2 arg3 harg3 v35 (k1_pay406 v35 v1729) (k1_pay407 v35 v1729 v1733) (k1_pay408 v35 v1729 v1737) (k1_pay409 v35 v1729 v1741) (k1_pay410 v35 v1709 v1713 v1728 v1729 c127_i32_753) (k1_pay411 v35))
    (fun K => by unfold rest45; rw [k1_part45_eq_skeleton]; rfl)
    (by rintro ⟨rfl, rfl⟩; exact rfl)

/-- The first half from part 44. -/
def rest44 (v35 : IVec S64x128 32) (v1665 : FVec F S64x128 .f32) (v1669 : FVec F S64x128 .f32) (v1673 : FVec F S64x128 .f32) (v1677 : IVec S64x128 1) (v1692 : IVec S64x128 1) (v1693 : FVec F S64x128 .f32) (v1697 : FVec F S64x128 .f32) (v1700 : FVec F S64x128 .f32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1709, v1713, v1728, v1729, v1733, v1737, v1741, c127_i32_753⟩ : Σ' (v1709 : FVec F S64x128 .f32) (v1713 : IVec S64x128 1) (v1728 : IVec S64x128 1) (v1729 : FVec F S64x128 .f32) (v1733 : FVec F S64x128 .f32) (v1737 : FVec F S64x128 .f32) (v1741 : FVec F S64x128 .f32), BitVec 32 ← k1_part44 arg0 harg0 arg1 harg1 arg2 harg2 arg3 harg3 v35 v1665 v1669 v1673 v1677 v1692 v1693 v1697 v1700
  rest45 arg0 harg0 arg1 harg1 arg2 harg2 arg3 harg3 v35 v1709 v1713 v1728 v1729 v1733 v1737 v1741 c127_i32_753

/-- It hands four arrays on. -/
theorem chain44 (v35 : IVec S64x128 32) (v1665 : FVec F S64x128 .f32) (v1669 : FVec F S64x128 .f32) (v1673 : FVec F S64x128 .f32) (v1677 : IVec S64x128 1) (v1692 : IVec S64x128 1) (v1693 : FVec F S64x128 .f32) (v1697 : FVec F S64x128 .f32) (v1700 : FVec F S64x128 .f32) :
    Good (F := F) (v1665 = v1673 ∧ v1700 = select v1677 (dynamicRotate 1 126#32 none v1673 rotates_S64x128_d1) (dynamicRotate 1 2#32 none v1673 rotates_S64x128_d1)) (fun K => rest44 arg0 harg0 arg1 harg1 arg2 harg2 arg3 harg3 v35 v1665 v1669 v1673 v1677 v1692 v1693 v1697 v1700 >>= glue arg0 harg0 arg1 harg1 arg2 harg2 arg3 harg3 K) :=
  Good.step (chain45 arg0 harg0 arg1 harg1 arg2 harg2 arg3 harg3 v35 (k1_pay395 v1673 v1677 v1692) (k1_pay396 v35) (k1_pay398 v35 v1693) (k1_pay399 v35 v1693) (k1_pay400 v35 v1693 v1697) (k1_pay401 v35 v1665 v1692 v1693 v1700) (k1_pay402 v35 v1669 v1677 v1692 v1693) 127#32)
    (fun K => by unfold rest44; rw [k1_part44_eq_skeleton]; rfl)
    (by rintro ⟨rfl, rfl⟩; exact ⟨rfl, rfl⟩)

/-- The first half from part 43. -/
def rest43 (v35 : IVec S64x128 32) (v1625 : FVec F S64x128 .f32) (v1629 : FVec F S64x128 .f32) (v1633 : FVec F S64x128 .f32) (v1637 : FVec F S64x128 .f32) (v1641 : IVec S64x128 1) (v1656 : IVec S64x128 1) (v1657 : FVec F S64x128 .f32) (v1658 : FVec F S64x128 .f32) (c4_i32_716 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1665, v1669, v1673, v1677, v1692, v1693, v1697, v1700⟩ : Σ' (v1665 : FVec F S64x128 .f32) (v1669 : FVec F S64x128 .f32) (v1673 : FVec F S64x128 .f32) (v1677 : IVec S64x128 1) (v1692 : IVec S64x128 1) (v1693 : FVec F S64x128 .f32) (v1697 : FVec F S64x128 .f32), FVec F S64x128 .f32 ← k1_part43 arg0 harg0 arg1 harg1 arg2 harg2 arg3 harg3 v35 v1625 v1629 v1633 v1637 v1641 v1656 v1657 v1658 c4_i32_716
  rest44 arg0 harg0 arg1 harg1 arg2 harg2 arg3 harg3 v35 v1665 v1669 v1673 v1677 v1692 v1693 v1697 v1700

/-- It hands four arrays on. -/
theorem chain43 (v35 : IVec S64x128 32) (v1625 : FVec F S64x128 .f32) (v1629 : FVec F S64x128 .f32) (v1633 : FVec F S64x128 .f32) (v1637 : FVec F S64x128 .f32) (v1641 : IVec S64x128 1) (v1656 : IVec S64x128 1) (v1657 : FVec F S64x128 .f32) (v1658 : FVec F S64x128 .f32) (c4_i32_716 : BitVec 32) :
    Good (F := F) (v1629 = v1637 ∧ c4_i32_716 = 4#32) (fun K => rest43 arg0 harg0 arg1 harg1 arg2 harg2 arg3 harg3 v35 v1625 v1629 v1633 v1637 v1641 v1656 v1657 v1658 c4_i32_716 >>= glue arg0 harg0 arg1 harg1 arg2 harg2 arg3 harg3 K) :=
  Good.step (chain44 arg0 harg0 arg1 harg1 arg2 harg2 arg3 harg3 v35 (k1_pay386 v1629 v1641 v1656) (k1_pay387 v1633 v1641 v1656) (k1_pay388 v1637 v1641 v1656) (k1_pay389 v35) (k1_pay391 v35 v1657) (k1_pay392 v35 v1657) (k1_pay393 v35 v1625 v1641 v1656 v1657 v1658 c4_i32_716) (k1_pay394 v35 v1629 v1641 v1656))
    (fun K => by unfold rest43; rw [k1_part43_eq_skeleton]; rfl)
    (by rintro ⟨rfl, rfl⟩; exact ⟨rfl, rfl⟩)

/-- The first half from part 42. -/
def rest42 (v35 : IVec S64x128 32) (v1585 : FVec F S64x128 .f32) (v1589 : FVec F S64x128 .f32) (v1593 : FVec F S64x128 .f32) (v1597 : FVec F S64x128 .f32) (v1601 : FVec F S64x128 .f32) (v1605 : IVec S64x128 1) (v1612 : FVec F S64x128 .f32) (v1614 : IVec S64x128 1) (v1616 : IVec S64x128 1) (cst_698 : IVec S64x128 1) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1625, v1629, v1633, v1637, v1641, v1656, v1657, v1658, c4_i32_716⟩ : Σ' (v1625 : FVec F S64x128 .f32) (v1629 : FVec F S64x128 .f32) (v1633 : FVec F S64x128 .f32) (v1637 : FVec F S64x128 .f32) (v1641 : IVec S64x128 1) (v1656 : IVec S64x128 1) (v1657 : FVec F S64x128 .f32) (v1658 : FVec F S64x128 .f32), BitVec 32 ← k1_part42 arg0 harg0 arg1 harg1 arg2 harg2 arg3 harg3 v35 v1585 v1589 v1593 v1597 v1601 v1605 v1612 v1614 v1616 cst_698
  rest43 arg0 harg0 arg1 harg1 arg2 harg2 arg3 harg3 v35 v1625 v1629 v1633 v1637 v1641 v1656 v1657 v1658 c4_i32_716

/-- It hands four arrays on. -/
theorem chain42 (v35 : IVec S64x128 32) (v1585 : FVec F S64x128 .f32) (v1589 : FVec F S64x128 .f32) (v1593 : FVec F S64x128 .f32) (v1597 : FVec F S64x128 .f32) (v1601 : FVec F S64x128 .f32) (v1605 : IVec S64x128 1) (v1612 : FVec F S64x128 .f32) (v1614 : IVec S64x128 1) (v1616 : IVec S64x128 1) (cst_698 : IVec S64x128 1) :
    Good (F := F) (v1593 = v1601 ∧ cst_698 = constantI S64x128 1 1#1) (fun K => rest42 arg0 harg0 arg1 harg1 arg2 harg2 arg3 harg3 v35 v1585 v1589 v1593 v1597 v1601 v1605 v1612 v1614 v1616 cst_698 >>= glue arg0 harg0 arg1 harg1 arg2 harg2 arg3 harg3 K) :=
  Good.step (chain43 arg0 harg0 arg1 harg1 arg2 harg2 arg3 harg3 v35 (k1_pay377 v1585 v1589 v1605 v1612 v1614 v1616 cst_698) (k1_pay378 v1585 v1593 v1605 v1612 v1614 v1616 cst_698) (k1_pay379 v1585 v1597 v1605 v1612 v1614 v1616 cst_698) (k1_pay380 v1585 v1601 v1605 v1612 v1614 v1616 cst_698) (k1_pay381 v35) (k1_pay383 v35 v1585 v1612 v1614 v1616 cst_698) (k1_pay384 v35 v1585 v1612 v1614 v1616 cst_698) (k1_pay385 v1585 v1589 v1605 v1612 v1614 v1616 cst_698) 4#32)
    (fun K => by unfold rest42; rw [k1_part42_eq_skeleton]; rfl)
    (by rintro ⟨rfl, rfl⟩; exact ⟨rfl, rfl⟩)

/-- The first half from part 41. -/
def rest41 (v35 : IVec S64x128 32) (v1549 : FVec F S64x128 .f32) (v1553 : FVec F S64x128 .f32) (v1557 : FVec F S64x128 .f32) (v1561 : FVec F S64x128 .f32) (v1565 : FVec F S64x128 .f32) (v1569 : IVec S64x128 1) (v1573 : IVec S64x128 1) (v1574 : FVec F S64x128 .f32) (c16_i32_680 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1585, v1589, v1593, v1597, v1601, v1605, v1612, v1614, v1616, cst_698⟩ : Σ' (v1585 : FVec F S64x128 .f32) (v1589 : FVec F S64x128 .f32) (v1593 : FVec F S64x128 .f32) (v1597 : FVec F S64x128 .f32) (v1601 : FVec F S64x128 .f32) (v1605 : IVec S64x128 1) (v1612 : FVec F S64x128 .f32) (v1614 : IVec S64x128 1) (v1616 : IVec S64x128 1), IVec S64x128 1 ← k1_part41 arg0 harg0 arg1 harg1 arg2 harg2 arg3 harg3 v35 v1549 v1553 v1557 v1561 v1565 v1569 v1573 v1574 c16_i32_680
  rest42 arg0 harg0 arg1 harg1 arg2 harg2 arg3 harg3 v35 v1585 v1589 v1593 v1597 v1601 v1605 v1612 v1614 v1616 cst_698

/-- It hands four arrays on. -/
theorem chain41 (v35 : IVec S64x128 32) (v1549 : FVec F S64x128 .f32) (v1553 : FVec F S64x128 .f32) (v1557 : FVec F S64x128 .f32) (v1561 : FVec F S64x128 .f32) (v1565 : FVec F S64x128 .f32) (v1569 : IVec S64x128 1) (v1573 : IVec S64x128 1) (v1574 : FVec F S64x128 .f32) (c16_i32_680 : BitVec 32) :
    Good (F := F) (v1557 = v1565 ∧ c16_i32_680 = 16#32) (fun K => rest41 arg0 harg0 arg1 harg1 arg2 harg2 arg3 harg3 v35 v1549 v1553 v1557 v1561 v1565 v1569 v1573 v1574 c16_i32_680 >>= glue arg0 harg0 arg1 harg1 arg2 harg2 arg3 harg3 K) :=
  Good.step (chain42 arg0 harg0 arg1 harg1 arg2 harg2 arg3 harg3 v35 (k1_pay366 v1549 v1569 v1573 v1574 c16_i32_680) (k1_pay367 v1549 v1553 v1569 v1573 v1574 c16_i32_680) (k1_pay368 v1549 v1557 v1569 v1573 v1574 c16_i32_680) (k1_pay369 v1549 v1561 v1569 v1573 v1574 c16_i32_680) (k1_pay370 v1549 v1565 v1569 v1573 v1574 c16_i32_680) (k1_pay371 v35) (k1_pay372 v35 v1549 v1569 v1573 v1574 c16_i32_680) (k1_pay373 v35) (k1_pay374 v35 v1549 v1569 v1573 v1574 c16_i32_680) (constantI S64x128 1 1#1))
    (fun K => by unfold rest41; rw [k1_part41_eq_skeleton]; rfl)
    (by rintro ⟨rfl, rfl⟩; exact ⟨rfl, rfl⟩)

/-- The first half from part 40. -/
def rest40 (v35 : IVec S64x128 32) (v1513 : FVec F S64x128 .f32) (v1517 : FVec F S64x128 .f32) (v1521 : FVec F S64x128 .f32) (v1525 : FVec F S64x128 .f32) (v1529 : FVec F S64x128 .f32) (v1533 : IVec S64x128 1) (c512_i32_661 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1549, v1553, v1557, v1561, v1565, v1569, v1573, v1574, c16_i32_680⟩ : Σ' (v1549 : FVec F S64x128 .f32) (v1553 : FVec F S64x128 .f32) (v1557 : FVec F S64x128 .f32) (v1561 : FVec F S64x128 .f32) (v1565 : FVec F S64x128 .f32) (v1569 : IVec S64x128 1) (v1573 : IVec S64x128 1) (v1574 : FVec F S64x128 .f32), BitVec 32 ← k1_part40 arg0 harg0 arg1 harg1 arg2 harg2 arg3 harg3 v35 v1513 v1517 v1521 v1525 v1529 v1533 c512_i32_661
  rest41 arg0 harg0 arg1 harg1 arg2 harg2 arg3 harg3 v35 v1549 v1553 v1557 v1561 v1565 v1569 v1573 v1574 c16_i32_680

/-- It hands four arrays on. -/
theorem chain40 (v35 : IVec S64x128 32) (v1513 : FVec F S64x128 .f32) (v1517 : FVec F S64x128 .f32) (v1521 : FVec F S64x128 .f32) (v1525 : FVec F S64x128 .f32) (v1529 : FVec F S64x128 .f32) (v1533 : IVec S64x128 1) (c512_i32_661 : BitVec 32) :
    Good (F := F) (v1521 = v1529 ∧ c512_i32_661 = 512#32) (fun K => rest40 arg0 harg0 arg1 harg1 arg2 harg2 arg3 harg3 v35 v1513 v1517 v1521 v1525 v1529 v1533 c512_i32_661 >>= glue arg0 harg0 arg1 harg1 arg2 harg2 arg3 harg3 K) :=
  Good.step (chain41 arg0 harg0 arg1 harg1 arg2 harg2 arg3 harg3 v35 (k1_pay356 v35 v1513 v1533 c512_i32_661) (k1_pay357 v35 v1513 v1517 v1533 c512_i32_661) (k1_pay358 v35 v1513 v1521 v1533 c512_i32_661) (k1_pay359 v35 v1513 v1525 v1533 c512_i32_661) (k1_pay360 v35 v1513 v1529 v1533 c512_i32_661) (k1_pay361 v35) (k1_pay362 v35) (k1_pay363 v35 v1513 v1533 c512_i32_661) 16#32)
    (fun K => by unfold rest40; rw [k1_part40_eq_skeleton]; rfl)
    (by rintro ⟨rfl, rfl⟩; exact ⟨rfl, rfl⟩)

/-- The first half from part 39. -/
def rest39 (v35 : IVec S64x128 32) (v1457 : FVec F S64x128 .f32) (v1476 : IVec S64x128 1) (v1477 : FVec F S64x128 .f32) (v1481 : FVec F S64x128 .f32) (v1485 : FVec F S64x128 .f32) (v1489 : FVec F S64x128 .f32) (v1492 : FVec F S64x128 .f32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1513, v1517, v1521, v1525, v1529, v1533, c512_i32_661⟩ : Σ' (v1513 : FVec F S64x128 .f32) (v1517 : FVec F S64x128 .f32) (v1521 : FVec F S64x128 .f32) (v1525 : FVec F S64x128 .f32) (v1529 : FVec F S64x128 .f32) (v1533 : IVec S64x128 1), BitVec 32 ← k1_part39 arg0 harg0 arg1 harg1 arg2 harg2 arg3 harg3 v35 v1457 v1476 v1477 v1481 v1485 v1489 v1492
  rest40 arg0 harg0 arg1 harg1 arg2 harg2 arg3 harg3 v35 v1513 v1517 v1521 v1525 v1529 v1533 c512_i32_661

/-- It hands four arrays on. -/
theorem chain39 (v35 : IVec S64x128 32) (v1457 : FVec F S64x128 .f32) (v1476 : IVec S64x128 1) (v1477 : FVec F S64x128 .f32) (v1481 : FVec F S64x128 .f32) (v1485 : FVec F S64x128 .f32) (v1489 : FVec F S64x128 .f32) (v1492 : FVec F S64x128 .f32) :
    Good (F := F) (v1485 = select v1476 v1492 v1457) (fun K => rest39 arg0 harg0 arg1 harg1 arg2 harg2 arg3 harg3 v35 v1457 v1476 v1477 v1481 v1485 v1489 v1492 >>= glue arg0 harg0 arg1 harg1 arg2 harg2 arg3 harg3 K) :=
  Good.step (chain40 arg0 harg0 arg1 harg1 arg2 harg2 arg3 harg3 v35 (k1_pay348 v35 v1477) (k1_pay349 v35 v1477 v1481) (k1_pay350 v35 v1477 v1485) (k1_pay351 v35 v1477 v1489) (k1_pay352 v35 v1457 v1476 v1477 v1492) (k1_pay353 v35) 512#32)
    (fun K => by unfold rest39; rw [k1_part39_eq_skeleton]; rfl)
    (by rintro rfl; exact ⟨rfl, rfl⟩)

/-- The first half from part 38. -/
def rest38 (v35 : IVec S64x128 32) (v1417 : FVec F S64x128 .f32) (v1421 : FVec F S64x128 .f32) (v1425 : IVec S64x128 1) (v1440 : IVec S64x128 1) (v1441 : FVec F S64x128 .f32) (v1445 : FVec F S64x128 .f32) (v1449 : FVec F S64x128 .f32) (v1450 : FVec F S64x128 .f32) (c2_i32_624 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1457, v1476, v1477, v1481, v1485, v1489, v1492⟩ : Σ' (v1457 : FVec F S64x128 .f32) (v1476 : IVec S64x128 1) (v1477 : FVec F S64x128 .f32) (v1481 : FVec F S64x128 .f32) (v1485 : FVec F S64x128 .f32) (v1489 : FVec F S64x128 .f32), FVec F S64x128 .f32 ← k1_part38 arg0 harg0 arg1 harg1 arg2 harg2 arg3 harg3 v35 v1417 v1421 v1425 v1440 v1441 v1445 v1449 v1450 c2_i32_624
  rest39 arg0 harg0 arg1 harg1 arg2 harg2 arg3 harg3 v35 v1457 v1476 v1477 v1481 v1485 v1489 v1492

/-- It hands four arrays on. -/
theorem chain38 (v35 : IVec S64x128 32) (v1417 : FVec F S64x128 .f32) (v1421 : FVec F S64x128 .f32) (v1425 : IVec S64x128 1) (v1440 : IVec S64x128 1) (v1441 : FVec F S64x128 .f32) (v1445 : FVec F S64x128 .f32) (v1449 : FVec F S64x128 .f32) (v1450 : FVec F S64x128 .f32) (c2_i32_624 : BitVec 32) :
    Good (F := F) (v1449 = select v1440 (select v1425 (dynamicRotate 0 62#32 none v1421 rotates_S64x128_d0) (dynamicRotate 0 2#32 none v1421 rotates_S64x128_d0)) v1421 ∧ c2_i32_624 = 2#32) (fun K => rest38 arg0 harg0 arg1 harg1 arg2 harg2 arg3 harg3 v35 v1417 v1421 v1425 v1440 v1441 v1445 v1449 v1450 c2_i32_624 >>= glue arg0 harg0 arg1 harg1 arg2 harg2 arg3 harg3 K) :=
  Good.step (chain39 arg0 harg0 arg1 harg1 arg2 harg2 arg3 harg3 v35 (k1_pay336 v1421 v1425 v1440) (k1_pay339 v35 v1441) (k1_pay340 v35 v1441) (k1_pay341 v35 v1441 v1445) (k1_pay342 v35 v1441 v1449) (k1_pay343 v35 v1417 v1425 v1440 v1441 v1450 c2_i32_624) (k1_pay344 v35 v1421 v1425 v1440))
    (fun K => by unfold rest38; rw [k1_part38_eq_skeleton]; rfl)
    (by rintro ⟨rfl, rfl⟩; exact rfl)

/-- The first half from part 37. -/
def rest37 (v35 : IVec S64x128 32) (v1377 : FVec F S64x128 .f32) (v1381 : FVec F S64x128 .f32) (v1385 : FVec F S64x128 .f32) (v1389 : IVec S64x128 1) (v1404 : IVec S64x128 1) (v1405 : FVec F S64x128 .f32) (v1409 : FVec F S64x128 .f32) (c127_i32_607 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1417, v1421, v1425, v1440, v1441, v1445, v1449, v1450, c2_i32_624⟩ : Σ' (v1417 : FVec F S64x128 .f32) (v1421 : FVec F S64x128 .f32) (v1425 : IVec S64x128 1) (v1440 : IVec S64x128 1) (v1441 : FVec F S64x128 .f32) (v1445 : FVec F S64x128 .f32) (v1449 : FVec F S64x128 .f32) (v1450 : FVec F S64x128 .f32), BitVec 32 ← k1_part37 arg0 harg0 arg1 harg1 arg2 harg2 arg3 harg3 v35 v1377 v1381 v1385 v1389 v1404 v1405 v1409 c127_i32_607
  rest38 arg0 harg0 arg1 harg1 arg2 harg2 arg3 harg3 v35 v1417 v1421 v1425 v1440 v1441 v1445 v1449 v1450 c2_i32_624

/-- It hands four arrays on. -/
theorem chain37 (v35 : IVec S64x128 32) (v1377 : FVec F S64x128 .f32) (v1381 : FVec F S64x128 .f32) (v1385 : FVec F S64x128 .f32) (v1389 : IVec S64x128 1) (v1404 : IVec S64x128 1) (v1405 : FVec F S64x128 .f32) (v1409 : FVec F S64x128 .f32) (c127_i32_607 : BitVec 32) :
    Good (F := F) (v1377 = v1385 ∧ c127_i32_607 = 127#32) (fun K => rest37 arg0 harg0 arg1 harg1 arg2 harg2 arg3 harg3 v35 v1377 v1381 v1385 v1389 v1404 v1405 v1409 c127_i32_607 >>= glue arg0 harg0 arg1 harg1 arg2 harg2 arg3 harg3 K) :=
  Good.step (chain38 arg0 harg0 arg1 harg1 arg2 harg2 arg3 harg3 v35 (k1_pay327 v1381 v1389 v1404) (k1_pay328 v1385 v1389 v1404) (k1_pay329 v35) (k1_pay331 v35 v1405) (k1_pay332 v35 v1405) (k1_pay333 v35 v1405 v1409) (k1_pay334 v35 v1377 v1389 v1404 v1405 c127_i32_607) (k1_pay335 v1381 v1389 v1404) 2#32)
    (fun K => by unfold rest37; rw [k1_part37_eq_skeleton]; rfl)
    (by rintro ⟨rfl, rfl⟩; exact ⟨rfl, rfl⟩)

/-- The first half from part 36. -/
def rest36 (v35 : IVec S64x128 32) (v1333 : FVec F S64x128 .f32) (v1337 : FVec F S64x128 .f32) (v1341 : FVec F S64x128 .f32) (v1345 : FVec F S64x128 .f32) (v1349 : FVec F S64x128 .f32) (v1353 : IVec S64x128 1) (v1360 : FVec F S64x128 .f32) (v1368 : IVec S64x128 1) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1377, v1381, v1385, v1389, v1404, v1405, v1409, c127_i32_607⟩ : Σ' (v1377 : FVec F S64x128 .f32) (v1381 : FVec F S64x128 .f32) (v1385 : FVec F S64x128 .f32) (v1389 : IVec S64x128 1) (v1404 : IVec S64x128 1) (v1405 : FVec F S64x128 .f32) (v1409 : FVec F S64x128 .f32), BitVec 32 ← k1_part36 arg0 harg0 arg1 harg1 arg2 harg2 arg3 harg3 v35 v1333 v1337 v1341 v1345 v1349 v1353 v1360 v1368
  rest37 arg0 harg0 arg1 harg1 arg2 harg2 arg3 harg3 v35 v1377 v1381 v1385 v1389 v1404 v1405 v1409 c127_i32_607

/-- It hands four arrays on. -/
theorem chain36 (v35 : IVec S64x128 32) (v1333 : FVec F S64x128 .f32) (v1337 : FVec F S64x128 .f32) (v1341 : FVec F S64x128 .f32) (v1345 : FVec F S64x128 .f32) (v1349 : FVec F S64x128 .f32) (v1353 : IVec S64x128 1) (v1360 : FVec F S64x128 .f32) (v1368 : IVec S64x128 1) :
    Good (F := F) (v1341 = v1349) (fun K => rest36 arg0 harg0 arg1 harg1 arg2 harg2 arg3 harg3 v35 v1333 v1337 v1341 v1345 v1349 v1353 v1360 v1368 >>= glue arg0 harg0 arg1 harg1 arg2 harg2 arg3 harg3 K) :=
  Good.step (chain37 arg0 harg0 arg1 harg1 arg2 harg2 arg3 harg3 v35 (k1_pay319 v1341 v1353 v1368) (k1_pay320 v1345 v1353 v1368) (k1_pay321 v1349 v1353 v1368) (k1_pay322 v35) (k1_pay324 v35 v1333 v1360 v1368) (k1_pay325 v35 v1333 v1360 v1368) (k1_pay326 v35 v1333 v1337 v1353 v1360 v1368) 127#32)
    (fun K => by unfold rest36; rw [k1_part36_eq_skeleton]; rfl)
    (by rintro rfl; exact ⟨rfl, rfl⟩)

/-- The first half from part 35. -/
def rest35 (v35 : IVec S64x128 32) (v1297 : FVec F S64x128 .f32) (v1301 : FVec F S64x128 .f32) (v1305 : FVec F S64x128 .f32) (v1309 : FVec F S64x128 .f32) (v1313 : FVec F S64x128 .f32) (v1317 : IVec S64x128 1) (v1324 : FVec F S64x128 .f32) (v1325 : IVec S64x128 1) (cst_571 : IVec S64x128 1) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1333, v1337, v1341, v1345, v1349, v1353, v1360, v1368⟩ : Σ' (v1333 : FVec F S64x128 .f32) (v1337 : FVec F S64x128 .f32) (v1341 : FVec F S64x128 .f32) (v1345 : FVec F S64x128 .f32) (v1349 : FVec F S64x128 .f32) (v1353 : IVec S64x128 1) (v1360 : FVec F S64x128 .f32), IVec S64x128 1 ← k1_part35 arg0 harg0 arg1 harg1 arg2 harg2 arg3 harg3 v35 v1297 v1301 v1305 v1309 v1313 v1317 v1324 v1325 cst_571
  rest36 arg0 harg0 arg1 harg1 arg2 harg2 arg3 harg3 v35 v1333 v1337 v1341 v1345 v1349 v1353 v1360 v1368

/-- It hands four arrays on. -/
theorem chain35 (v35 : IVec S64x128 32) (v1297 : FVec F S64x128 .f32) (v1301 : FVec F S64x128 .f32) (v1305 : FVec F S64x128 .f32) (v1309 : FVec F S64x128 .f32) (v1313 : FVec F S64x128 .f32) (v1317 : IVec S64x128 1) (v1324 : FVec F S64x128 .f32) (v1325 : IVec S64x128 1) (cst_571 : IVec S64x128 1) :
    Good (F := F) (v1305 = v1313 ∧ cst_571 = constantI S64x128 1 1#1) (fun K => rest35 arg0 harg0 arg1 harg1 arg2 harg2 arg3 harg3 v35 v1297 v1301 v1305 v1309 v1313 v1317 v1324 v1325 cst_571 >>= glue arg0 harg0 arg1 harg1 arg2 harg2 arg3 harg3 K) :=
  Good.step (chain36 arg0 harg0 arg1 harg1 arg2 harg2 arg3 harg3 v35 (k1_pay310 v1297 v1324 v1325 cst_571) (k1_pay311 v1297 v1301 v1317 v1324 v1325 cst_571) (k1_pay312 v1297 v1305 v1317 v1324 v1325 cst_571) (k1_pay313 v1297 v1309 v1317 v1324 v1325 cst_571) (k1_pay314 v1297 v1313 v1317 v1324 v1325 cst_571) (k1_pay315 v35) (k1_pay316 v35 v1297 v1324 v1325 cst_571) (k1_pay317 v35 v1297 v1324 v1325 cst_571))
    (fun K => by unfold rest35; rw [k1_part35_eq_skeleton]; rfl)
    (by rintro ⟨rfl, rfl⟩; exact rfl)

/-- The first half from part 34. -/
def rest34 (v35 : IVec S64x128 32) (v1261 : FVec F S64x128 .f32) (v1265 : FVec F S64x128 .f32) (v1269 : FVec F S64x128 .f32) (v1273 : FVec F S64x128 .f32) (v1277 : FVec F S64x128 .f32) (v1281 : IVec S64x128 1) (v1283 : IVec S64x128 32) (v1284 : IVec S64x128 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1297, v1301, v1305, v1309, v1313, v1317, v1324, v1325, cst_571⟩ : Σ' (v1297 : FVec F S64x128 .f32) (v1301 : FVec F S64x128 .f32) (v1305 : FVec F S64x128 .f32) (v1309 : FVec F S64x128 .f32) (v1313 : FVec F S64x128 .f32) (v1317 : IVec S64x128 1) (v1324 : FVec F S64x128 .f32) (v1325 : IVec S64x128 1), IVec S64x128 1 ← k1_part34 arg0 harg0 arg1 harg1 arg2 harg2 arg3 harg3 v35 v1261 v1265 v1269 v1273 v1277 v1281 v1283 v1284
  rest35 arg0 harg0 arg1 harg1 arg2 harg2 arg3 harg3 v35 v1297 v1301 v1305 v1309 v1313 v1317 v1324 v1325 cst_571

/-- It hands four arrays on. -/
theorem chain34 (v35 : IVec S64x128 32) (v1261 : FVec F S64x128 .f32) (v1265 : FVec F S64x128 .f32) (v1269 : FVec F S64x128 .f32) (v1273 : FVec F S64x128 .f32) (v1277 : FVec F S64x128 .f32) (v1281 : IVec S64x128 1) (v1283 : IVec S64x128 32) (v1284 : IVec S64x128 32) :
    Good (F := F) (v1269 = v1277 ∧ v1284 = broadcast S64x128 0#32) (fun K => rest34 arg0 harg0 arg1 harg1 arg2 harg2 arg3 harg3 v35 v1261 v1265 v1269 v1273 v1277 v1281 v1283 v1284 >>= glue arg0 harg0 arg1 harg1 arg2 harg2 arg3 harg3 K) :=
  Good.step (chain35 arg0 harg0 arg1 harg1 arg2 harg2 arg3 harg3 v35 (k1_pay301 v1261 v1281 v1283 v1284) (k1_pay302 v1261 v1265 v1281 v1283 v1284) (k1_pay303 v1261 v1269 v1281 v1283 v1284) (k1_pay304 v1261 v1273 v1281 v1283 v1284) (k1_pay305 v1261 v1277 v1281 v1283 v1284) (k1_pay306 v35) (k1_pay307 v35 v1261 v1281 v1283 v1284) (k1_pay308 v35) (constantI S64x128 1 1#1))
    (fun K => by unfold rest34; rw [k1_part34_eq_skeleton]; rfl)
    (by rintro ⟨rfl, rfl⟩; exact ⟨rfl, rfl⟩)

/-- The first half from part 33. -/
def rest33 (v35 : IVec S64x128 32) (v1225 : FVec F S64x128 .f32) (v1229 : FVec F S64x128 .f32) (v1233 : FVec F S64x128 .f32) (v1237 : FVec F S64x128 .f32) (v1241 : FVec F S64x128 .f32) (v1243 : IVec S64x128 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1261, v1265, v1269, v1273, v1277, v1281, v1283, v1284⟩ : Σ' (v1261 : FVec F S64x128 .f32) (v1265 : FVec F S64x128 .f32) (v1269 : FVec F S64x128 .f32) (v1273 : FVec F S64x128 .f32) (v1277 : FVec F S64x128 .f32) (v1281 : IVec S64x128 1) (v1283 : IVec S64x128 32), IVec S64x128 32 ← k1_part33 arg0 harg0 arg1 harg1 arg2 harg2 arg3 harg3 v35 v1225 v1229 v1233 v1237 v1241 v1243
  rest34 arg0 harg0 arg1 harg1 arg2 harg2 arg3 harg3 v35 v1261 v1265 v1269 v1273 v1277 v1281 v1283 v1284

/-- It hands four arrays on. -/
theorem chain33 (v35 : IVec S64x128 32) (v1225 : FVec F S64x128 .f32) (v1229 : FVec F S64x128 .f32) (v1233 : FVec F S64x128 .f32) (v1237 : FVec F S64x128 .f32) (v1241 : FVec F S64x128 .f32) (v1243 : IVec S64x128 32) :
    Good (F := F) (v1233 = v1241) (fun K => rest33 arg0 harg0 arg1 harg1 arg2 harg2 arg3 harg3 v35 v1225 v1229 v1233 v1237 v1241 v1243 >>= glue arg0 harg0 arg1 harg1 arg2 harg2 arg3 harg3 K) :=
  Good.step (chain34 arg0 harg0 arg1 harg1 arg2 harg2 arg3 harg3 v35 (k1_pay291 v35 v1225 v1243) (k1_pay292 v35 v1225 v1229 v1243) (k1_pay293 v35 v1225 v1233 v1243) (k1_pay294 v35 v1225 v1237 v1243) (k1_pay295 v35 v1225 v1241 v1243) (k1_pay296 v35) (k1_pay297 v35) k1_pay298)
    (fun K => by unfold rest33; rw [k1_part33_eq_skeleton]; rfl)
    (by rintro rfl; exact ⟨rfl, rfl⟩)

/-- The first half from part 32. -/
def rest32 (v35 : IVec S64x128 32) (v1169 : FVec F S64x128 .f32) (v1173 : IVec S64x128 1) (v1188 : IVec S64x128 1) (v1189 : FVec F S64x128 .f32) (v1193 : FVec F S64x128 .f32) (v1197 : FVec F S64x128 .f32) (v1201 : FVec F S64x128 .f32) (c64_i32_515 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1225, v1229, v1233, v1237, v1241, v1243⟩ : Σ' (v1225 : FVec F S64x128 .f32) (v1229 : FVec F S64x128 .f32) (v1233 : FVec F S64x128 .f32) (v1237 : FVec F S64x128 .f32) (v1241 : FVec F S64x128 .f32), IVec S64x128 32 ← k1_part32 arg0 harg0 arg1 harg1 arg2 harg2 arg3 harg3 v35 v1169 v1173 v1188 v1189 v1193 v1197 v1201 c64_i32_515
  rest33 arg0 harg0 arg1 harg1 arg2 harg2 arg3 harg3 v35 v1225 v1229 v1233 v1237 v1241 v1243

/-- It hands four arrays on. -/
theorem chain32 (v35 : IVec S64x128 32) (v1169 : FVec F S64x128 .f32) (v1173 : IVec S64x128 1) (v1188 : IVec S64x128 1) (v1189 : FVec F S64x128 .f32) (v1193 : FVec F S64x128 .f32) (v1197 : FVec F S64x128 .f32) (v1201 : FVec F S64x128 .f32) (c64_i32_515 : BitVec 32) :
    Good (F := F) (v1197 = select v1188 (select v1173 (dynamicRotate 1 64#32 none v1169 rotates_S64x128_d1) (dynamicRotate 1 64#32 none v1169 rotates_S64x128_d1)) v1169 ∧ c64_i32_515 = 64#32) (fun K => rest32 arg0 harg0 arg1 harg1 arg2 harg2 arg3 harg3 v35 v1169 v1173 v1188 v1189 v1193 v1197 v1201 c64_i32_515 >>= glue arg0 harg0 arg1 harg1 arg2 harg2 arg3 harg3 K) :=
  Good.step (chain33 arg0 harg0 arg1 harg1 arg2 harg2 arg3 harg3 v35 (k1_pay282 v35 v1189) (k1_pay283 v35 v1189 v1193) (k1_pay284 v35 v1189 v1197) (k1_pay285 v35 v1189 v1201) (k1_pay286 v35 v1169 v1173 v1188 v1189 c64_i32_515) (k1_pay287 v35))
    (fun K => by unfold rest32; rw [k1_part32_eq_skeleton]; rfl)
    (by rintro ⟨rfl, rfl⟩; exact rfl)

/-- The first half from part 31. -/
def rest31 (v35 : IVec S64x128 32) (v1125 : FVec F S64x128 .f32) (v1129 : FVec F S64x128 .f32) (v1133 : FVec F S64x128 .f32) (v1137 : IVec S64x128 1) (v1152 : IVec S64x128 1) (v1153 : FVec F S64x128 .f32) (v1157 : FVec F S64x128 .f32) (v1160 : FVec F S64x128 .f32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1169, v1173, v1188, v1189, v1193, v1197, v1201, c64_i32_515⟩ : Σ' (v1169 : FVec F S64x128 .f32) (v1173 : IVec S64x128 1) (v1188 : IVec S64x128 1) (v1189 : FVec F S64x128 .f32) (v1193 : FVec F S64x128 .f32) (v1197 : FVec F S64x128 .f32) (v1201 : FVec F S64x128 .f32), BitVec 32 ← k1_part31 arg0 harg0 arg1 harg1 arg2 harg2 arg3 harg3 v35 v1125 v1129 v1133 v1137 v1152 v1153 v1157 v1160
  rest32 arg0 harg0 arg1 harg1 arg2 harg2 arg3 harg3 v35 v1169 v1173 v1188 v1189 v1193 v1197 v1201 c64_i32_515

/-- It hands four arrays on. -/
theorem chain31 (v35 : IVec S64x128 32) (v1125 : FVec F S64x128 .f32) (v1129 : FVec F S64x128 .f32) (v1133 : FVec F S64x128 .f32) (v1137 : IVec S64x128 1) (v1152 : IVec S64x128 1) (v1153 : FVec F S64x128 .f32) (v1157 : FVec F S64x128 .f32) (v1160 : FVec F S64x128 .f32) :
    Good (F := F) (v1125 = v1133 ∧ v1160 = select v1137 (dynamicRotate 0 63#32 none v1133 rotates_S64x128_d0) (dynamicRotate 0 1#32 none v1133 rotates_S64x128_d0)) (fun K => rest31 arg0 harg0 arg1 harg1 arg2 harg2 arg3 harg3 v35 v1125 v1129 v1133 v1137 v1152 v1153 v1157 v1160 >>= glue arg0 harg0 arg1 harg1 arg2 harg2 arg3 harg3 K) :=
  Good.step (chain32 arg0 harg0 arg1 harg1 arg2 harg2 arg3 harg3 v35 (k1_pay271 v1133 v1137 v1152) (k1_pay272 v35) (k1_pay274 v35 v1153) (k1_pay275 v35 v1153) (k1_pay276 v35 v1153 v1157) (k1_pay277 v35 v1125 v1152 v1153 v1160) (k1_pay278 v35 v1129 v1137 v1152 v1153) 64#32)
    (fun K => by unfold rest31; rw [k1_part31_eq_skeleton]; rfl)
    (by rintro ⟨rfl, rfl⟩; exact ⟨rfl, rfl⟩)

/-- The first half from part 30. -/
def rest30 (v35 : IVec S64x128 32) (v1085 : FVec F S64x128 .f32) (v1089 : FVec F S64x128 .f32) (v1093 : FVec F S64x128 .f32) (v1097 : FVec F S64x128 .f32) (v1101 : IVec S64x128 1) (v1116 : IVec S64x128 1) (v1117 : FVec F S64x128 .f32) (v1118 : FVec F S64x128 .f32) (c1_i32_480 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1125, v1129, v1133, v1137, v1152, v1153, v1157, v1160⟩ : Σ' (v1125 : FVec F S64x128 .f32) (v1129 : FVec F S64x128 .f32) (v1133 : FVec F S64x128 .f32) (v1137 : IVec S64x128 1) (v1152 : IVec S64x128 1) (v1153 : FVec F S64x128 .f32) (v1157 : FVec F S64x128 .f32), FVec F S64x128 .f32 ← k1_part30 arg0 harg0 arg1 harg1 arg2 harg2 arg3 harg3 v35 v1085 v1089 v1093 v1097 v1101 v1116 v1117 v1118 c1_i32_480
  rest31 arg0 harg0 arg1 harg1 arg2 harg2 arg3 harg3 v35 v1125 v1129 v1133 v1137 v1152 v1153 v1157 v1160

/-- It hands four arrays on. -/
theorem chain30 (v35 : IVec S64x128 32) (v1085 : FVec F S64x128 .f32) (v1089 : FVec F S64x128 .f32) (v1093 : FVec F S64x128 .f32) (v1097 : FVec F S64x128 .f32) (v1101 : IVec S64x128 1) (v1116 : IVec S64x128 1) (v1117 : FVec F S64x128 .f32) (v1118 : FVec F S64x128 .f32) (c1_i32_480 : BitVec 32) :
    Good (F := F) (v1089 = v1097 ∧ c1_i32_480 = 1#32) (fun K => rest30 arg0 harg0 arg1 harg1 arg2 harg2 arg3 harg3 v35 v1085 v1089 v1093 v1097 v1101 v1116 v1117 v1118 c1_i32_480 >>= glue arg0 harg0 arg1 harg1 arg2 harg2 arg3 harg3 K) :=
  Good.step (chain31 arg0 harg0 arg1 harg1 arg2 harg2 arg3 harg3 v35 (k1_pay262 v1089 v1101 v1116) (k1_pay263 v1093 v1101 v1116) (k1_pay264 v1097 v1101 v1116) (k1_pay265 v35) (k1_pay267 v35 v1117) (k1_pay268 v35 v1117) (k1_pay269 v35 v1085 v1101 v1116 v1117 v1118 c1_i32_480) (k1_pay270 v35 v1089 v1101 v1116))
    (fun K => by unfold rest30; rw [k1_part30_eq_skeleton]; rfl)
    (by rintro ⟨rfl, rfl⟩; exact ⟨rfl, rfl⟩)

/-- The first half from part 29. -/
def rest29 (v35 : IVec S64x128 32) (v1045 : FVec F S64x128 .f32) (v1049 : FVec F S64x128 .f32) (v1053 : FVec F S64x128 .f32) (v1057 : FVec F S64x128 .f32) (v1061 : FVec F S64x128 .f32) (v1065 : IVec S64x128 1) (v1072 : FVec F S64x128 .f32) (v1074 : IVec S64x128 1) (v1076 : IVec S64x128 1) (cst_462 : IVec S64x128 1) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1085, v1089, v1093, v1097, v1101, v1116, v1117, v1118, c1_i32_480⟩ : Σ' (v1085 : FVec F S64x128 .f32) (v1089 : FVec F S64x128 .f32) (v1093 : FVec F S64x128 .f32) (v1097 : FVec F S64x128 .f32) (v1101 : IVec S64x128 1) (v1116 : IVec S64x128 1) (v1117 : FVec F S64x128 .f32) (v1118 : FVec F S64x128 .f32), BitVec 32 ← k1_part29 arg0 harg0 arg1 harg1 arg2 harg2 arg3 harg3 v35 v1045 v1049 v1053 v1057 v1061 v1065 v1072 v1074 v1076 cst_462
  rest30 arg0 harg0 arg1 harg1 arg2 harg2 arg3 harg3 v35 v1085 v1089 v1093 v1097 v1101 v1116 v1117 v1118 c1_i32_480

/-- It hands four arrays on. -/
theorem chain29 (v35 : IVec S64x128 32) (v1045 : FVec F S64x128 .f32) (v1049 : FVec F S64x128 .f32) (v1053 : FVec F S64x128 .f32) (v1057 : FVec F S64x128 .f32) (v1061 : FVec F S64x128 .f32) (v1065 : IVec S64x128 1) (v1072 : FVec F S64x128 .f32) (v1074 : IVec S64x128 1) (v1076 : IVec S64x128 1) (cst_462 : IVec S64x128 1) :
    Good (F := F) (v1053 = v1061 ∧ cst_462 = constantI S64x128 1 1#1) (fun K => rest29 arg0 harg0 arg1 harg1 arg2 harg2 arg3 harg3 v35 v1045 v1049 v1053 v1057 v1061 v1065 v1072 v1074 v1076 cst_462 >>= glue arg0 harg0 arg1 harg1 arg2 harg2 arg3 harg3 K) :=
  Good.step (chain30 arg0 harg0 arg1 harg1 arg2 harg2 arg3 harg3 v35 (k1_pay253 v1045 v1049 v1065 v1072 v1074 v1076 cst_462) (k1_pay254 v1045 v1053 v1065 v1072 v1074 v1076 cst_462) (k1_pay255 v1045 v1057 v1065 v1072 v1074 v1076 cst_462) (k1_pay256 v1045 v1061 v1065 v1072 v1074 v1076 cst_462) (k1_pay257 v35) (k1_pay259 v35 v1045 v1072 v1074 v1076 cst_462) (k1_pay260 v35 v1045 v1072 v1074 v1076 cst_462) (k1_pay261 v1045 v1049 v1065 v1072 v1074 v1076 cst_462) 1#32)
    (fun K => by unfold rest29; rw [k1_part29_eq_skeleton]; rfl)
    (by rintro ⟨rfl, rfl⟩; exact ⟨rfl, rfl⟩)

/-- The first half from part 28. -/
def rest28 (v35 : IVec S64x128 32) (v1009 : FVec F S64x128 .f32) (v1013 : FVec F S64x128 .f32) (v1017 : FVec F S64x128 .f32) (v1021 : FVec F S64x128 .f32) (v1025 : FVec F S64x128 .f32) (v1029 : IVec S64x128 1) (v1033 : IVec S64x128 1) (v1034 : FVec F S64x128 .f32) (c4_i32_444 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1045, v1049, v1053, v1057, v1061, v1065, v1072, v1074, v1076, cst_462⟩ : Σ' (v1045 : FVec F S64x128 .f32) (v1049 : FVec F S64x128 .f32) (v1053 : FVec F S64x128 .f32) (v1057 : FVec F S64x128 .f32) (v1061 : FVec F S64x128 .f32) (v1065 : IVec S64x128 1) (v1072 : FVec F S64x128 .f32) (v1074 : IVec S64x128 1) (v1076 : IVec S64x128 1), IVec S64x128 1 ← k1_part28 arg0 harg0 arg1 harg1 arg2 harg2 arg3 harg3 v35 v1009 v1013 v1017 v1021 v1025 v1029 v1033 v1034 c4_i32_444
  rest29 arg0 harg0 arg1 harg1 arg2 harg2 arg3 harg3 v35 v1045 v1049 v1053 v1057 v1061 v1065 v1072 v1074 v1076 cst_462

/-- It hands four arrays on. -/
theorem chain28 (v35 : IVec S64x128 32) (v1009 : FVec F S64x128 .f32) (v1013 : FVec F S64x128 .f32) (v1017 : FVec F S64x128 .f32) (v1021 : FVec F S64x128 .f32) (v1025 : FVec F S64x128 .f32) (v1029 : IVec S64x128 1) (v1033 : IVec S64x128 1) (v1034 : FVec F S64x128 .f32) (c4_i32_444 : BitVec 32) :
    Good (F := F) (v1017 = v1025 ∧ c4_i32_444 = 4#32) (fun K => rest28 arg0 harg0 arg1 harg1 arg2 harg2 arg3 harg3 v35 v1009 v1013 v1017 v1021 v1025 v1029 v1033 v1034 c4_i32_444 >>= glue arg0 harg0 arg1 harg1 arg2 harg2 arg3 harg3 K) :=
  Good.step (chain29 arg0 harg0 arg1 harg1 arg2 harg2 arg3 harg3 v35 (k1_pay242 v1009 v1029 v1033 v1034 c4_i32_444) (k1_pay243 v1009 v1013 v1029 v1033 v1034 c4_i32_444) (k1_pay244 v1009 v1017 v1029 v1033 v1034 c4_i32_444) (k1_pay245 v1009 v1021 v1029 v1033 v1034 c4_i32_444) (k1_pay246 v1009 v1025 v1029 v1033 v1034 c4_i32_444) (k1_pay247 v35) (k1_pay248 v35 v1009 v1029 v1033 v1034 c4_i32_444) (k1_pay249 v35) (k1_pay250 v35 v1009 v1029 v1033 v1034 c4_i32_444) (constantI S64x128 1 1#1))
    (fun K => by unfold rest28; rw [k1_part28_eq_skeleton]; rfl)
    (by rintro ⟨rfl, rfl⟩; exact ⟨rfl, rfl⟩)

/-- The first half from part 27. -/
def rest27 (v35 : IVec S64x128 32) (v973 : FVec F S64x128 .f32) (v977 : FVec F S64x128 .f32) (v981 : FVec F S64x128 .f32) (v985 : FVec F S64x128 .f32) (v989 : FVec F S64x128 .f32) (v993 : IVec S64x128 1) (c128_i32_425 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v1009, v1013, v1017, v1021, v1025, v1029, v1033, v1034, c4_i32_444⟩ : Σ' (v1009 : FVec F S64x128 .f32) (v1013 : FVec F S64x128 .f32) (v1017 : FVec F S64x128 .f32) (v1021 : FVec F S64x128 .f32) (v1025 : FVec F S64x128 .f32) (v1029 : IVec S64x128 1) (v1033 : IVec S64x128 1) (v1034 : FVec F S64x128 .f32), BitVec 32 ← k1_part27 arg0 harg0 arg1 harg1 arg2 harg2 arg3 harg3 v35 v973 v977 v981 v985 v989 v993 c128_i32_425
  rest28 arg0 harg0 arg1 harg1 arg2 harg2 arg3 harg3 v35 v1009 v1013 v1017 v1021 v1025 v1029 v1033 v1034 c4_i32_444

/-- It hands four arrays on. -/
theorem chain27 (v35 : IVec S64x128 32) (v973 : FVec F S64x128 .f32) (v977 : FVec F S64x128 .f32) (v981 : FVec F S64x128 .f32) (v985 : FVec F S64x128 .f32) (v989 : FVec F S64x128 .f32) (v993 : IVec S64x128 1) (c128_i32_425 : BitVec 32) :
    Good (F := F) (v981 = v989 ∧ c128_i32_425 = 128#32) (fun K => rest27 arg0 harg0 arg1 harg1 arg2 harg2 arg3 harg3 v35 v973 v977 v981 v985 v989 v993 c128_i32_425 >>= glue arg0 harg0 arg1 harg1 arg2 harg2 arg3 harg3 K) :=
  Good.step (chain28 arg0 harg0 arg1 harg1 arg2 harg2 arg3 harg3 v35 (k1_pay232 v35 v973 v993 c128_i32_425) (k1_pay233 v35 v973 v977 v993 c128_i32_425) (k1_pay234 v35 v973 v981 v993 c128_i32_425) (k1_pay235 v35 v973 v985 v993 c128_i32_425) (k1_pay236 v35 v973 v989 v993 c128_i32_425) (k1_pay237 v35) (k1_pay238 v35) (k1_pay239 v35 v973 v993 c128_i32_425) 4#32)
    (fun K => by unfold rest27; rw [k1_part27_eq_skeleton]; rfl)
    (by rintro ⟨rfl, rfl⟩; exact ⟨rfl, rfl⟩)

/-- The first half from part 26. -/
def rest26 (v35 : IVec S64x128 32) (v917 : FVec F S64x128 .f32) (v936 : IVec S64x128 1) (v937 : FVec F S64x128 .f32) (v941 : FVec F S64x128 .f32) (v945 : FVec F S64x128 .f32) (v949 : FVec F S64x128 .f32) (v952 : FVec F S64x128 .f32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v973, v977, v981, v985, v989, v993, c128_i32_425⟩ : Σ' (v973 : FVec F S64x128 .f32) (v977 : FVec F S64x128 .f32) (v981 : FVec F S64x128 .f32) (v985 : FVec F S64x128 .f32) (v989 : FVec F S64x128 .f32) (v993 : IVec S64x128 1), BitVec 32 ← k1_part26 arg0 harg0 arg1 harg1 arg2 harg2 arg3 harg3 v35 v917 v936 v937 v941 v945 v949 v952
  rest27 arg0 harg0 arg1 harg1 arg2 harg2 arg3 harg3 v35 v973 v977 v981 v985 v989 v993 c128_i32_425

/-- It hands four arrays on. -/
theorem chain26 (v35 : IVec S64x128 32) (v917 : FVec F S64x128 .f32) (v936 : IVec S64x128 1) (v937 : FVec F S64x128 .f32) (v941 : FVec F S64x128 .f32) (v945 : FVec F S64x128 .f32) (v949 : FVec F S64x128 .f32) (v952 : FVec F S64x128 .f32) :
    Good (F := F) (v945 = select v936 v952 v917) (fun K => rest26 arg0 harg0 arg1 harg1 arg2 harg2 arg3 harg3 v35 v917 v936 v937 v941 v945 v949 v952 >>= glue arg0 harg0 arg1 harg1 arg2 harg2 arg3 harg3 K) :=
  Good.step (chain27 arg0 harg0 arg1 harg1 arg2 harg2 arg3 harg3 v35 (k1_pay224 v35 v937) (k1_pay225 v35 v937 v941) (k1_pay226 v35 v937 v945) (k1_pay227 v35 v937 v949) (k1_pay228 v35 v917 v936 v937 v952) (k1_pay229 v35) 128#32)
    (fun K => by unfold rest26; rw [k1_part26_eq_skeleton]; rfl)
    (by rintro rfl; exact ⟨rfl, rfl⟩)

/-- The first half from part 25. -/
def rest25 (v35 : IVec S64x128 32) (v877 : FVec F S64x128 .f32) (v881 : FVec F S64x128 .f32) (v885 : IVec S64x128 1) (v900 : IVec S64x128 1) (v901 : FVec F S64x128 .f32) (v905 : FVec F S64x128 .f32) (v909 : FVec F S64x128 .f32) (v910 : FVec F S64x128 .f32) (c64_i32_388 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v917, v936, v937, v941, v945, v949, v952⟩ : Σ' (v917 : FVec F S64x128 .f32) (v936 : IVec S64x128 1) (v937 : FVec F S64x128 .f32) (v941 : FVec F S64x128 .f32) (v945 : FVec F S64x128 .f32) (v949 : FVec F S64x128 .f32), FVec F S64x128 .f32 ← k1_part25 arg0 harg0 arg1 harg1 arg2 harg2 arg3 harg3 v35 v877 v881 v885 v900 v901 v905 v909 v910 c64_i32_388
  rest26 arg0 harg0 arg1 harg1 arg2 harg2 arg3 harg3 v35 v917 v936 v937 v941 v945 v949 v952

/-- It hands four arrays on. -/
theorem chain25 (v35 : IVec S64x128 32) (v877 : FVec F S64x128 .f32) (v881 : FVec F S64x128 .f32) (v885 : IVec S64x128 1) (v900 : IVec S64x128 1) (v901 : FVec F S64x128 .f32) (v905 : FVec F S64x128 .f32) (v909 : FVec F S64x128 .f32) (v910 : FVec F S64x128 .f32) (c64_i32_388 : BitVec 32) :
    Good (F := F) (v909 = select v900 (select v885 (dynamicRotate 1 64#32 none v881 rotates_S64x128_d1) (dynamicRotate 1 64#32 none v881 rotates_S64x128_d1)) v881 ∧ c64_i32_388 = 64#32) (fun K => rest25 arg0 harg0 arg1 harg1 arg2 harg2 arg3 harg3 v35 v877 v881 v885 v900 v901 v905 v909 v910 c64_i32_388 >>= glue arg0 harg0 arg1 harg1 arg2 harg2 arg3 harg3 K) :=
  Good.step (chain26 arg0 harg0 arg1 harg1 arg2 harg2 arg3 harg3 v35 (k1_pay212 v881 v885 v900) (k1_pay215 v35 v901) (k1_pay216 v35 v901) (k1_pay217 v35 v901 v905) (k1_pay218 v35 v901 v909) (k1_pay219 v35 v877 v885 v900 v901 v910 c64_i32_388) (k1_pay220 v35 v881 v885 v900))
    (fun K => by unfold rest25; rw [k1_part25_eq_skeleton]; rfl)
    (by rintro ⟨rfl, rfl⟩; exact rfl)

/-- The first half from part 24. -/
def rest24 (v35 : IVec S64x128 32) (v837 : FVec F S64x128 .f32) (v841 : FVec F S64x128 .f32) (v845 : FVec F S64x128 .f32) (v849 : IVec S64x128 1) (v864 : IVec S64x128 1) (v865 : FVec F S64x128 .f32) (v869 : FVec F S64x128 .f32) (c127_i32_369 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v877, v881, v885, v900, v901, v905, v909, v910, c64_i32_388⟩ : Σ' (v877 : FVec F S64x128 .f32) (v881 : FVec F S64x128 .f32) (v885 : IVec S64x128 1) (v900 : IVec S64x128 1) (v901 : FVec F S64x128 .f32) (v905 : FVec F S64x128 .f32) (v909 : FVec F S64x128 .f32) (v910 : FVec F S64x128 .f32), BitVec 32 ← k1_part24 arg0 harg0 arg1 harg1 arg2 harg2 arg3 harg3 v35 v837 v841 v845 v849 v864 v865 v869 c127_i32_369
  rest25 arg0 harg0 arg1 harg1 arg2 harg2 arg3 harg3 v35 v877 v881 v885 v900 v901 v905 v909 v910 c64_i32_388

/-- It hands four arrays on. -/
theorem chain24 (v35 : IVec S64x128 32) (v837 : FVec F S64x128 .f32) (v841 : FVec F S64x128 .f32) (v845 : FVec F S64x128 .f32) (v849 : IVec S64x128 1) (v864 : IVec S64x128 1) (v865 : FVec F S64x128 .f32) (v869 : FVec F S64x128 .f32) (c127_i32_369 : BitVec 32) :
    Good (F := F) (v837 = v845 ∧ c127_i32_369 = 127#32) (fun K => rest24 arg0 harg0 arg1 harg1 arg2 harg2 arg3 harg3 v35 v837 v841 v845 v849 v864 v865 v869 c127_i32_369 >>= glue arg0 harg0 arg1 harg1 arg2 harg2 arg3 harg3 K) :=
  Good.step (chain25 arg0 harg0 arg1 harg1 arg2 harg2 arg3 harg3 v35 (k1_pay203 v841 v849 v864) (k1_pay204 v845 v849 v864) (k1_pay205 v35) (k1_pay207 v35 v865) (k1_pay208 v35 v865) (k1_pay209 v35 v865 v869) (k1_pay210 v35 v837 v849 v864 v865 c127_i32_369) (k1_pay211 v841 v849 v864) 64#32)
    (fun K => by unfold rest24; rw [k1_part24_eq_skeleton]; rfl)
    (by rintro ⟨rfl, rfl⟩; exact ⟨rfl, rfl⟩)

/-- The first half from part 23. -/
def rest23 (v35 : IVec S64x128 32) (v793 : FVec F S64x128 .f32) (v797 : FVec F S64x128 .f32) (v801 : FVec F S64x128 .f32) (v805 : FVec F S64x128 .f32) (v809 : FVec F S64x128 .f32) (v813 : IVec S64x128 1) (v820 : FVec F S64x128 .f32) (v828 : IVec S64x128 1) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v837, v841, v845, v849, v864, v865, v869, c127_i32_369⟩ : Σ' (v837 : FVec F S64x128 .f32) (v841 : FVec F S64x128 .f32) (v845 : FVec F S64x128 .f32) (v849 : IVec S64x128 1) (v864 : IVec S64x128 1) (v865 : FVec F S64x128 .f32) (v869 : FVec F S64x128 .f32), BitVec 32 ← k1_part23 arg0 harg0 arg1 harg1 arg2 harg2 arg3 harg3 v35 v793 v797 v801 v805 v809 v813 v820 v828
  rest24 arg0 harg0 arg1 harg1 arg2 harg2 arg3 harg3 v35 v837 v841 v845 v849 v864 v865 v869 c127_i32_369

/-- It hands four arrays on. -/
theorem chain23 (v35 : IVec S64x128 32) (v793 : FVec F S64x128 .f32) (v797 : FVec F S64x128 .f32) (v801 : FVec F S64x128 .f32) (v805 : FVec F S64x128 .f32) (v809 : FVec F S64x128 .f32) (v813 : IVec S64x128 1) (v820 : FVec F S64x128 .f32) (v828 : IVec S64x128 1) :
    Good (F := F) (v801 = v809) (fun K => rest23 arg0 harg0 arg1 harg1 arg2 harg2 arg3 harg3 v35 v793 v797 v801 v805 v809 v813 v820 v828 >>= glue arg0 harg0 arg1 harg1 arg2 harg2 arg3 harg3 K) :=
  Good.step (chain24 arg0 harg0 arg1 harg1 arg2 harg2 arg3 harg3 v35 (k1_pay195 v801 v813 v828) (k1_pay196 v805 v813 v828) (k1_pay197 v809 v813 v828) (k1_pay198 v35) (k1_pay200 v35 v793 v820 v828) (k1_pay201 v35 v793 v820 v828) (k1_pay202 v35 v793 v797 v813 v820 v828) 127#32)
    (fun K => by unfold rest23; rw [k1_part23_eq_skeleton]; rfl)
    (by rintro rfl; exact ⟨rfl, rfl⟩)

/-- The first half from part 22. -/
def rest22 (v35 : IVec S64x128 32) (v757 : FVec F S64x128 .f32) (v761 : FVec F S64x128 .f32) (v765 : FVec F S64x128 .f32) (v769 : FVec F S64x128 .f32) (v773 : FVec F S64x128 .f32) (v777 : IVec S64x128 1) (v784 : FVec F S64x128 .f32) (v785 : IVec S64x128 1) (cst_333 : IVec S64x128 1) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v793, v797, v801, v805, v809, v813, v820, v828⟩ : Σ' (v793 : FVec F S64x128 .f32) (v797 : FVec F S64x128 .f32) (v801 : FVec F S64x128 .f32) (v805 : FVec F S64x128 .f32) (v809 : FVec F S64x128 .f32) (v813 : IVec S64x128 1) (v820 : FVec F S64x128 .f32), IVec S64x128 1 ← k1_part22 arg0 harg0 arg1 harg1 arg2 harg2 arg3 harg3 v35 v757 v761 v765 v769 v773 v777 v784 v785 cst_333
  rest23 arg0 harg0 arg1 harg1 arg2 harg2 arg3 harg3 v35 v793 v797 v801 v805 v809 v813 v820 v828

/-- It hands four arrays on. -/
theorem chain22 (v35 : IVec S64x128 32) (v757 : FVec F S64x128 .f32) (v761 : FVec F S64x128 .f32) (v765 : FVec F S64x128 .f32) (v769 : FVec F S64x128 .f32) (v773 : FVec F S64x128 .f32) (v777 : IVec S64x128 1) (v784 : FVec F S64x128 .f32) (v785 : IVec S64x128 1) (cst_333 : IVec S64x128 1) :
    Good (F := F) (v765 = v773 ∧ cst_333 = constantI S64x128 1 1#1) (fun K => rest22 arg0 harg0 arg1 harg1 arg2 harg2 arg3 harg3 v35 v757 v761 v765 v769 v773 v777 v784 v785 cst_333 >>= glue arg0 harg0 arg1 harg1 arg2 harg2 arg3 harg3 K) :=
  Good.step (chain23 arg0 harg0 arg1 harg1 arg2 harg2 arg3 harg3 v35 (k1_pay186 v757 v784 v785 cst_333) (k1_pay187 v757 v761 v777 v784 v785 cst_333) (k1_pay188 v757 v765 v777 v784 v785 cst_333) (k1_pay189 v757 v769 v777 v784 v785 cst_333) (k1_pay190 v757 v773 v777 v784 v785 cst_333) (k1_pay191 v35) (k1_pay192 v35 v757 v784 v785 cst_333) (k1_pay193 v35 v757 v784 v785 cst_333))
    (fun K => by unfold rest22; rw [k1_part22_eq_skeleton]; rfl)
    (by rintro ⟨rfl, rfl⟩; exact rfl)

/-- The first half from part 21. -/
def rest21 (v35 : IVec S64x128 32) (v721 : FVec F S64x128 .f32) (v725 : FVec F S64x128 .f32) (v729 : FVec F S64x128 .f32) (v733 : FVec F S64x128 .f32) (v737 : FVec F S64x128 .f32) (v741 : IVec S64x128 1) (v743 : IVec S64x128 32) (v744 : IVec S64x128 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v757, v761, v765, v769, v773, v777, v784, v785, cst_333⟩ : Σ' (v757 : FVec F S64x128 .f32) (v761 : FVec F S64x128 .f32) (v765 : FVec F S64x128 .f32) (v769 : FVec F S64x128 .f32) (v773 : FVec F S64x128 .f32) (v777 : IVec S64x128 1) (v784 : FVec F S64x128 .f32) (v785 : IVec S64x128 1), IVec S64x128 1 ← k1_part21 arg0 harg0 arg1 harg1 arg2 harg2 arg3 harg3 v35 v721 v725 v729 v733 v737 v741 v743 v744
  rest22 arg0 harg0 arg1 harg1 arg2 harg2 arg3 harg3 v35 v757 v761 v765 v769 v773 v777 v784 v785 cst_333

/-- It hands four arrays on. -/
theorem chain21 (v35 : IVec S64x128 32) (v721 : FVec F S64x128 .f32) (v725 : FVec F S64x128 .f32) (v729 : FVec F S64x128 .f32) (v733 : FVec F S64x128 .f32) (v737 : FVec F S64x128 .f32) (v741 : IVec S64x128 1) (v743 : IVec S64x128 32) (v744 : IVec S64x128 32) :
    Good (F := F) (v729 = v737 ∧ v744 = broadcast S64x128 0#32) (fun K => rest21 arg0 harg0 arg1 harg1 arg2 harg2 arg3 harg3 v35 v721 v725 v729 v733 v737 v741 v743 v744 >>= glue arg0 harg0 arg1 harg1 arg2 harg2 arg3 harg3 K) :=
  Good.step (chain22 arg0 harg0 arg1 harg1 arg2 harg2 arg3 harg3 v35 (k1_pay177 v721 v741 v743 v744) (k1_pay178 v721 v725 v741 v743 v744) (k1_pay179 v721 v729 v741 v743 v744) (k1_pay180 v721 v733 v741 v743 v744) (k1_pay181 v721 v737 v741 v743 v744) (k1_pay182 v35) (k1_pay183 v35 v721 v741 v743 v744) (k1_pay184 v35) (constantI S64x128 1 1#1))
    (fun K => by unfold rest21; rw [k1_part21_eq_skeleton]; rfl)
    (by rintro ⟨rfl, rfl⟩; exact ⟨rfl, rfl⟩)

/-- The first half from part 20. -/
def rest20 (v35 : IVec S64x128 32) (v685 : FVec F S64x128 .f32) (v689 : FVec F S64x128 .f32) (v693 : FVec F S64x128 .f32) (v697 : FVec F S64x128 .f32) (v701 : FVec F S64x128 .f32) (v703 : IVec S64x128 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v721, v725, v729, v733, v737, v741, v743, v744⟩ : Σ' (v721 : FVec F S64x128 .f32) (v725 : FVec F S64x128 .f32) (v729 : FVec F S64x128 .f32) (v733 : FVec F S64x128 .f32) (v737 : FVec F S64x128 .f32) (v741 : IVec S64x128 1) (v743 : IVec S64x128 32), IVec S64x128 32 ← k1_part20 arg0 harg0 arg1 harg1 arg2 harg2 arg3 harg3 v35 v685 v689 v693 v697 v701 v703
  rest21 arg0 harg0 arg1 harg1 arg2 harg2 arg3 harg3 v35 v721 v725 v729 v733 v737 v741 v743 v744

/-- It hands four arrays on. -/
theorem chain20 (v35 : IVec S64x128 32) (v685 : FVec F S64x128 .f32) (v689 : FVec F S64x128 .f32) (v693 : FVec F S64x128 .f32) (v697 : FVec F S64x128 .f32) (v701 : FVec F S64x128 .f32) (v703 : IVec S64x128 32) :
    Good (F := F) (v693 = v701) (fun K => rest20 arg0 harg0 arg1 harg1 arg2 harg2 arg3 harg3 v35 v685 v689 v693 v697 v701 v703 >>= glue arg0 harg0 arg1 harg1 arg2 harg2 arg3 harg3 K) :=
  Good.step (chain21 arg0 harg0 arg1 harg1 arg2 harg2 arg3 harg3 v35 (k1_pay167 v35 v685 v703) (k1_pay168 v35 v685 v689 v703) (k1_pay169 v35 v685 v693 v703) (k1_pay170 v35 v685 v697 v703) (k1_pay171 v35 v685 v701 v703) (k1_pay172 v35) (k1_pay173 v35) k1_pay174)
    (fun K => by unfold rest20; rw [k1_part20_eq_skeleton]; rfl)
    (by rintro rfl; exact ⟨rfl, rfl⟩)

/-- The first half from part 19. -/
def rest19 (v35 : IVec S64x128 32) (v629 : FVec F S64x128 .f32) (v633 : IVec S64x128 1) (v648 : IVec S64x128 1) (v649 : FVec F S64x128 .f32) (v653 : FVec F S64x128 .f32) (v657 : FVec F S64x128 .f32) (v661 : FVec F S64x128 .f32) (c127_i32_278 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v685, v689, v693, v697, v701, v703⟩ : Σ' (v685 : FVec F S64x128 .f32) (v689 : FVec F S64x128 .f32) (v693 : FVec F S64x128 .f32) (v697 : FVec F S64x128 .f32) (v701 : FVec F S64x128 .f32), IVec S64x128 32 ← k1_part19 arg0 harg0 arg1 harg1 arg2 harg2 arg3 harg3 v35 v629 v633 v648 v649 v653 v657 v661 c127_i32_278
  rest20 arg0 harg0 arg1 harg1 arg2 harg2 arg3 harg3 v35 v685 v689 v693 v697 v701 v703

/-- It hands four arrays on. -/
theorem chain19 (v35 : IVec S64x128 32) (v629 : FVec F S64x128 .f32) (v633 : IVec S64x128 1) (v648 : IVec S64x128 1) (v649 : FVec F S64x128 .f32) (v653 : FVec F S64x128 .f32) (v657 : FVec F S64x128 .f32) (v661 : FVec F S64x128 .f32) (c127_i32_278 : BitVec 32) :
    Good (F := F) (v657 = select v648 (select v633 (dynamicRotate 1 127#32 none v629 rotates_S64x128_d1) (dynamicRotate 1 1#32 none v629 rotates_S64x128_d1)) v629 ∧ c127_i32_278 = 127#32) (fun K => rest19 arg0 harg0 arg1 harg1 arg2 harg2 arg3 harg3 v35 v629 v633 v648 v649 v653 v657 v661 c127_i32_278 >>= glue arg0 harg0 arg1 harg1 arg2 harg2 arg3 harg3 K) :=
  Good.step (chain20 arg0 harg0 arg1 harg1 arg2 harg2 arg3 harg3 v35 (k1_pay158 v35 v649) (k1_pay159 v35 v649 v653) (k1_pay160 v35 v649 v657) (k1_pay161 v35 v649 v661) (k1_pay162 v35 v629 v633 v648 v649 c127_i32_278) (k1_pay163 v35))
    (fun K => by unfold rest19; rw [k1_part19_eq_skeleton]; rfl)
    (by rintro ⟨rfl, rfl⟩; exact rfl)

/-- The first half from part 18. -/
def rest18 (v35 : IVec S64x128 32) (v585 : FVec F S64x128 .f32) (v589 : FVec F S64x128 .f32) (v593 : FVec F S64x128 .f32) (v597 : IVec S64x128 1) (v612 : IVec S64x128 1) (v613 : FVec F S64x128 .f32) (v617 : FVec F S64x128 .f32) (v620 : FVec F S64x128 .f32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v629, v633, v648, v649, v653, v657, v661, c127_i32_278⟩ : Σ' (v629 : FVec F S64x128 .f32) (v633 : IVec S64x128 1) (v648 : IVec S64x128 1) (v649 : FVec F S64x128 .f32) (v653 : FVec F S64x128 .f32) (v657 : FVec F S64x128 .f32) (v661 : FVec F S64x128 .f32), BitVec 32 ← k1_part18 arg0 harg0 arg1 harg1 arg2 harg2 arg3 harg3 v35 v585 v589 v593 v597 v612 v613 v617 v620
  rest19 arg0 harg0 arg1 harg1 arg2 harg2 arg3 harg3 v35 v629 v633 v648 v649 v653 v657 v661 c127_i32_278

/-- It hands four arrays on. -/
theorem chain18 (v35 : IVec S64x128 32) (v585 : FVec F S64x128 .f32) (v589 : FVec F S64x128 .f32) (v593 : FVec F S64x128 .f32) (v597 : IVec S64x128 1) (v612 : IVec S64x128 1) (v613 : FVec F S64x128 .f32) (v617 : FVec F S64x128 .f32) (v620 : FVec F S64x128 .f32) :
    Good (F := F) (v585 = v593 ∧ v620 = select v597 (dynamicRotate 1 126#32 none v593 rotates_S64x128_d1) (dynamicRotate 1 2#32 none v593 rotates_S64x128_d1)) (fun K => rest18 arg0 harg0 arg1 harg1 arg2 harg2 arg3 harg3 v35 v585 v589 v593 v597 v612 v613 v617 v620 >>= glue arg0 harg0 arg1 harg1 arg2 harg2 arg3 harg3 K) :=
  Good.step (chain19 arg0 harg0 arg1 harg1 arg2 harg2 arg3 harg3 v35 (k1_pay147 v593 v597 v612) (k1_pay148 v35) (k1_pay150 v35 v613) (k1_pay151 v35 v613) (k1_pay152 v35 v613 v617) (k1_pay153 v35 v585 v612 v613 v620) (k1_pay154 v35 v589 v597 v612 v613) 127#32)
    (fun K => by unfold rest18; rw [k1_part18_eq_skeleton]; rfl)
    (by rintro ⟨rfl, rfl⟩; exact ⟨rfl, rfl⟩)

/-- The first half from part 17. -/
def rest17 (v35 : IVec S64x128 32) (v545 : FVec F S64x128 .f32) (v549 : FVec F S64x128 .f32) (v553 : FVec F S64x128 .f32) (v557 : FVec F S64x128 .f32) (v561 : IVec S64x128 1) (v576 : IVec S64x128 1) (v577 : FVec F S64x128 .f32) (v578 : FVec F S64x128 .f32) (c4_i32_241 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v585, v589, v593, v597, v612, v613, v617, v620⟩ : Σ' (v585 : FVec F S64x128 .f32) (v589 : FVec F S64x128 .f32) (v593 : FVec F S64x128 .f32) (v597 : IVec S64x128 1) (v612 : IVec S64x128 1) (v613 : FVec F S64x128 .f32) (v617 : FVec F S64x128 .f32), FVec F S64x128 .f32 ← k1_part17 arg0 harg0 arg1 harg1 arg2 harg2 arg3 harg3 v35 v545 v549 v553 v557 v561 v576 v577 v578 c4_i32_241
  rest18 arg0 harg0 arg1 harg1 arg2 harg2 arg3 harg3 v35 v585 v589 v593 v597 v612 v613 v617 v620

/-- It hands four arrays on. -/
theorem chain17 (v35 : IVec S64x128 32) (v545 : FVec F S64x128 .f32) (v549 : FVec F S64x128 .f32) (v553 : FVec F S64x128 .f32) (v557 : FVec F S64x128 .f32) (v561 : IVec S64x128 1) (v576 : IVec S64x128 1) (v577 : FVec F S64x128 .f32) (v578 : FVec F S64x128 .f32) (c4_i32_241 : BitVec 32) :
    Good (F := F) (v549 = v557 ∧ c4_i32_241 = 4#32) (fun K => rest17 arg0 harg0 arg1 harg1 arg2 harg2 arg3 harg3 v35 v545 v549 v553 v557 v561 v576 v577 v578 c4_i32_241 >>= glue arg0 harg0 arg1 harg1 arg2 harg2 arg3 harg3 K) :=
  Good.step (chain18 arg0 harg0 arg1 harg1 arg2 harg2 arg3 harg3 v35 (k1_pay138 v549 v561 v576) (k1_pay139 v553 v561 v576) (k1_pay140 v557 v561 v576) (k1_pay141 v35) (k1_pay143 v35 v577) (k1_pay144 v35 v577) (k1_pay145 v35 v545 v561 v576 v577 v578 c4_i32_241) (k1_pay146 v35 v549 v561 v576))
    (fun K => by unfold rest17; rw [k1_part17_eq_skeleton]; rfl)
    (by rintro ⟨rfl, rfl⟩; exact ⟨rfl, rfl⟩)

/-- The first half from part 16. -/
def rest16 (v35 : IVec S64x128 32) (v505 : FVec F S64x128 .f32) (v509 : FVec F S64x128 .f32) (v513 : FVec F S64x128 .f32) (v517 : FVec F S64x128 .f32) (v521 : FVec F S64x128 .f32) (v525 : IVec S64x128 1) (v532 : FVec F S64x128 .f32) (v534 : IVec S64x128 1) (v536 : IVec S64x128 1) (cst_223 : IVec S64x128 1) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v545, v549, v553, v557, v561, v576, v577, v578, c4_i32_241⟩ : Σ' (v545 : FVec F S64x128 .f32) (v549 : FVec F S64x128 .f32) (v553 : FVec F S64x128 .f32) (v557 : FVec F S64x128 .f32) (v561 : IVec S64x128 1) (v576 : IVec S64x128 1) (v577 : FVec F S64x128 .f32) (v578 : FVec F S64x128 .f32), BitVec 32 ← k1_part16 arg0 harg0 arg1 harg1 arg2 harg2 arg3 harg3 v35 v505 v509 v513 v517 v521 v525 v532 v534 v536 cst_223
  rest17 arg0 harg0 arg1 harg1 arg2 harg2 arg3 harg3 v35 v545 v549 v553 v557 v561 v576 v577 v578 c4_i32_241

/-- It hands four arrays on. -/
theorem chain16 (v35 : IVec S64x128 32) (v505 : FVec F S64x128 .f32) (v509 : FVec F S64x128 .f32) (v513 : FVec F S64x128 .f32) (v517 : FVec F S64x128 .f32) (v521 : FVec F S64x128 .f32) (v525 : IVec S64x128 1) (v532 : FVec F S64x128 .f32) (v534 : IVec S64x128 1) (v536 : IVec S64x128 1) (cst_223 : IVec S64x128 1) :
    Good (F := F) (v513 = v521 ∧ cst_223 = constantI S64x128 1 1#1) (fun K => rest16 arg0 harg0 arg1 harg1 arg2 harg2 arg3 harg3 v35 v505 v509 v513 v517 v521 v525 v532 v534 v536 cst_223 >>= glue arg0 harg0 arg1 harg1 arg2 harg2 arg3 harg3 K) :=
  Good.step (chain17 arg0 harg0 arg1 harg1 arg2 harg2 arg3 harg3 v35 (k1_pay129 v505 v509 v525 v532 v534 v536 cst_223) (k1_pay130 v505 v513 v525 v532 v534 v536 cst_223) (k1_pay131 v505 v517 v525 v532 v534 v536 cst_223) (k1_pay132 v505 v521 v525 v532 v534 v536 cst_223) (k1_pay133 v35) (k1_pay135 v35 v505 v532 v534 v536 cst_223) (k1_pay136 v35 v505 v532 v534 v536 cst_223) (k1_pay137 v505 v509 v525 v532 v534 v536 cst_223) 4#32)
    (fun K => by unfold rest16; rw [k1_part16_eq_skeleton]; rfl)
    (by rintro ⟨rfl, rfl⟩; exact ⟨rfl, rfl⟩)

/-- The first half from part 15. -/
def rest15 (v35 : IVec S64x128 32) (v469 : FVec F S64x128 .f32) (v473 : FVec F S64x128 .f32) (v477 : FVec F S64x128 .f32) (v481 : FVec F S64x128 .f32) (v485 : FVec F S64x128 .f32) (v489 : IVec S64x128 1) (v493 : IVec S64x128 1) (v494 : FVec F S64x128 .f32) (c16_i32_205 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v505, v509, v513, v517, v521, v525, v532, v534, v536, cst_223⟩ : Σ' (v505 : FVec F S64x128 .f32) (v509 : FVec F S64x128 .f32) (v513 : FVec F S64x128 .f32) (v517 : FVec F S64x128 .f32) (v521 : FVec F S64x128 .f32) (v525 : IVec S64x128 1) (v532 : FVec F S64x128 .f32) (v534 : IVec S64x128 1) (v536 : IVec S64x128 1), IVec S64x128 1 ← k1_part15 arg0 harg0 arg1 harg1 arg2 harg2 arg3 harg3 v35 v469 v473 v477 v481 v485 v489 v493 v494 c16_i32_205
  rest16 arg0 harg0 arg1 harg1 arg2 harg2 arg3 harg3 v35 v505 v509 v513 v517 v521 v525 v532 v534 v536 cst_223

/-- It hands four arrays on. -/
theorem chain15 (v35 : IVec S64x128 32) (v469 : FVec F S64x128 .f32) (v473 : FVec F S64x128 .f32) (v477 : FVec F S64x128 .f32) (v481 : FVec F S64x128 .f32) (v485 : FVec F S64x128 .f32) (v489 : IVec S64x128 1) (v493 : IVec S64x128 1) (v494 : FVec F S64x128 .f32) (c16_i32_205 : BitVec 32) :
    Good (F := F) (v477 = v485 ∧ c16_i32_205 = 16#32) (fun K => rest15 arg0 harg0 arg1 harg1 arg2 harg2 arg3 harg3 v35 v469 v473 v477 v481 v485 v489 v493 v494 c16_i32_205 >>= glue arg0 harg0 arg1 harg1 arg2 harg2 arg3 harg3 K) :=
  Good.step (chain16 arg0 harg0 arg1 harg1 arg2 harg2 arg3 harg3 v35 (k1_pay118 v469 v489 v493 v494 c16_i32_205) (k1_pay119 v469 v473 v489 v493 v494 c16_i32_205) (k1_pay120 v469 v477 v489 v493 v494 c16_i32_205) (k1_pay121 v469 v481 v489 v493 v494 c16_i32_205) (k1_pay122 v469 v485 v489 v493 v494 c16_i32_205) (k1_pay123 v35) (k1_pay124 v35 v469 v489 v493 v494 c16_i32_205) (k1_pay125 v35) (k1_pay126 v35 v469 v489 v493 v494 c16_i32_205) (constantI S64x128 1 1#1))
    (fun K => by unfold rest15; rw [k1_part15_eq_skeleton]; rfl)
    (by rintro ⟨rfl, rfl⟩; exact ⟨rfl, rfl⟩)

/-- The first half from part 14. -/
def rest14 (v35 : IVec S64x128 32) (v433 : FVec F S64x128 .f32) (v437 : FVec F S64x128 .f32) (v441 : FVec F S64x128 .f32) (v445 : FVec F S64x128 .f32) (v449 : FVec F S64x128 .f32) (v453 : IVec S64x128 1) (c16_i32_187 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v469, v473, v477, v481, v485, v489, v493, v494, c16_i32_205⟩ : Σ' (v469 : FVec F S64x128 .f32) (v473 : FVec F S64x128 .f32) (v477 : FVec F S64x128 .f32) (v481 : FVec F S64x128 .f32) (v485 : FVec F S64x128 .f32) (v489 : IVec S64x128 1) (v493 : IVec S64x128 1) (v494 : FVec F S64x128 .f32), BitVec 32 ← k1_part14 arg0 harg0 arg1 harg1 arg2 harg2 arg3 harg3 v35 v433 v437 v441 v445 v449 v453 c16_i32_187
  rest15 arg0 harg0 arg1 harg1 arg2 harg2 arg3 harg3 v35 v469 v473 v477 v481 v485 v489 v493 v494 c16_i32_205

/-- It hands four arrays on. -/
theorem chain14 (v35 : IVec S64x128 32) (v433 : FVec F S64x128 .f32) (v437 : FVec F S64x128 .f32) (v441 : FVec F S64x128 .f32) (v445 : FVec F S64x128 .f32) (v449 : FVec F S64x128 .f32) (v453 : IVec S64x128 1) (c16_i32_187 : BitVec 32) :
    Good (F := F) (v441 = v449 ∧ c16_i32_187 = 16#32) (fun K => rest14 arg0 harg0 arg1 harg1 arg2 harg2 arg3 harg3 v35 v433 v437 v441 v445 v449 v453 c16_i32_187 >>= glue arg0 harg0 arg1 harg1 arg2 harg2 arg3 harg3 K) :=
  Good.step (chain15 arg0 harg0 arg1 harg1 arg2 harg2 arg3 harg3 v35 (k1_pay108 v35 v433 v453 c16_i32_187) (k1_pay109 v35 v433 v437 v453 c16_i32_187) (k1_pay110 v35 v433 v441 v453 c16_i32_187) (k1_pay111 v35 v433 v445 v453 c16_i32_187) (k1_pay112 v35 v433 v449 v453 c16_i32_187) (k1_pay113 v35) (k1_pay114 v35) (k1_pay115 v35 v433 v453 c16_i32_187) 16#32)
    (fun K => by unfold rest14; rw [k1_part14_eq_skeleton]; rfl)
    (by rintro ⟨rfl, rfl⟩; exact ⟨rfl, rfl⟩)

/-- The first half from part 13. -/
def rest13 (v35 : IVec S64x128 32) (v377 : FVec F S64x128 .f32) (v396 : IVec S64x128 1) (v397 : FVec F S64x128 .f32) (v401 : FVec F S64x128 .f32) (v405 : FVec F S64x128 .f32) (v409 : FVec F S64x128 .f32) (v412 : FVec F S64x128 .f32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v433, v437, v441, v445, v449, v453, c16_i32_187⟩ : Σ' (v433 : FVec F S64x128 .f32) (v437 : FVec F S64x128 .f32) (v441 : FVec F S64x128 .f32) (v445 : FVec F S64x128 .f32) (v449 : FVec F S64x128 .f32) (v453 : IVec S64x128 1), BitVec 32 ← k1_part13 arg0 harg0 arg1 harg1 arg2 harg2 arg3 harg3 v35 v377 v396 v397 v401 v405 v409 v412
  rest14 arg0 harg0 arg1 harg1 arg2 harg2 arg3 harg3 v35 v433 v437 v441 v445 v449 v453 c16_i32_187

/-- It hands four arrays on. -/
theorem chain13 (v35 : IVec S64x128 32) (v377 : FVec F S64x128 .f32) (v396 : IVec S64x128 1) (v397 : FVec F S64x128 .f32) (v401 : FVec F S64x128 .f32) (v405 : FVec F S64x128 .f32) (v409 : FVec F S64x128 .f32) (v412 : FVec F S64x128 .f32) :
    Good (F := F) (v405 = select v396 v412 v377) (fun K => rest13 arg0 harg0 arg1 harg1 arg2 harg2 arg3 harg3 v35 v377 v396 v397 v401 v405 v409 v412 >>= glue arg0 harg0 arg1 harg1 arg2 harg2 arg3 harg3 K) :=
  Good.step (chain14 arg0 harg0 arg1 harg1 arg2 harg2 arg3 harg3 v35 (k1_pay100 v35 v397) (k1_pay101 v35 v397 v401) (k1_pay102 v35 v397 v405) (k1_pay103 v35 v397 v409) (k1_pay104 v35 v377 v396 v397 v412) (k1_pay105 v35) 16#32)
    (fun K => by unfold rest13; rw [k1_part13_eq_skeleton]; rfl)
    (by rintro rfl; exact ⟨rfl, rfl⟩)

/-- The first half from part 12. -/
def rest12 (v35 : IVec S64x128 32) (v337 : FVec F S64x128 .f32) (v341 : FVec F S64x128 .f32) (v345 : IVec S64x128 1) (v360 : IVec S64x128 1) (v361 : FVec F S64x128 .f32) (v365 : FVec F S64x128 .f32) (v369 : FVec F S64x128 .f32) (v370 : FVec F S64x128 .f32) (c8_i32_150 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v377, v396, v397, v401, v405, v409, v412⟩ : Σ' (v377 : FVec F S64x128 .f32) (v396 : IVec S64x128 1) (v397 : FVec F S64x128 .f32) (v401 : FVec F S64x128 .f32) (v405 : FVec F S64x128 .f32) (v409 : FVec F S64x128 .f32), FVec F S64x128 .f32 ← k1_part12 arg0 harg0 arg1 harg1 arg2 harg2 arg3 harg3 v35 v337 v341 v345 v360 v361 v365 v369 v370 c8_i32_150
  rest13 arg0 harg0 arg1 harg1 arg2 harg2 arg3 harg3 v35 v377 v396 v397 v401 v405 v409 v412

/-- It hands four arrays on. -/
theorem chain12 (v35 : IVec S64x128 32) (v337 : FVec F S64x128 .f32) (v341 : FVec F S64x128 .f32) (v345 : IVec S64x128 1) (v360 : IVec S64x128 1) (v361 : FVec F S64x128 .f32) (v365 : FVec F S64x128 .f32) (v369 : FVec F S64x128 .f32) (v370 : FVec F S64x128 .f32) (c8_i32_150 : BitVec 32) :
    Good (F := F) (v369 = select v360 (select v345 (dynamicRotate 1 120#32 none v341 rotates_S64x128_d1) (dynamicRotate 1 8#32 none v341 rotates_S64x128_d1)) v341 ∧ c8_i32_150 = 8#32) (fun K => rest12 arg0 harg0 arg1 harg1 arg2 harg2 arg3 harg3 v35 v337 v341 v345 v360 v361 v365 v369 v370 c8_i32_150 >>= glue arg0 harg0 arg1 harg1 arg2 harg2 arg3 harg3 K) :=
  Good.step (chain13 arg0 harg0 arg1 harg1 arg2 harg2 arg3 harg3 v35 (k1_pay88 v341 v345 v360) (k1_pay91 v35 v361) (k1_pay92 v35 v361) (k1_pay93 v35 v361 v365) (k1_pay94 v35 v361 v369) (k1_pay95 v35 v337 v345 v360 v361 v370 c8_i32_150) (k1_pay96 v35 v341 v345 v360))
    (fun K => by unfold rest12; rw [k1_part12_eq_skeleton]; rfl)
    (by rintro ⟨rfl, rfl⟩; exact rfl)

/-- The first half from part 11. -/
def rest11 (v35 : IVec S64x128 32) (v297 : FVec F S64x128 .f32) (v301 : FVec F S64x128 .f32) (v305 : FVec F S64x128 .f32) (v309 : IVec S64x128 1) (v324 : IVec S64x128 1) (v325 : FVec F S64x128 .f32) (v329 : FVec F S64x128 .f32) (c127_i32_133 : BitVec 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v337, v341, v345, v360, v361, v365, v369, v370, c8_i32_150⟩ : Σ' (v337 : FVec F S64x128 .f32) (v341 : FVec F S64x128 .f32) (v345 : IVec S64x128 1) (v360 : IVec S64x128 1) (v361 : FVec F S64x128 .f32) (v365 : FVec F S64x128 .f32) (v369 : FVec F S64x128 .f32) (v370 : FVec F S64x128 .f32), BitVec 32 ← k1_part11 arg0 harg0 arg1 harg1 arg2 harg2 arg3 harg3 v35 v297 v301 v305 v309 v324 v325 v329 c127_i32_133
  rest12 arg0 harg0 arg1 harg1 arg2 harg2 arg3 harg3 v35 v337 v341 v345 v360 v361 v365 v369 v370 c8_i32_150

/-- It hands four arrays on. -/
theorem chain11 (v35 : IVec S64x128 32) (v297 : FVec F S64x128 .f32) (v301 : FVec F S64x128 .f32) (v305 : FVec F S64x128 .f32) (v309 : IVec S64x128 1) (v324 : IVec S64x128 1) (v325 : FVec F S64x128 .f32) (v329 : FVec F S64x128 .f32) (c127_i32_133 : BitVec 32) :
    Good (F := F) (v297 = v305 ∧ c127_i32_133 = 127#32) (fun K => rest11 arg0 harg0 arg1 harg1 arg2 harg2 arg3 harg3 v35 v297 v301 v305 v309 v324 v325 v329 c127_i32_133 >>= glue arg0 harg0 arg1 harg1 arg2 harg2 arg3 harg3 K) :=
  Good.step (chain12 arg0 harg0 arg1 harg1 arg2 harg2 arg3 harg3 v35 (k1_pay79 v301 v309 v324) (k1_pay80 v305 v309 v324) (k1_pay81 v35) (k1_pay83 v35 v325) (k1_pay84 v35 v325) (k1_pay85 v35 v325 v329) (k1_pay86 v35 v297 v309 v324 v325 c127_i32_133) (k1_pay87 v301 v309 v324) 8#32)
    (fun K => by unfold rest11; rw [k1_part11_eq_skeleton]; rfl)
    (by rintro ⟨rfl, rfl⟩; exact ⟨rfl, rfl⟩)

/-- The first half from part 10. -/
def rest10 (v35 : IVec S64x128 32) (v253 : FVec F S64x128 .f32) (v257 : FVec F S64x128 .f32) (v261 : FVec F S64x128 .f32) (v265 : FVec F S64x128 .f32) (v269 : FVec F S64x128 .f32) (v273 : IVec S64x128 1) (v280 : FVec F S64x128 .f32) (v288 : IVec S64x128 1) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v297, v301, v305, v309, v324, v325, v329, c127_i32_133⟩ : Σ' (v297 : FVec F S64x128 .f32) (v301 : FVec F S64x128 .f32) (v305 : FVec F S64x128 .f32) (v309 : IVec S64x128 1) (v324 : IVec S64x128 1) (v325 : FVec F S64x128 .f32) (v329 : FVec F S64x128 .f32), BitVec 32 ← k1_part10 arg0 harg0 arg1 harg1 arg2 harg2 arg3 harg3 v35 v253 v257 v261 v265 v269 v273 v280 v288
  rest11 arg0 harg0 arg1 harg1 arg2 harg2 arg3 harg3 v35 v297 v301 v305 v309 v324 v325 v329 c127_i32_133

/-- It hands four arrays on. -/
theorem chain10 (v35 : IVec S64x128 32) (v253 : FVec F S64x128 .f32) (v257 : FVec F S64x128 .f32) (v261 : FVec F S64x128 .f32) (v265 : FVec F S64x128 .f32) (v269 : FVec F S64x128 .f32) (v273 : IVec S64x128 1) (v280 : FVec F S64x128 .f32) (v288 : IVec S64x128 1) :
    Good (F := F) (v261 = v269) (fun K => rest10 arg0 harg0 arg1 harg1 arg2 harg2 arg3 harg3 v35 v253 v257 v261 v265 v269 v273 v280 v288 >>= glue arg0 harg0 arg1 harg1 arg2 harg2 arg3 harg3 K) :=
  Good.step (chain11 arg0 harg0 arg1 harg1 arg2 harg2 arg3 harg3 v35 (k1_pay71 v261 v273 v288) (k1_pay72 v265 v273 v288) (k1_pay73 v269 v273 v288) (k1_pay74 v35) (k1_pay76 v35 v253 v280 v288) (k1_pay77 v35 v253 v280 v288) (k1_pay78 v35 v253 v257 v273 v280 v288) 127#32)
    (fun K => by unfold rest10; rw [k1_part10_eq_skeleton]; rfl)
    (by rintro rfl; exact ⟨rfl, rfl⟩)

/-- The first half from part 9. -/
def rest9 (v35 : IVec S64x128 32) (v217 : FVec F S64x128 .f32) (v221 : FVec F S64x128 .f32) (v225 : FVec F S64x128 .f32) (v229 : FVec F S64x128 .f32) (v233 : FVec F S64x128 .f32) (v237 : IVec S64x128 1) (v244 : FVec F S64x128 .f32) (v245 : IVec S64x128 1) (cst_97 : IVec S64x128 1) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v253, v257, v261, v265, v269, v273, v280, v288⟩ : Σ' (v253 : FVec F S64x128 .f32) (v257 : FVec F S64x128 .f32) (v261 : FVec F S64x128 .f32) (v265 : FVec F S64x128 .f32) (v269 : FVec F S64x128 .f32) (v273 : IVec S64x128 1) (v280 : FVec F S64x128 .f32), IVec S64x128 1 ← k1_part9 arg0 harg0 arg1 harg1 arg2 harg2 arg3 harg3 v35 v217 v221 v225 v229 v233 v237 v244 v245 cst_97
  rest10 arg0 harg0 arg1 harg1 arg2 harg2 arg3 harg3 v35 v253 v257 v261 v265 v269 v273 v280 v288

/-- It hands four arrays on. -/
theorem chain9 (v35 : IVec S64x128 32) (v217 : FVec F S64x128 .f32) (v221 : FVec F S64x128 .f32) (v225 : FVec F S64x128 .f32) (v229 : FVec F S64x128 .f32) (v233 : FVec F S64x128 .f32) (v237 : IVec S64x128 1) (v244 : FVec F S64x128 .f32) (v245 : IVec S64x128 1) (cst_97 : IVec S64x128 1) :
    Good (F := F) (v225 = v233 ∧ cst_97 = constantI S64x128 1 1#1) (fun K => rest9 arg0 harg0 arg1 harg1 arg2 harg2 arg3 harg3 v35 v217 v221 v225 v229 v233 v237 v244 v245 cst_97 >>= glue arg0 harg0 arg1 harg1 arg2 harg2 arg3 harg3 K) :=
  Good.step (chain10 arg0 harg0 arg1 harg1 arg2 harg2 arg3 harg3 v35 (k1_pay62 v217 v244 v245 cst_97) (k1_pay63 v217 v221 v237 v244 v245 cst_97) (k1_pay64 v217 v225 v237 v244 v245 cst_97) (k1_pay65 v217 v229 v237 v244 v245 cst_97) (k1_pay66 v217 v233 v237 v244 v245 cst_97) (k1_pay67 v35) (k1_pay68 v35 v217 v244 v245 cst_97) (k1_pay69 v35 v217 v244 v245 cst_97))
    (fun K => by unfold rest9; rw [k1_part9_eq_skeleton]; rfl)
    (by rintro ⟨rfl, rfl⟩; exact rfl)

/-- The first half from part 8. -/
def rest8 (v35 : IVec S64x128 32) (v181 : FVec F S64x128 .f32) (v185 : FVec F S64x128 .f32) (v189 : FVec F S64x128 .f32) (v193 : FVec F S64x128 .f32) (v197 : FVec F S64x128 .f32) (v201 : IVec S64x128 1) (v203 : IVec S64x128 32) (v204 : IVec S64x128 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v217, v221, v225, v229, v233, v237, v244, v245, cst_97⟩ : Σ' (v217 : FVec F S64x128 .f32) (v221 : FVec F S64x128 .f32) (v225 : FVec F S64x128 .f32) (v229 : FVec F S64x128 .f32) (v233 : FVec F S64x128 .f32) (v237 : IVec S64x128 1) (v244 : FVec F S64x128 .f32) (v245 : IVec S64x128 1), IVec S64x128 1 ← k1_part8 arg0 harg0 arg1 harg1 arg2 harg2 arg3 harg3 v35 v181 v185 v189 v193 v197 v201 v203 v204
  rest9 arg0 harg0 arg1 harg1 arg2 harg2 arg3 harg3 v35 v217 v221 v225 v229 v233 v237 v244 v245 cst_97

/-- It hands four arrays on. -/
theorem chain8 (v35 : IVec S64x128 32) (v181 : FVec F S64x128 .f32) (v185 : FVec F S64x128 .f32) (v189 : FVec F S64x128 .f32) (v193 : FVec F S64x128 .f32) (v197 : FVec F S64x128 .f32) (v201 : IVec S64x128 1) (v203 : IVec S64x128 32) (v204 : IVec S64x128 32) :
    Good (F := F) (v189 = v197 ∧ v204 = broadcast S64x128 0#32) (fun K => rest8 arg0 harg0 arg1 harg1 arg2 harg2 arg3 harg3 v35 v181 v185 v189 v193 v197 v201 v203 v204 >>= glue arg0 harg0 arg1 harg1 arg2 harg2 arg3 harg3 K) :=
  Good.step (chain9 arg0 harg0 arg1 harg1 arg2 harg2 arg3 harg3 v35 (k1_pay53 v181 v201 v203 v204) (k1_pay54 v181 v185 v201 v203 v204) (k1_pay55 v181 v189 v201 v203 v204) (k1_pay56 v181 v193 v201 v203 v204) (k1_pay57 v181 v197 v201 v203 v204) (k1_pay58 v35) (k1_pay59 v35 v181 v201 v203 v204) (k1_pay60 v35) (constantI S64x128 1 1#1))
    (fun K => by unfold rest8; rw [k1_part8_eq_skeleton]; rfl)
    (by rintro ⟨rfl, rfl⟩; exact ⟨rfl, rfl⟩)

/-- The first half from part 7. -/
def rest7 (v35 : IVec S64x128 32) (v145 : FVec F S64x128 .f32) (v149 : FVec F S64x128 .f32) (v153 : FVec F S64x128 .f32) (v157 : FVec F S64x128 .f32) (v161 : FVec F S64x128 .f32) (v163 : IVec S64x128 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v181, v185, v189, v193, v197, v201, v203, v204⟩ : Σ' (v181 : FVec F S64x128 .f32) (v185 : FVec F S64x128 .f32) (v189 : FVec F S64x128 .f32) (v193 : FVec F S64x128 .f32) (v197 : FVec F S64x128 .f32) (v201 : IVec S64x128 1) (v203 : IVec S64x128 32), IVec S64x128 32 ← k1_part7 arg0 harg0 arg1 harg1 arg2 harg2 arg3 harg3 v35 v145 v149 v153 v157 v161 v163
  rest8 arg0 harg0 arg1 harg1 arg2 harg2 arg3 harg3 v35 v181 v185 v189 v193 v197 v201 v203 v204

/-- It hands four arrays on. -/
theorem chain7 (v35 : IVec S64x128 32) (v145 : FVec F S64x128 .f32) (v149 : FVec F S64x128 .f32) (v153 : FVec F S64x128 .f32) (v157 : FVec F S64x128 .f32) (v161 : FVec F S64x128 .f32) (v163 : IVec S64x128 32) :
    Good (F := F) (v153 = v161) (fun K => rest7 arg0 harg0 arg1 harg1 arg2 harg2 arg3 harg3 v35 v145 v149 v153 v157 v161 v163 >>= glue arg0 harg0 arg1 harg1 arg2 harg2 arg3 harg3 K) :=
  Good.step (chain8 arg0 harg0 arg1 harg1 arg2 harg2 arg3 harg3 v35 (k1_pay43 v35 v145 v163) (k1_pay44 v35 v145 v149 v163) (k1_pay45 v35 v145 v153 v163) (k1_pay46 v35 v145 v157 v163) (k1_pay47 v35 v145 v161 v163) (k1_pay48 v35) (k1_pay49 v35) k1_pay50)
    (fun K => by unfold rest7; rw [k1_part7_eq_skeleton]; rfl)
    (by rintro rfl; exact ⟨rfl, rfl⟩)

/-- The first half from part 6. -/
def rest6 (v2 : FVec F S64x128 .f32) (v35 : IVec S64x128 32) (v104 : FVec F S64x128 .f32) (v111 : FVec F S64x128 .f32) (v118 : FVec F S64x128 .f32) (v121 : FVec F S64x128 .f32) (cst_47 : F .f32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v145, v149, v153, v157, v161, v163⟩ : Σ' (v145 : FVec F S64x128 .f32) (v149 : FVec F S64x128 .f32) (v153 : FVec F S64x128 .f32) (v157 : FVec F S64x128 .f32) (v161 : FVec F S64x128 .f32), IVec S64x128 32 ← k1_part6 arg0 harg0 arg1 harg1 arg2 harg2 arg3 harg3 v2 v35 v104 v111 v118 v121 cst_47
  rest7 arg0 harg0 arg1 harg1 arg2 harg2 arg3 harg3 v35 v145 v149 v153 v157 v161 v163

/-- It hands four arrays on. -/
theorem chain6 (v2 : FVec F S64x128 .f32) (v35 : IVec S64x128 32) (v104 : FVec F S64x128 .f32) (v111 : FVec F S64x128 .f32) (v118 : FVec F S64x128 .f32) (v121 : FVec F S64x128 .f32) (cst_47 : F .f32) :
    Good (F := F) (v111 = minimumf (broadcast S64x128 (Scalar.ofBits .f32 0x44800000#32)) (maximumf (broadcast S64x128 cst_47) v121)) (fun K => rest6 arg0 harg0 arg1 harg1 arg2 harg2 arg3 harg3 v2 v35 v104 v111 v118 v121 cst_47 >>= glue arg0 harg0 arg1 harg1 arg2 harg2 arg3 harg3 K) :=
  Good.step (chain7 arg0 harg0 arg1 harg1 arg2 harg2 arg3 harg3 v35 (k1_pay34 v2 v35) (k1_pay35 v2 v35 v104) (k1_pay36 v2 v35 v111) (k1_pay37 v2 v35 v118) (k1_pay38 v2 v35 v121 cst_47) (k1_pay39 v35))
    (fun K => by unfold rest6; rw [k1_part6_eq_skeleton]; rfl)
    (by rintro rfl; exact rfl)

/-- The first half from part 5. -/
def rest5 (v5 : FVec F S64x128 .f32) (v8 : FVec F S64x128 .f32) (v11 : FVec F S64x128 .f32) (v14 : FVec F S64x128 .f32) (v54 : FVec F S64x128 .f32) (v79 : FVec F S64x128 .f32) (v2 : FVec F S64x128 .f32) (v35 : IVec S64x128 32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v104, v111, v118, v121, cst_47⟩ : Σ' (v104 : FVec F S64x128 .f32) (v111 : FVec F S64x128 .f32) (v118 : FVec F S64x128 .f32) (v121 : FVec F S64x128 .f32), F .f32 ← k1_part5 arg0 harg0 arg1 harg1 arg2 harg2 arg3 harg3 v5 v8 v11 v14 v54 v79
  rest6 arg0 harg0 arg1 harg1 arg2 harg2 arg3 harg3 v2 v35 v104 v111 v118 v121 cst_47

/-- It hands four arrays on. -/
theorem chain5 (v5 : FVec F S64x128 .f32) (v8 : FVec F S64x128 .f32) (v11 : FVec F S64x128 .f32) (v14 : FVec F S64x128 .f32) (v54 : FVec F S64x128 .f32) (v79 : FVec F S64x128 .f32) (v2 : FVec F S64x128 .f32) (v35 : IVec S64x128 32) :
    Good (F := F) (k1_pay28 v8 v14 v79 = minimumf (broadcast S64x128 (Scalar.ofBits .f32 0x44800000#32)) (maximumf (broadcast S64x128 (Scalar.ofBits .f32 0x00000000#32)) (k1_pay30 v8 v14 v79))) (fun K => rest5 arg0 harg0 arg1 harg1 arg2 harg2 arg3 harg3 v5 v8 v11 v14 v54 v79 v2 v35 >>= glue arg0 harg0 arg1 harg1 arg2 harg2 arg3 harg3 K) :=
  Good.step (chain6 arg0 harg0 arg1 harg1 arg2 harg2 arg3 harg3 v2 v35 (k1_pay27 v5 v11 v54) (k1_pay28 v8 v14 v79) (k1_pay29 v5 v11 v54) (k1_pay30 v8 v14 v79) (Scalar.ofBits .f32 0x00000000#32))
    (fun K => by unfold rest5; rw [k1_part5_eq_skeleton]; rfl)
    id

/-- The first half from part 4. -/
def rest4 (v16 : IVec S64x128 32) (v32 : IVec S64x128 32) (v33 : IVec S64x128 32) (v5 : FVec F S64x128 .f32) (v8 : FVec F S64x128 .f32) (v11 : FVec F S64x128 .f32) (v14 : FVec F S64x128 .f32) (v2 : FVec F S64x128 .f32) :
    Prog (TpuEff nD τ sig (Elt F) Λ₀ .tc) (Σ' (v35 : IVec S64x128 32) (v2457 : FVec F S64x128 .f32) (v2461 : FVec F S64x128 .f32) (v2465 : FVec F S64x128 .f32) (v2469 : IVec S64x128 1) (v2484 : IVec S64x128 1) (v2485 : FVec F S64x128 .f32) (v2489 : FVec F S64x128 .f32), BitVec 32) := do
  let ⟨v35, v54, v79⟩ : Σ' (v35 : IVec S64x128 32) (v54 : FVec F S64x128 .f32), FVec F S64x128 .f32 ← k1_part4 arg0 harg0 arg1 harg1 arg2 harg2 arg3 harg3 v16 v32 v33
  rest5 arg0 harg0 arg1 harg1 arg2 harg2 arg3 harg3 v5 v8 v11 v14 v54 v79 v2 v35

/-- It hands four arrays on. -/
theorem chain4 (v16 : IVec S64x128 32) (v32 : IVec S64x128 32) (v33 : IVec S64x128 32) (v5 : FVec F S64x128 .f32) (v8 : FVec F S64x128 .f32) (v11 : FVec F S64x128 .f32) (v14 : FVec F S64x128 .f32) (v2 : FVec F S64x128 .f32) :
    Good (F := F) (k1_pay28 v8 v14 (k1_pay22 (F := F) v16 v32 v33) = minimumf (broadcast S64x128 (Scalar.ofBits .f32 0x44800000#32)) (maximumf (broadcast S64x128 (Scalar.ofBits .f32 0x00000000#32)) (k1_pay30 v8 v14 (k1_pay22 (F := F) v16 v32 v33)))) (fun K => rest4 arg0 harg0 arg1 harg1 arg2 harg2 arg3 harg3 v16 v32 v33 v5 v8 v11 v14 v2 >>= glue arg0 harg0 arg1 harg1 arg2 harg2 arg3 harg3 K) :=
  Good.step (chain5 arg0 harg0 arg1 harg1 arg2 harg2 arg3 harg3 v5 v8 v11 v14 (k1_pay21 (F := F) v16 v32 v33) (k1_pay22 (F := F) v16 v32 v33) v2 (k1_pay20 v16 v32 v33))
    (fun K => by unfold rest4; rw [k1_part4_eq_skeleton]; rfl)
    id

end Cert.KernelIdeal.Sort

end
-- ==== Proof.KernelIdealBody.lean ====
module

public import proofs.«01_k».proof.Proof.KernelIdealSort
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.UnfoldOut
public import Idealize.ShloMosaic.Lib.WordCmp

@[expose] public section

set_option maxRecDepth 65536

noncomputable section

/-! # The second call's body: what it writes -/

namespace Cert.KernelIdeal.Body

open Cert.KernelIdeal Cert.KernelIdeal.Gen Cert.KernelIdeal.Sort
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two y coordinates of a decoded box are one number: the anchors have no height. -/
def Flat (F : FTy → Type) [FloatOps F] : Prop := ∀ v8 v14 v79 : FVec F S64x128 .f32, k1_pay28 v8 v14 v79 =
  minimumf (broadcast S64x128 (Scalar.ofBits .f32 0x44800000#32))
    (maximumf (broadcast S64x128 (Scalar.ofBits .f32 0x00000000#32)) (k1_pay30 v8 v14 v79))

section

variable (arg0 : Memref sig .tc .vmem S2x32x128 .f32) (harg0 : arg0.IsWhole) (arg1 : Memref sig .tc .vmem S2x4x32x128 .f32) (harg1 : arg1.IsWhole)
  (arg2 : Memref sig .tc .vmem S2x1000x4 .f32) (harg2 : arg2.IsWhole) (arg3 : Memref sig .tc .vmem S2x128x8x8x128 .f32) (harg3 : arg3.IsWhole)

/-- What follows the sort: the two loops, and the store of the packed boxes. -/
def tail : Next F := fun v2937 v2942 v2947 v2952 => do
  let ⟨v2991, v2992, v2993, v2994⟩ : Σ' (v2991 : FVec F S2x8x128 .f32) (v2992 : FVec F S2x8x128 .f32) (v2993 : FVec F S2x8x128 .f32), FVec F S2x8x128x1 .f32 ← k1_part74 arg0 harg0 arg1 harg1 arg2 harg2 arg3 harg3 v2937 v2942 v2947 v2952
  let v3001 : Vec F S2x1000x4 .f32 ← Prog.lift (.load arg2 (Rect.unit (s := S2x1000x4) ![0, 0, 0] S2x1000x4.size inb_S2x1000x4_S2x1000x4_0_0_0).toLoadRect (View.loadsAt_vmem h_S2x1000x4))
  Prog.lift (.store arg2 (Rect.unit (s := S2x1000x4) ![0, 0, 0] S2x1000x4.size inb_S2x1000x4_S2x1000x4_0_0_0) (k1_pay1 v2991 v2992 v2993 v2994) Finset.univ (View.stores_vmem_bits_univ h_S2x1000x4 rfl) (.inl rfl))
  pure ⟨⟩

/-- The body: its loads, the sort, and what follows. -/
theorem body_eq : cc1__prop_body (F := F) arg0 harg0 arg1 harg1 arg2 harg2 arg3 harg3 = (do
  let ⟨v2, v5, v8, v11, v14, v16, v32, v33⟩ : Σ' (v2 : FVec F S64x128 .f32) (v5 : FVec F S64x128 .f32) (v8 : FVec F S64x128 .f32) (v11 : FVec F S64x128 .f32) (v14 : FVec F S64x128 .f32) (v16 : IVec S64x128 32) (v32 : IVec S64x128 32), IVec S64x128 32 ← k1_part3 arg0 harg0 arg1 harg1 arg2 harg2 arg3 harg3
  (rest4 arg0 harg0 arg1 harg1 arg2 harg2 arg3 harg3 v16 v32 v33 v5 v8 v11 v14 v2) >>= glue arg0 harg0 arg1 harg1 arg2 harg2 arg3 harg3 (tail arg0 harg0 arg1 harg1 arg2 harg2 arg3 harg3)) := by
  rw [cc1__prop_body_eq_skeleton]; unfold cc1__prop_body_skel; rw [k1_part75_eq_skeleton]; unfold k1_part75_skel
  rw [bind_assoc]
  rfl

end

section

variable (c : Dev nD) (arg0 : Memref sig .tc .vmem S2x32x128 .f32) (harg0 : arg0.IsWhole) (arg1 : Memref sig .tc .vmem S2x4x32x128 .f32) (harg1 : arg1.IsWhole)
  (arg2 : Memref sig .tc .vmem S2x1000x4 .f32) (harg2 : arg2.IsWhole) (arg3 : Memref sig .tc .vmem S2x128x8x8x128 .f32) (harg3 : arg3.IsWhole)
  (X1 Y1 X2 Y2 : FVec F S2x8x128 .f32)

/-- The stores of the first loop: the overlap table, one column block a trip. -/
def table : List (View.Piece (Elt F) S2x128x8x8x128 .f32) :=
  pb_k1_t1 (F := F) Variants.none c none arg0 harg0 arg1 harg1 arg2 harg2 arg3 harg3 X1 Y1 X2 Y2 (iota .tc S2x8x128 32 [2] iota_S2x8x128_d2_w32) k1_t1_loop.trips

/-- They cover the table. -/
theorem table_cover (y : S2x128x8x8x128.Idx) : ∃ pc ∈ table c arg0 harg0 arg1 harg1 arg2 harg2 arg3 harg3 X1 Y1 X2 Y2, y ∈ pc.1.set :=
  View.cover_of_tiledL (table c arg0 harg0 arg1 harg1 arg2 harg2 arg3 harg3 X1 Y1 X2 Y2) S2x1x8x8x128.size (by sl_kernel_rfl) y

/-- So what they leave does not depend on what the scratch held. -/
theorem table_eq (f g : BufTy.Contents (Elt F) arg3.view.ty) :
    arg3.view.writes (Elt F) f (table c arg0 harg0 arg1 harg1 arg2 harg2 arg3 harg3 X1 Y1 X2 Y2) = arg3.view.writes (Elt F) g (table c arg0 harg0 arg1 harg1 arg2 harg2 arg3 harg3 X1 Y1 X2 Y2) :=
  (harg3.eq_unread rfl).trans ((congrArg harg3.unread (View.read_writes_of_cover _ _ _ _ _ (table_cover c arg0 harg0 arg1 harg1 arg2 harg2 arg3 harg3 X1 Y1 X2 Y2))).trans
    (harg3.eq_unread rfl).symm)

/-- What is suppressed after the second loop, from a scratch that held `f` before the first. -/
def sup (f : BufTy.Contents (Elt F) arg3.view.ty) : FVec F S2x8x128 .f32 :=
  st_k1_t2 (F := F) Variants.none c none arg0 harg0 arg1 harg1 arg2 harg2 arg3 harg3 X1 Y1 X2 Y2 (arg3.view.writes (Elt F) f (table c arg0 harg0 arg1 harg1 arg2 harg2 arg3 harg3 X1 Y1 X2 Y2))
    (k1_pay683 X1 Y1 X2 Y2) k1_t2_loop.trips

/-- It does not depend on what the scratch held. -/
theorem sup_eq (f g : BufTy.Contents (Elt F) arg3.view.ty) : sup c arg0 harg0 arg1 harg1 arg2 harg2 arg3 harg3 X1 Y1 X2 Y2 f = sup c arg0 harg0 arg1 harg1 arg2 harg2 arg3 harg3 X1 Y1 X2 Y2 g := by
  unfold sup; rw [table_eq c arg0 harg0 arg1 harg1 arg2 harg2 arg3 harg3 X1 Y1 X2 Y2 f g]

/-- The packed boxes times what was kept of them. -/
def packed (s : FVec F S2x8x128 .f32) : Vec F S2x1000x4 .f32 :=
  k1_pay1 (k1_pay686 X1 Y1 X2 Y2 s) (k1_pay687 X1 Y1 X2 Y2 s) (k1_pay688 X1 Y1 X2 Y2 s) (k1_pay689 X1 Y1 X2 Y2 s)

end

/-- What the tail does: the table is filled, suppression is swept over it, and the packed boxes times what was kept of
    them are stored. -/
theorem tail_run (c : Dev nD) (arg0 : Memref sig .tc .vmem S2x32x128 .f32) (harg0 : arg0.IsWhole) (arg1 : Memref sig .tc .vmem S2x4x32x128 .f32) (harg1 : arg1.IsWhole) (arg2 : Memref sig .tc .vmem S2x1000x4 .f32) (harg2 : arg2.IsWhole) (arg3 : Memref sig .tc .vmem S2x128x8x8x128 .f32) (harg3 : arg3.IsWhole)
    (X1 Y1 X2 Y2 : FVec F S2x8x128 .f32) (f2 : BufTy.Contents (Elt F) arg2.view.ty) (fs0 : BufTy.Contents (Elt F) arg3.view.ty)
    (E : Set ℕ) (K : PUnit → sProp 𝕄) :
    iprop((arg2.view.loc (c : Thread nD τ) ↦[arg2.view.set]{fullShare} f2) ∗ (arg3.view.loc (c : Thread nD τ) ↦[arg3.view.set]{fullShare} fs0)
        ∗ (iprop((arg2.view.loc (c : Thread nD τ) ↦[arg2.view.set]{fullShare} arg2.view.writes (Elt F) f2
              [⟨(Rect.unit (s := S2x1000x4) ![0, 0, 0] S2x1000x4.size inb_S2x1000x4_S2x1000x4_0_0_0), packed X1 Y1 X2 Y2 (sup c arg0 harg0 arg1 harg1 arg2 harg2 arg3 harg3 X1 Y1 X2 Y2 arg3.view.junk)⟩])
            ∗ (∃ f, arg3.view.loc (c : Thread nD τ) ↦[arg3.view.set]{fullShare} f)) -∗ K ⟨⟩))
      ⊢ wp frame (wpE (defs₀ (F := F)) Variants.none c none) E (tail arg0 harg0 arg1 harg1 arg2 harg2 arg3 harg3 X1 Y1 X2 Y2) K := by
  rw [sup_eq c arg0 harg0 arg1 harg1 arg2 harg2 arg3 harg3 X1 Y1 X2 Y2 arg3.view.junk fs0]
  simp only [k1_part74_eq_skeleton, k1_part1_eq_skeleton, k1_part2_eq_skeleton, tail]
  iintro ⟨H2, HS0, Hk⟩
  sl_exec
  sl_step
  iapply Hk
  isplitl [H2]
  · iexact H2
  iexists _
  iexact HS0

/-- What the body does to its memrefs: the inputs' stay at their contents, the scratch ends at some contents, and the
    output's is written by one store, of the packed boxes times what was kept of them: of four arrays whose second and
    fourth are one if the boxes are flat, and of some state of suppression. -/
theorem run (c : Dev nD) (arg0 : Memref sig .tc .vmem S2x32x128 .f32) (harg0 : arg0.IsWhole) (arg1 : Memref sig .tc .vmem S2x4x32x128 .f32) (harg1 : arg1.IsWhole) (arg2 : Memref sig .tc .vmem S2x1000x4 .f32) (harg2 : arg2.IsWhole) (arg3 : Memref sig .tc .vmem S2x128x8x8x128 .f32) (harg3 : arg3.IsWhole)
    (x0 : Vec F S2x32x128 .f32) (x1 : Vec F S2x4x32x128 .f32) :
    ∃ X1 Y1 X2 Y2 s, (Flat F → Y1 = Y2) ∧
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f [⟨(Rect.unit (s := S2x1000x4) ![0, 0, 0] S2x1000x4.size inb_S2x1000x4_S2x1000x4_0_0_0), packed X1 Y1 X2 Y2 s⟩]) ∗ (∃ d, owns (c : Thread nD τ) arg3 fullShare d)) -∗ K ⟨⟩))
          ⊢ wp frame (wpE (defs₀ (F := F)) Variants.none c none) E (cc1__prop_body arg0 harg0 arg1 harg1 arg2 harg2 arg3 harg3) K := by
  have hg := fun v16 v32 v33 v5 v8 v11 v14 v2 => chain4 (F := F) arg0 harg0 arg1 harg1 arg2 harg2 arg3 harg3 v16 v32 v33 v5 v8 v11 v14 v2
  unfold Good at hg
  choose X1 Y1 X2 Y2 hK hY using hg
  refine ⟨X1 ?a ?b ?c ?d ?e ?f ?g ?h, Y1 ?a ?b ?c ?d ?e ?f ?g ?h, X2 ?a ?b ?c ?d ?e ?f ?g ?h, Y2 ?a ?b ?c ?d ?e ?f ?g ?h,
    sup c arg0 harg0 arg1 harg1 arg2 harg2 arg3 harg3 (X1 ?a ?b ?c ?d ?e ?f ?g ?h) (Y1 ?a ?b ?c ?d ?e ?f ?g ?h) (X2 ?a ?b ?c ?d ?e ?f ?g ?h) (Y2 ?a ?b ?c ?d ?e ?f ?g ?h)
      arg3.view.junk, fun h => hY ?a ?b ?c ?d ?e ?f ?g ?h (h _ _ _), fun E K => ?run⟩
  case run =>
    rw [body_eq]
    have htail := tail_run (F := F) c arg0 harg0 arg1 harg1 arg2 harg2 arg3 harg3
    revert htail
    generalize tail (F := F) arg0 harg0 arg1 harg1 arg2 harg2 arg3 harg3 = T
    intro htail
    simp only [hK, k1_part3_eq_skeleton]
    unfold owns
    iintro ⟨⟨%f0, %hf0, H0⟩, ⟨%f1, %hf1, H1⟩, ⟨%d2, %f2, -, H2⟩, ⟨%ds0, %fs0, -, HS0⟩, Hk⟩
    obtain rfl := harg0.eq_unread hf0; obtain rfl := harg1.eq_unread hf1
    sl_exec
    iapply (htail _ _ _ _ f2 fs0 E _)
    isplitl [H2]
    · iexact H2
    isplitl [HS0]
    · iexact HS0
    iintro ⟨H2, ⟨%gs, HS0⟩⟩
    iapply Hk
    isplitl [H0]
    · iexists _; isplitr; · ipureintro; exact harg0.read_unread _
      iexact H0
    isplitl [H1]
    · iexists _; isplitr; · ipureintro; exact harg1.read_unread _
      iexact H1
    isplitl [H2]
    · iexists f2
      iexact H2
    iexists _, _; isplitr; swap; · iexact HS0
    ipureintro; rfl

end Cert.KernelIdeal.Body

end
-- ==== Proof.KernelIdealRun.lean ====
module

public import proofs.«01_k».proof.Proof.KernelIdealBody
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! # The run: two regions between host operations, with what they leave in the result -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__conv_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x512x512 := Rect.unit (s := S1x512x512) ![0, 0, 0] S1x512x512.size inb_S1x512x512_S1x512x512_0_0_0
abbrev r0_1 : Rect S9x512x512 := Rect.unit (s := S9x512x512) ![0, 0, 0] S1x512x512.size inb_S9x512x512_S1x512x512_0_0_0
abbrev r0_2 : Rect S9x512x512 := Rect.unit (s := S9x512x512) ![1, 0, 0] S1x512x512.size inb_S9x512x512_S1x512x512_1_0_0
abbrev r0_3 : Rect S9x512x512 := Rect.unit (s := S9x512x512) ![2, 0, 0] S1x512x512.size inb_S9x512x512_S1x512x512_2_0_0
abbrev r0_4 : Rect S9x512x512 := Rect.unit (s := S9x512x512) ![3, 0, 0] S1x512x512.size inb_S9x512x512_S1x512x512_3_0_0
abbrev r0_5 : Rect S9x512x512 := Rect.unit (s := S9x512x512) ![4, 0, 0] S1x512x512.size inb_S9x512x512_S1x512x512_4_0_0
abbrev r0_6 : Rect S9x512x512 := Rect.unit (s := S9x512x512) ![5, 0, 0] S1x512x512.size inb_S9x512x512_S1x512x512_5_0_0
abbrev r0_7 : Rect S9x512x512 := Rect.unit (s := S9x512x512) ![6, 0, 0] S1x512x512.size inb_S9x512x512_S1x512x512_6_0_0
abbrev r0_8 : Rect S9x512x512 := Rect.unit (s := S9x512x512) ![7, 0, 0] S1x512x512.size inb_S9x512x512_S1x512x512_7_0_0
abbrev r0_9 : Rect S9x512x512 := Rect.unit (s := S9x512x512) ![8, 0, 0] S1x512x512.size inb_S9x512x512_S1x512x512_8_0_0
abbrev r0_10 : Rect S512x1 := Rect.unit (s := S512x1) ![0, 0] S512x1.size inb_S512x1_S512x1_0_0
abbrev r0_11 : Rect S8x512 := Rect.unit (s := S8x512) ![0, 0] S8x512.size inb_S8x512_S8x512_0_0
abbrev r0_12 : Rect S8x1 := Rect.unit (s := S8x1) ![0, 0] S8x1.size inb_S8x1_S8x1_0_0
abbrev r0_13 : Rect S1x8x512 := Rect.unit (s := S1x8x512) ![0, 0, 0] S1x8x512.size inb_S1x8x512_S1x8x512_0_0_0

/-! ## What the body leaves in each output window's buffer -/

/-! ### Values of the body that the stores' payloads, spelt out, would write more than once

    Each is a vector the body binds (often a part call's result), stated over the input windows' blocks and
    numbered on from the skeleton's payload functions (`k0_pay18` …, after `k0_pay17`), so that
    `out0_W` and the values after it name it instead of spelling it out ; the comment after each is the printed function's
    name for the value (a count appended where that name is bound again). -/

def k0_pay18 (i : grid0.Coords) (x0 : Vec F S1x512x512 .f32) (x1 : Vec F S1x512x512 .f32) (x2 : Vec F S1x512x512 .f32) (x3 : Vec F S9x512x512 .f32) (x4 : Vec F S8x512 .f32) (x5 : Vec F S8x1 .f32) (x6 : Vec F S512x1 .f32) : FVec F S512x1536 .f32 :=
  k0_pay2 (View.ld x0 r0_0) (View.ld x1 r0_0) (View.ld x2 r0_0) -- `v6`
def k0_pay19 (i : grid0.Coords) (x0 : Vec F S1x512x512 .f32) (x1 : Vec F S1x512x512 .f32) (x2 : Vec F S1x512x512 .f32) (x3 : Vec F S9x512x512 .f32) (x4 : Vec F S8x512 .f32) (x5 : Vec F S8x1 .f32) (x6 : Vec F S512x1 .f32) : IVec S1x512 32 :=
  k0_pay3 i -- `v10`
def k0_pay20 (i : grid0.Coords) (x0 : Vec F S1x512x512 .f32) (x1 : Vec F S1x512x512 .f32) (x2 : Vec F S1x512x512 .f32) (x3 : Vec F S9x512x512 .f32) (x4 : Vec F S8x512 .f32) (x5 : Vec F S8x1 .f32) (x6 : Vec F S512x1 .f32) : IVec S1x512 32 :=
  k0_pay4 i -- `v26`

/-- Window 7's staging buffer after the body, from the input windows' blocks: its 1 store as pieces, LAST
    FIRST (Lib/Pipeline/FrameBody.lean `View.canon`; the payloads are the skeleton's and the values stated above). -/
def out0_7 (i : grid0.Coords) (x0 : Vec F S1x512x512 .f32) (x1 : Vec F S1x512x512 .f32) (x2 : Vec F S1x512x512 .f32) (x3 : Vec F S9x512x512 .f32) (x4 : Vec F S8x512 .f32) (x5 : Vec F S8x1 .f32) (x6 : Vec F S512x1 .f32) : Vec F S1x8x512 .f32 :=
  View.canon [⟨r0_13, k0_pay1 (k0_pay16 (k0_pay18 i x0 x1 x2 x3 x4 x5 x6) (k0_pay19 i x0 x1 x2 x3 x4 x5 x6) (k0_pay20 i x0 x1 x2 x3 x4 x5 x6) (k0_pay13 (k0_pay18 i x0 x1 x2 x3 x4 x5 x6) (k0_pay19 i x0 x1 x2 x3 x4 x5 x6) (k0_pay20 i x0 x1 x2 x3 x4 x5 x6) (k0_pay11 (k0_pay18 i x0 x1 x2 x3 x4 x5 x6) (k0_pay19 i x0 x1 x2 x3 x4 x5 x6) (k0_pay20 i x0 x1 x2 x3 x4 x5 x6) (k0_pay9 (k0_pay18 i x0 x1 x2 x3 x4 x5 x6) (k0_pay19 i x0 x1 x2 x3 x4 x5 x6) (k0_pay20 i x0 x1 x2 x3 x4 x5 x6) (k0_pay5 (F := F)) (k0_pay6 (View.ld x0 r0_0) (View.ld x1 r0_0) (View.ld x2 r0_0)) (k0_pay7 i) k0_pay8 (View.ld x3 r0_1) (View.ld x3 r0_2)) (k0_pay10 (k0_pay18 i x0 x1 x2 x3 x4 x5 x6) (k0_pay19 i x0 x1 x2 x3 x4 x5 x6) (k0_pay20 i x0 x1 x2 x3 x4 x5 x6)) (View.ld x3 r0_3) (View.ld x3 r0_4) (View.ld x3 r0_5)) (k0_pay12 (k0_pay18 i x0 x1 x2 x3 x4 x5 x6)) (View.ld x3 r0_6) (View.ld x3 r0_7)) (k0_pay14 (k0_pay18 i x0 x1 x2 x3 x4 x5 x6)) (k0_pay15 (k0_pay19 i x0 x1 x2 x3 x4 x5 x6)) 0#32 (View.ld x3 r0_8) (View.ld x3 r0_9) (View.ld x6 r0_10)) (k0_pay17 (View.ld x4 r0_11)) (View.ld x5 r0_12)⟩]

/-- Its stores tile the buffer (checked by evaluation), so they cover it. -/
theorem cover0_7 (p0 : Vec F S1x8x512 .f32) (y : S1x8x512.Idx) :
    ∃ pc ∈ ([⟨r0_13, p0⟩] : List (View.Piece (Elt F) S1x8x512 .f32)), y ∈ pc.1.set :=
  View.cover_of_tiled [⟨r0_13, p0⟩] S1x8x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S9x512x512 .f32) (harg5 : arg5.IsWhole) (arg6 : Memref sig .tc .vmem S8x512 .f32) (harg6 : arg6.IsWhole) (arg7 : Memref sig .tc .vmem S8x1 .f32) (harg7 : arg7.IsWhole) (arg8 : Memref sig .tc .vmem S512x1 .f32) (harg8 : arg8.IsWhole) (arg9 : Memref sig .tc .vmem S1x8x512 .f32) (harg9 : arg9.IsWhole)
    (x0 : Vec F S1x512x512 .f32) (x1 : Vec F S1x512x512 .f32) (x2 : Vec F S1x512x512 .f32) (x3 : Vec F S9x512x512 .f32) (x4 : Vec F S8x512 .f32) (x5 : Vec F S8x1 .f32) (x6 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 i x0 x1 x2 x3 x4 x5 x6)) -∗ K ⟨⟩))
      ⊢ wp frame (wpE (defs₀ (F := F)) Variants.none c none) E (cc0__conv_body i arg2 harg2 arg3 harg3 arg4 harg4 arg5 harg5 arg6 harg6 arg7 harg7 arg8 harg8 arg9 harg9) K := by
  simp only [cc0__conv_body_eq_skeleton]; unfold cc0__conv_body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover0_7 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (grid0.coords t) (iblk0 V c 0 t) (iblk0 V c 1 t) (iblk0 V c 2 t) (iblk0 V c 3 t) (iblk0 V c 4 t) (iblk0 V c 5 t) (iblk0 V c 6 t)
  Φ _ := Pipeline.ΦA spec0 c
  q w := Pipeline.shareOf spec0 w
  owed _ := 0

/-- The proof data's arrays are the region-entry contents, by projecting the definition (`dsimp`): a region record cites
    this for its arrays rather than unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What the body of call 0 leaves in window 1. -/
theorem after0_1 (c : Dev nD) (t : Fin cfg0.N) : (dat0 V c).after 1 t = iblk0 V c 1 t := by dsimp only [dat0]
/-- What the body of call 0 leaves in window 2. -/
theorem after0_2 (c : Dev nD) (t : Fin cfg0.N) : (dat0 V c).after 2 t = iblk0 V c 2 t := by dsimp only [dat0]
/-- What the body of call 0 leaves in window 3. -/
theorem after0_3 (c : Dev nD) (t : Fin cfg0.N) : (dat0 V c).after 3 t = iblk0 V c 3 t := by dsimp only [dat0]
/-- What the body of call 0 leaves in window 4. -/
theorem after0_4 (c : Dev nD) (t : Fin cfg0.N) : (dat0 V c).after 4 t = iblk0 V c 4 t := by dsimp only [dat0]
/-- What the body of call 0 leaves in window 5. -/
theorem after0_5 (c : Dev nD) (t : Fin cfg0.N) : (dat0 V c).after 5 t = iblk0 V c 5 t := by dsimp only [dat0]
/-- What the body of call 0 leaves in window 6. -/
theorem after0_6 (c : Dev nD) (t : Fin cfg0.N) : (dat0 V c).after 6 t = iblk0 V c 6 t := by dsimp only [dat0]
/-- What the body of call 0 leaves in window 7. -/
theorem after0_7 (c : Dev nD) (t : Fin cfg0.N) : (dat0 V c).after 7 t = out0_7 (grid0.coords t) (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What the body of call 0 finds in window 1. -/
theorem before0_1 (c : Dev nD) (t : Fin cfg0.N) (d) : (dat0 V c).before 1 t d = iblk0 V c 1 t :=
  before0_1_of V (dat0 V c) (A_eq0 V c 1) (after0_1 V c) t d
/-- What the body of call 0 finds in window 2. -/
theorem before0_2 (c : Dev nD) (t : Fin cfg0.N) (d) : (dat0 V c).before 2 t d = iblk0 V c 2 t :=
  before0_2_of V (dat0 V c) (A_eq0 V c 2) (after0_2 V c) t d
/-- What the body of call 0 finds in window 3. -/
theorem before0_3 (c : Dev nD) (t : Fin cfg0.N) (d) : (dat0 V c).before 3 t d = iblk0 V c 3 t :=
  before0_3_of V (dat0 V c) (A_eq0 V c 3) (after0_3 V c) t d
/-- What the body of call 0 finds in window 4. -/
theorem before0_4 (c : Dev nD) (t : Fin cfg0.N) (d) : (dat0 V c).before 4 t d = iblk0 V c 4 t :=
  before0_4_of V (dat0 V c) (A_eq0 V c 4) (after0_4 V c) t d
/-- What the body of call 0 finds in window 5. -/
theorem before0_5 (c : Dev nD) (t : Fin cfg0.N) (d) : (dat0 V c).before 5 t d = iblk0 V c 5 t :=
  before0_5_of V (dat0 V c) (A_eq0 V c 5) (after0_5 V c) t d
/-- What the body of call 0 finds in window 6. -/
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__prop_body` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 2, through which its contents are stated (`View.read_writes_of_cover`: the
    choice does not matter). -/
abbrev VO1_2 : View sig .tc .vmem S2x1000x4 .f32 := (Memref.whole cc1_stg2_0 : Memref sig .tc .vmem S2x1000x4 .f32).view
/-- Each window's current staging memref at point `t`, spelled as the pipeline passes it (`bodyAt1`), and its wholeness. -/
abbrev ms1_0 (t : Fin cfg1.N) : Memref sig .tc .vmem S2x32x128 .f32 := win1_0.stage (cfg1.slots t 0)
abbrev hs1_0 (t : Fin cfg1.N) : (ms1_0 t).IsWhole := hstage1_0 0
abbrev ms1_1 (t : Fin cfg1.N) : Memref sig .tc .vmem S2x4x32x128 .f32 := win1_1.stage (cfg1.slots t 1)
abbrev hs1_1 (t : Fin cfg1.N) : (ms1_1 t).IsWhole := hstage1_1 0
abbrev ms1_2 (t : Fin cfg1.N) : Memref sig .tc .vmem S2x1000x4 .f32 := win1_2.stage (cfg1.slots t 2)
abbrev hs1_2 (t : Fin cfg1.N) : (ms1_2 t).IsWhole := hstage1_2 0
/-- The scratch operands: whole scoped buffers of the kernel's own, passed beside the windows. -/
abbrev scM1_0 : Memref sig .tc .vmem S2x128x8x8x128 .f32 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- What the second body stores, by the run. -/
def left (c : Dev nD) (arg0 : Memref sig .tc .vmem S2x32x128 .f32) (harg0 : arg0.IsWhole) (arg1 : Memref sig .tc .vmem S2x4x32x128 .f32) (harg1 : arg1.IsWhole) (arg2 : Memref sig .tc .vmem S2x1000x4 .f32) (harg2 : arg2.IsWhole) (arg3 : Memref sig .tc .vmem S2x128x8x8x128 .f32) (harg3 : arg3.IsWhole)
    (x0 : Vec F S2x32x128 .f32) (x1 : Vec F S2x4x32x128 .f32) : Vec F S2x1000x4 .f32 :=
  have h := Body.run c arg0 harg0 arg1 harg1 arg2 harg2 arg3 harg3 x0 x1
  Body.packed h.choose h.choose_spec.choose h.choose_spec.choose_spec.choose h.choose_spec.choose_spec.choose_spec.choose
    h.choose_spec.choose_spec.choose_spec.choose_spec.choose

/-- It is the packed product of four arrays, the second and fourth equal if the boxes are flat, and what was kept. -/
theorem left_eq (c : Dev nD) (arg0 : Memref sig .tc .vmem S2x32x128 .f32) (harg0 : arg0.IsWhole) (arg1 : Memref sig .tc .vmem S2x4x32x128 .f32) (harg1 : arg1.IsWhole) (arg2 : Memref sig .tc .vmem S2x1000x4 .f32) (harg2 : arg2.IsWhole) (arg3 : Memref sig .tc .vmem S2x128x8x8x128 .f32) (harg3 : arg3.IsWhole)
    (x0 : Vec F S2x32x128 .f32) (x1 : Vec F S2x4x32x128 .f32) :
    ∃ X1 Y1 X2 Y2 s, (Body.Flat F → Y1 = Y2) ∧ left c arg0 harg0 arg1 harg1 arg2 harg2 arg3 harg3 x0 x1 = Body.packed X1 Y1 X2 Y2 s :=
  have h := (Body.run c arg0 harg0 arg1 harg1 arg2 harg2 arg3 harg3 x0 x1).choose_spec.choose_spec.choose_spec.choose_spec.choose_spec
  ⟨_, _, _, _, _, h.1, rfl⟩

/-- The second body's stores, with its triple on whole memrefs. -/
noncomputable def kernelRun1_A (c : Dev nD) (arg0 : Memref sig .tc .vmem S2x32x128 .f32) (harg0 : arg0.IsWhole) (arg1 : Memref sig .tc .vmem S2x4x32x128 .f32) (harg1 : arg1.IsWhole) (arg2 : Memref sig .tc .vmem S2x1000x4 .f32) (harg2 : arg2.IsWhole) (arg3 : Memref sig .tc .vmem S2x128x8x8x128 .f32) (harg3 : arg3.IsWhole)
    (x0 : Vec F S2x32x128 .f32) (x1 : Vec F S2x4x32x128 .f32) :
    { L2 : List (View.Piece (Elt F) S2x1000x4 .f32) //
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f L2) ∗ (∃ d, owns (c : Thread nD τ) arg3 fullShare d)) -∗ K ⟨⟩))
          ⊢ wp frame (wpE (defs₀ (F := F)) Variants.none c none) E (cc1__prop_body arg0 harg0 arg1 harg1 arg2 harg2 arg3 harg3) K } :=
  ⟨[⟨Rect.unit (s := S2x1000x4) ![0, 0, 0] S2x1000x4.size inb_S2x1000x4_S2x1000x4_0_0_0, left c arg0 harg0 arg1 harg1 arg2 harg2 arg3 harg3 x0 x1⟩],
    (Body.run c arg0 harg0 arg1 harg1 arg2 harg2 arg3 harg3 x0 x1).choose_spec.choose_spec.choose_spec.choose_spec.choose_spec.2⟩

/-- The run's pieces for output 2 tile its block (1 store of `S2x1000x4`), so they cover it. -/
theorem cover1_A_2 (c : Dev nD) (arg0 : Memref sig .tc .vmem S2x32x128 .f32) (harg0 : arg0.IsWhole) (arg1 : Memref sig .tc .vmem S2x4x32x128 .f32) (harg1 : arg1.IsWhole) (arg2 : Memref sig .tc .vmem S2x1000x4 .f32) (harg2 : arg2.IsWhole) (arg3 : Memref sig .tc .vmem S2x128x8x8x128 .f32) (harg3 : arg3.IsWhole)
    (x0 : Vec F S2x32x128 .f32) (x1 : Vec F S2x4x32x128 .f32) (y : S2x1000x4.Idx) :
    ∃ pc ∈ (kernelRun1_A c arg0 harg0 arg1 harg1 arg2 harg2 arg3 harg3 x0 x1).1, y ∈ pc.1.set :=
  View.cover_of_tiledL (kernelRun1_A c arg0 harg0 arg1 harg1 arg2 harg2 arg3 harg3 x0 x1).1 S2x1000x4.size (by sl_kernel_rfl) y

/-- What the run leaves in output 2's staging buffer: its pieces read back over junk. -/
def out1_A_2 (c : Dev nD) (arg0 : Memref sig .tc .vmem S2x32x128 .f32) (harg0 : arg0.IsWhole) (arg1 : Memref sig .tc .vmem S2x4x32x128 .f32) (harg1 : arg1.IsWhole) (arg2 : Memref sig .tc .vmem S2x1000x4 .f32) (harg2 : arg2.IsWhole) (arg3 : Memref sig .tc .vmem S2x128x8x8x128 .f32) (harg3 : arg3.IsWhole)
    (x0 : Vec F S2x32x128 .f32) (x1 : Vec F S2x4x32x128 .f32) : Vec F S2x1000x4 .f32 :=
  VO1_2.read (Elt F) (VO1_2.writes (Elt F) VO1_2.junk (kernelRun1_A c arg0 harg0 arg1 harg1 arg2 harg2 arg3 harg3 x0 x1).1)

/-! ## What the outputs hold after each point -/

/-- What the outputs' staging buffers hold after the body at point `t`: the run's contents at
    the point's memrefs and input blocks. -/
def outsAt1 (c : Dev nD) (t : Fin cfg1.N) : Vec F S2x1000x4 .f32 :=
  out1_A_2 c (ms1_0 t) (hs1_0 t) (ms1_1 t) (hs1_1 t) (ms1_2 t) (hs1_2 t) scM1_0 (Memref.isWhole_whole _) (iblk1 V c 0 t) (iblk1 V c 1 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t)
  Φ _ := Pipeline.ΦA spec1 c
  q _ := fullShare
  owed _ := 0

/-- The proof data's arrays are the region-entry contents, by projecting the definition (`dsimp`): a region record cites
    this for its arrays rather than unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- What the body of call 1 leaves in window 1. -/
theorem after1_1 (c : Dev nD) (t : Fin cfg1.N) : (dat1 V c).after 1 t = iblk1 V c 1 t := by dsimp only [dat1]
/-- What the body of call 1 leaves in window 2. -/
theorem after1_2 (c : Dev nD) (t : Fin cfg1.N) : (dat1 V c).after 2 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What the body of call 1 finds in window 1. -/
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  rw [show (dat1 V c).Φ t.castSucc = Pipeline.ΦA spec1 c from rfl, PhiA1_eq]
  unfold outsAt1
  unfold out1_A_2
  iintro ⟨⟨⟨HR0, HR1, HR2, HR3, HR4, HR5, HR6, HR7, HR8, HR9, HR10, HR11, HS0⟩, Hg⟩, Ho, ⟨%d0, H0⟩, ⟨%d1, H1⟩, ⟨%d2, H2⟩⟩
  iapply ((kernelRun1_A c _ _ _ _ _ _ _ _ (iblk1 V c 0 t) (iblk1 V c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HR0 HR1 HR2 HR3 HR4 HR5 HR6 HR7 HR8 HR9 HR10 HR11 HS0 Hg]
  · isplitl [HR0 HR1 HR2 HR3 HR4 HR5 HR6 HR7 HR8 HR9 HR10 HR11 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      iexact HS0
    iexact Hg
  isplitl [Ho]; · iexact Ho
  isplitl [H0]; · iexact H0
  isplitl [H1]; · iexact H1
  unfold owns; iexists _; isplitr
  swap; · iexact H2
  ipureintro; exact View.read_writes_of_cover _ _ _ _ _ (cover1_A_2 c _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_cst, main_v5, main_v6, main_cst_0, main_v7, main_v8, main_v9, main_v10]
/-- Each host operation of stretch 0 writes a listed buffer. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v12, main_v13, main_v14, main_v15, main_v16]
/-- Each host operation of stretch 1 writes a listed buffer. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are as launched at step 0. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched at step 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- At step 2 a window's array holds what its call wrote. -/
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
/-- At step 2 a buffer under no window is as before. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are as launched at step 2. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V1 m ρ) c).arrAt w cfg0.N = V2 m ρ c (Pipeline.arrRef spec0 w) :=
  (W2_arr m ρ c w).symm
/-- Call 0 leaves every buffer that is under none of its windows. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are as launched at step 3. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- At step 4 a window's array holds what its call wrote. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- At step 4 a buffer under no window is as before. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are as launched at step 4. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- Call 1 leaves every buffer that is under none of its windows. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

/-- Argument 0 ends as launched. -/
theorem W4_main_arg0 (c : Dev nD) : W4 m ρ c (Proc.devRef .tc main_arg0) = m ((c : Thread nD τ).loc main_arg0) :=
  W4_args m ρ c main_arg0 (by decide)
/-- Argument 1 ends as launched. -/
theorem W4_main_arg1 (c : Dev nD) : W4 m ρ c (Proc.devRef .tc main_arg1) = m ((c : Thread nD τ).loc main_arg1) :=
  W4_args m ρ c main_arg1 (by decide)
/-- Argument 2 ends as launched. -/
theorem W4_main_arg2 (c : Dev nD) : W4 m ρ c (Proc.devRef .tc main_arg2) = m ((c : Thread nD τ).loc main_arg2) :=
  W4_args m ρ c main_arg2 (by decide)
/-- Argument 3 ends as launched. -/
theorem W4_main_arg3 (c : Dev nD) : W4 m ρ c (Proc.devRef .tc main_arg3) = m ((c : Thread nD τ).loc main_arg3) :=
  W4_args m ρ c main_arg3 (by decide)
/-- Argument 4 ends as launched. -/
theorem W4_main_arg4 (c : Dev nD) : W4 m ρ c (Proc.devRef .tc main_arg4) = m ((c : Thread nD τ).loc main_arg4) :=
  W4_args m ρ c main_arg4 (by decide)
/-- Argument 5 ends as launched. -/
theorem W4_main_arg5 (c : Dev nD) : W4 m ρ c (Proc.devRef .tc main_arg5) = m ((c : Thread nD τ).loc main_arg5) :=
  W4_args m ρ c main_arg5 (by decide)
/-- Argument 6 ends as launched. -/
theorem W4_main_arg6 (c : Dev nD) : W4 m ρ c (Proc.devRef .tc main_arg6) = m ((c : Thread nD τ).loc main_arg6) :=
  W4_args m ρ c main_arg6 (by decide)
/-- Argument 7 ends as launched. -/
theorem W4_main_arg7 (c : Dev nD) : W4 m ρ c (Proc.devRef .tc main_arg7) = m ((c : Thread nD τ).loc main_arg7) :=
  W4_args m ρ c main_arg7 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run ends with the result at the fold's contents, every argument as launched and every counter at zero. -/
theorem frame : θ_run defs (onTc (τ := τ) (main (F := F))) ⟨m, fun _ => 0, ρ⟩ (fun r => (∀ c : Dev nD,
      r.2.mem ((c.tc : Thread nD τ).loc main_v17) = W4 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v17 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩), funext fun g => hz g (.inr (no_unscoped g.2))⟩)

end Cert.KernelIdeal.Run

end
-- ==== Proof.KernelIdealZero.lean ====
module

public import proofs.«01_k».proof.Proof.KernelIdealRun
public import Idealize.ShloMosaic.Lib.Pointwise
public import Idealize.ShloMosaic.Lib.Pipeline.ValueKit
public import Idealize.ShloMosaic.Lib.IdealHost
public import Idealize.ShloMosaic.Lib.ValueIdx
public import Idealize.ShloMosaic.Lib.VecWindow

@[expose] public section

set_option maxRecDepth 65536

noncomputable section

/-! # The kernel's result over the extended reals

The anchors have no height, so a decoded box's two y coordinates are one number; no box passes the test of size, and every
box is multiplied by zero. -/

namespace Cert.KernelIdeal.ZeroValue

open Cert.KernelIdeal Cert.KernelIdeal.Gen Idealize.ShloMosaic Idealize.ShloMosaic.TcCoe Idealize.SL.Sem

/-- Half of a height of zero is zero, so the centre less it is the centre and it. -/
theorem flat : Body.Flat Ideal := by
  intro v8 v14 v79
  funext x
  show min _ (max _ (_ - _ * (_ * Ideal.ofBits .f32 0x00000000#32))) = min _ (max _ (_ + _ * (_ * Ideal.ofBits .f32 0x00000000#32)))
  rw [Ideal.ofBits_zero_f32, mul_zero, mul_zero, sub_zero, add_zero]

/-- The test's constant, about a thousandth, is positive. -/
theorem small_pos : (0 : EReal) < Ideal.ofBits .f32 0x3A83126F#32 := by
  simp [Ideal.ofBits, Ideal.ieee]
  rw [← EReal.coe_mul]
  exact EReal.coe_pos.2 (by positivity)

/-- A number less itself is not at least a thousandth. -/
theorem not_wide (y : EReal) : Ideal.cmp .oge (y - y) (Ideal.ofBits .f32 0x3A83126F#32) = 0#1 := by
  have h : ¬ Ideal.ofBits .f32 0x3A83126F#32 ≤ y - y := not_le.2 (lt_of_le_of_lt EReal.sub_self_le_zero small_pos)
  show BitVec.ofBool (decide (Ideal.ofBits .f32 0x3A83126F#32 ≤ y - y)) = 0#1
  rw [decide_eq_false h]; rfl

/-- A box with its two y coordinates equal fails the test. -/
theorem not_valid (X1 Y X2 : FVec Ideal S2x8x128 .f32) (x : S2x8x128.Idx) : k1_pay677 X1 Y X2 Y x = 0#1 := by
  have h : ∀ a b : BitVec 1, IntOp.andi (IntOp.andi a (Ideal.cmp .oge (Y x - Y x) (Ideal.ofBits .f32 0x3A83126F#32))) b = 0#1 := by
    intro a b; rw [not_wide]; revert a b; decide
  exact h _ _

/-- So nothing is kept. -/
theorem keep_zero (X1 Y X2 s : FVec Ideal S2x8x128 .f32) (x : S2x8x128.Idx) : k1_pay685 X1 Y X2 Y s x = (0 : EReal) := by
  show (_ : EReal) * (Scalar.select (k1_pay677 X1 Y X2 Y x) (Ideal.ofBits .f32 0x3F800000#32) (Ideal.ofBits .f32 0x00000000#32) : EReal) = 0
  rw [not_valid, Ideal.ofBits_zero_f32]
  exact mul_zero _

/-- Packing arrays of zeros gives zeros. -/
theorem pack_zero (A B C : FVec Ideal S2x8x128 .f32) (D : FVec Ideal S2x8x128x1 .f32) (hA : ∀ x, A x = (0 : EReal))
    (hB : ∀ x, B x = (0 : EReal)) (hC : ∀ x, C x = (0 : EReal)) (hD : ∀ x, D x = (0 : EReal)) (x : S2x1000x4.Idx) :
    k1_pay1 A B C D x = (0 : EReal) := by
  have h := concatenate_forall (P := fun y : EReal => y = 0) S2x8x128x4 3
    [⟨S2x8x128x1, D⟩, ⟨S2x8x128x1, shapeCast S2x8x128x1 A shapeCasts_S2x8x128_S2x8x128x1⟩,
      ⟨S2x8x128x1, shapeCast S2x8x128x1 B shapeCasts_S2x8x128_S2x8x128x1⟩,
      ⟨S2x8x128x1, shapeCast S2x8x128x1 C shapeCasts_S2x8x128_S2x8x128x1⟩]
    concatenates_S2x8x128x1_S2x8x128x1_S2x8x128x1_S2x8x128x1_S2x8x128x4_d3 (by
      intro q hq
      simp only [List.mem_cons, List.not_mem_nil, or_false] at hq
      rcases hq with rfl | rfl | rfl | rfl
      · exact hD
      · exact fun i => hA _
      · exact fun i => hB _
      · exact fun i => hC _)
  exact h _

/-- So the packed product is zero. -/
theorem packed_zero (X1 Y X2 s : FVec Ideal S2x8x128 .f32) : Body.packed X1 Y X2 Y s = fun _ => (0 : EReal) := by
  funext x
  have k : ∀ (A : FVec Ideal S2x8x128 .f32) (i : S2x8x128.Idx), (A i : EReal) * k1_pay685 X1 Y X2 Y s i = 0 := fun A i => by
    rw [keep_zero]; exact mul_zero _
  exact pack_zero _ _ _ _ (fun i => k Y i) (fun i => k X2 i) (fun i => k Y i) (fun i => k X1 _) x

/-- The second body stores zeros. -/
theorem left_zero (c : Dev nD) (arg0 : Memref sig .tc .vmem S2x32x128 .f32) (harg0 : arg0.IsWhole) (arg1 : Memref sig .tc .vmem S2x4x32x128 .f32) (harg1 : arg1.IsWhole) (arg2 : Memref sig .tc .vmem S2x1000x4 .f32) (harg2 : arg2.IsWhole) (arg3 : Memref sig .tc .vmem S2x128x8x8x128 .f32) (harg3 : arg3.IsWhole)
    (x0 : Vec Ideal S2x32x128 .f32) (x1 : Vec Ideal S2x4x32x128 .f32) :
    Run.left c arg0 harg0 arg1 harg1 arg2 harg2 arg3 harg3 x0 x1 = fun _ => (0 : EReal) := by
  obtain ⟨X1, Y1, X2, Y2, s, hY, h⟩ := Run.left_eq c arg0 harg0 arg1 harg1 arg2 harg2 arg3 harg3 x0 x1
  rw [h, ← hY flat]
  exact packed_zero X1 Y1 X2 s

/-- Read back whole, they are what the output's buffer holds. -/
theorem out_zero (c : Dev nD) (arg0 : Memref sig .tc .vmem S2x32x128 .f32) (harg0 : arg0.IsWhole) (arg1 : Memref sig .tc .vmem S2x4x32x128 .f32) (harg1 : arg1.IsWhole) (arg2 : Memref sig .tc .vmem S2x1000x4 .f32) (harg2 : arg2.IsWhole) (arg3 : Memref sig .tc .vmem S2x128x8x8x128 .f32) (harg3 : arg3.IsWhole)
    (x0 : Vec Ideal S2x32x128 .f32) (x1 : Vec Ideal S2x4x32x128 .f32) :
    Run.out1_A_2 c arg0 harg0 arg1 harg1 arg2 harg2 arg3 harg3 x0 x1 = fun _ => (0 : EReal) :=
  (View.read_writes_full Run.VO1_2 _ inb_S2x1000x4_S2x1000x4_0_0_0
    (Run.left c arg0 harg0 arg1 harg1 arg2 harg2 arg3 harg3 x0 x1) []).trans
    (left_zero c arg0 harg0 arg1 harg1 arg2 harg2 arg3 harg3 x0 x1)

variable (m : (ℓ : Loc nD τ sig) → Buf (Elt Ideal) ℓ) (ρ : Dev nD → PrngReg)

/-- The result array ends at zero. -/
theorem final (c : Dev nD) : Run.W4 m ρ c (Proc.devRef .tc main_v17) = fun _ => (0 : EReal) := by
  refine (Run.W4_arr m ρ c 2).trans ((Run.dat1 (Run.V3 m ρ) c).arrAt_eq_of_covers 2 _ (by decide +kernel) fun t hf y => ?_)
  rw [Run.after1_2]
  unfold Run.outsAt1
  rw [out_zero]
  rfl

end Cert.KernelIdeal.ZeroValue

end
-- ==== Proof.ReferenceIdealZero.lean ====
module

public import proofs.«01_k».proof.Proof.Gen.ReferenceIdeal.Run
public import Idealize.ShloMosaic.Lib.Pointwise
public import Idealize.ShloMosaic.Lib.IdealHost
public import Idealize.ShloMosaic.Lib.ValueIdx
public import Idealize.ShloMosaic.Lib.StableHlo.ReadAt
public import Idealize.ShloMosaic.Lib.Quiescent

@[expose] public section

set_option maxRecDepth 65536

noncomputable section

/-! # The reference's result over the extended reals

Its anchors have no height either: read down its operations, the two y coordinates of every box are one number, no box is
valid, and what is returned is zero, whatever the loop suppresses. -/

namespace Cert.ReferenceIdeal.ZeroValue

open Cert.ReferenceIdeal Cert.ReferenceIdeal.Gen Cert.ReferenceIdeal.Value
open Idealize.ShloMosaic Idealize.ShloMosaic.TcCoe Idealize.ShloMosaic.StableHlo Idealize.SL.Sem

section

variable {F : FTy → Type} [FloatOps F]

/-- The reference's operations up to the anchors. -/
abbrev anchorOps : List (HloOp τ sig (Elt F)) :=
  [ StableHlo.reshape main_arg4 main_v61 (rfl : (.f32 : EltTy) = .f32) shapeCasts_S1x512x1x1_S1x512,
    StableHlo.binary main_v60 main_v61 main_v62 ((fun l r => Host.dotGeneral dot_S2x512x64x64_S1x512_S2x64x64x1_1_1_023_0_n_n none l r) : (⟨S2x512x64x64, .f32⟩ : BufTy).Contents (Elt F) → (⟨S1x512, .f32⟩ : BufTy).Contents (Elt F) → (⟨S2x64x64x1, .f32⟩ : BufTy).Contents (Elt F)),
    StableHlo.unary main_v62 main_v63 ((transpose S2x1x64x64 [0, 3, 1, 2] · transposes_S2x64x64x1_S2x1x64x64_0_3_1_2) : (⟨S2x64x64x1, .f32⟩ : BufTy).Contents (Elt F) → (⟨S2x1x64x64, .f32⟩ : BufTy).Contents (Elt F)),
    StableHlo.unary main_arg5 main_v64 (broadcastInDim S1x1x1x1 ![1] bcast_S1_S1x1x1x1_1 : (⟨S1, .f32⟩ : BufTy).Contents (Elt F) → (⟨S1x1x1x1, .f32⟩ : BufTy).Contents (Elt F)),
    StableHlo.unary main_v64 main_v65 (broadcastInDim S2x1x64x64 ![0, 1, 2, 3] bcast_S1x1x1x1_S2x1x64x64_0_1_2_3 : (⟨S1x1x1x1, .f32⟩ : BufTy).Contents (Elt F) → (⟨S2x1x64x64, .f32⟩ : BufTy).Contents (Elt F)),
    StableHlo.binary main_v63 main_v65 main_v66 (addf : (⟨S2x1x64x64, .f32⟩ : BufTy).Contents (Elt F) → (⟨S2x1x64x64, .f32⟩ : BufTy).Contents (Elt F) → (⟨S2x1x64x64, .f32⟩ : BufTy).Contents (Elt F)),
    StableHlo.reshape main_arg6 main_v67 (rfl : (.f32 : EltTy) = .f32) shapeCasts_S4x512x1x1_S4x512,
    StableHlo.binary main_v60 main_v67 main_v68 ((fun l r => Host.dotGeneral dot_S2x512x64x64_S4x512_S2x64x64x4_1_1_023_0_n_n none l r) : (⟨S2x512x64x64, .f32⟩ : BufTy).Contents (Elt F) → (⟨S4x512, .f32⟩ : BufTy).Contents (Elt F) → (⟨S2x64x64x4, .f32⟩ : BufTy).Contents (Elt F)),
    StableHlo.unary main_v68 main_v69 ((transpose S2x4x64x64 [0, 3, 1, 2] · transposes_S2x64x64x4_S2x4x64x64_0_3_1_2) : (⟨S2x64x64x4, .f32⟩ : BufTy).Contents (Elt F) → (⟨S2x4x64x64, .f32⟩ : BufTy).Contents (Elt F)),
    StableHlo.unary main_arg7 main_v70 (broadcastInDim S1x4x1x1 ![1] bcast_S4_S1x4x1x1_1 : (⟨S4, .f32⟩ : BufTy).Contents (Elt F) → (⟨S1x4x1x1, .f32⟩ : BufTy).Contents (Elt F)),
    StableHlo.unary main_v70 main_v71 (broadcastInDim S2x4x64x64 ![0, 1, 2, 3] bcast_S1x4x1x1_S2x4x64x64_0_1_2_3 : (⟨S1x4x1x1, .f32⟩ : BufTy).Contents (Elt F) → (⟨S2x4x64x64, .f32⟩ : BufTy).Contents (Elt F)),
    StableHlo.binary main_v69 main_v71 main_v72 (addf : (⟨S2x4x64x64, .f32⟩ : BufTy).Contents (Elt F) → (⟨S2x4x64x64, .f32⟩ : BufTy).Contents (Elt F) → (⟨S2x4x64x64, .f32⟩ : BufTy).Contents (Elt F)),
    StableHlo.unary main_v66 main_v73 ((transpose S2x64x64x1 [0, 2, 3, 1] · transposes_S2x1x64x64_S2x64x64x1_0_2_3_1) : (⟨S2x1x64x64, .f32⟩ : BufTy).Contents (Elt F) → (⟨S2x64x64x1, .f32⟩ : BufTy).Contents (Elt F)),
    StableHlo.reshape main_v73 main_v74 (rfl : (.f32 : EltTy) = .f32) shapeCasts_S2x64x64x1_S2x4096,
    StableHlo.unary main_v72 main_v75 ((transpose S2x64x64x4 [0, 2, 3, 1] · transposes_S2x4x64x64_S2x64x64x4_0_2_3_1) : (⟨S2x4x64x64, .f32⟩ : BufTy).Contents (Elt F) → (⟨S2x64x64x4, .f32⟩ : BufTy).Contents (Elt F)),
    StableHlo.reshape main_v75 main_v76 (rfl : (.f32 : EltTy) = .f32) shapeCasts_S2x64x64x4_S2x4096x4,
    StableHlo.nullary main_v77 (iotaInDim S64 32 0),
    StableHlo.nullary main_c_1 (constantI S_ 32 16#32),
    StableHlo.unary main_c_1 main_v78 (broadcastInDim S64 ![] bcast_S_S64 : (⟨S_, .i32⟩ : BufTy).Contents (Elt F) → (⟨S64, .i32⟩ : BufTy).Contents (Elt F)),
    StableHlo.binary main_v77 main_v78 main_v79 (muli : (⟨S64, .i32⟩ : BufTy).Contents (Elt F) → (⟨S64, .i32⟩ : BufTy).Contents (Elt F) → (⟨S64, .i32⟩ : BufTy).Contents (Elt F)),
    StableHlo.nullary main_v80 (iotaInDim S64 32 0),
    StableHlo.nullary main_c_2 (constantI S_ 32 16#32),
    StableHlo.unary main_c_2 main_v81 (broadcastInDim S64 ![] bcast_S_S64 : (⟨S_, .i32⟩ : BufTy).Contents (Elt F) → (⟨S64, .i32⟩ : BufTy).Contents (Elt F)),
    StableHlo.binary main_v80 main_v81 main_v82 (muli : (⟨S64, .i32⟩ : BufTy).Contents (Elt F) → (⟨S64, .i32⟩ : BufTy).Contents (Elt F) → (⟨S64, .i32⟩ : BufTy).Contents (Elt F)),
    StableHlo.unary main_v82 main_v83 (broadcastInDim S64x64 ![0] bcast_S64_S64x64_0 : (⟨S64, .i32⟩ : BufTy).Contents (Elt F) → (⟨S64x64, .i32⟩ : BufTy).Contents (Elt F)),
    StableHlo.unary main_v79 main_v84 (broadcastInDim S64x64 ![1] bcast_S64_S64x64_1 : (⟨S64, .i32⟩ : BufTy).Contents (Elt F) → (⟨S64x64, .i32⟩ : BufTy).Contents (Elt F)),
    StableHlo.reshape main_v84 main_v85 (rfl : (.i32 : EltTy) = .i32) shapeCasts_S64x64_S4096,
    StableHlo.reshape main_v83 main_v86 (rfl : (.i32 : EltTy) = .i32) shapeCasts_S64x64_S4096,
    StableHlo.reshape main_v84 main_v87 (rfl : (.i32 : EltTy) = .i32) shapeCasts_S64x64_S4096,
    StableHlo.reshape main_v83 main_v88 (rfl : (.i32 : EltTy) = .i32) shapeCasts_S64x64_S4096,
    StableHlo.unary main_v85 main_v89 (broadcastInDim S4096x1 ![0] bcast_S4096_S4096x1_0 : (⟨S4096, .i32⟩ : BufTy).Contents (Elt F) → (⟨S4096x1, .i32⟩ : BufTy).Contents (Elt F)),
    StableHlo.unary main_v86 main_v90 (broadcastInDim S4096x1 ![0] bcast_S4096_S4096x1_0 : (⟨S4096, .i32⟩ : BufTy).Contents (Elt F) → (⟨S4096x1, .i32⟩ : BufTy).Contents (Elt F)),
    StableHlo.unary main_v87 main_v91 (broadcastInDim S4096x1 ![0] bcast_S4096_S4096x1_0 : (⟨S4096, .i32⟩ : BufTy).Contents (Elt F) → (⟨S4096x1, .i32⟩ : BufTy).Contents (Elt F)),
    StableHlo.unary main_v88 main_v92 (broadcastInDim S4096x1 ![0] bcast_S4096_S4096x1_0 : (⟨S4096, .i32⟩ : BufTy).Contents (Elt F) → (⟨S4096x1, .i32⟩ : BufTy).Contents (Elt F)),
    StableHlo.nary ![main_v89, main_v90, main_v91, main_v92] main_v93 (fun u => (concatenate S4096x4 1 [⟨S4096x1, (u 0 : (⟨S4096x1, .i32⟩ : BufTy).Contents (Elt F))⟩, ⟨S4096x1, (u 1 : (⟨S4096x1, .i32⟩ : BufTy).Contents (Elt F))⟩, ⟨S4096x1, (u 2 : (⟨S4096x1, .i32⟩ : BufTy).Contents (Elt F))⟩, ⟨S4096x1, (u 3 : (⟨S4096x1, .i32⟩ : BufTy).Contents (Elt F))⟩] concatenates_S4096x1_S4096x1_S4096x1_S4096x1_S4096x4_d1 : (⟨S4096x4, .i32⟩ : BufTy).Contents (Elt F))),
    StableHlo.unary main_v93 main_v94 (sitofp .f32 : (⟨S4096x4, .i32⟩ : BufTy).Contents (Elt F) → (⟨S4096x4, .f32⟩ : BufTy).Contents (Elt F)),
    StableHlo.unary main_v0 main_v95 (broadcastInDim S4096x4 ![0, 1] bcast_S1x4_S4096x4_0_1 : (⟨S1x4, .f32⟩ : BufTy).Contents (Elt F) → (⟨S4096x4, .f32⟩ : BufTy).Contents (Elt F)),
    StableHlo.binary main_v94 main_v95 main_v96 (addf : (⟨S4096x4, .f32⟩ : BufTy).Contents (Elt F) → (⟨S4096x4, .f32⟩ : BufTy).Contents (Elt F) → (⟨S4096x4, .f32⟩ : BufTy).Contents (Elt F)) ]

/-- Those up to the picked boxes' anchors. -/
abbrev pickOps : List (HloOp τ sig (Elt F)) :=
  [ StableHlo.unary main_v74 main_v97 (Host.negf : (⟨S2x4096, .f32⟩ : BufTy).Contents (Elt F) → (⟨S2x4096, .f32⟩ : BufTy).Contents (Elt F)),
    StableHlo.unary main_v97 main_v98 (Host.exp : (⟨S2x4096, .f32⟩ : BufTy).Contents (Elt F) → (⟨S2x4096, .f32⟩ : BufTy).Contents (Elt F)),
    StableHlo.nullary main_cst_3 (constant S_ .f32 0x3F800000#32),
    StableHlo.unary main_cst_3 main_v99 (broadcastInDim S2x4096 ![] bcast_S_S2x4096 : (⟨S_, .f32⟩ : BufTy).Contents (Elt F) → (⟨S2x4096, .f32⟩ : BufTy).Contents (Elt F)),
    StableHlo.binary main_v99 main_v98 main_v100 (addf : (⟨S2x4096, .f32⟩ : BufTy).Contents (Elt F) → (⟨S2x4096, .f32⟩ : BufTy).Contents (Elt F) → (⟨S2x4096, .f32⟩ : BufTy).Contents (Elt F)),
    StableHlo.nullary main_cst_4 (constant S_ .f32 0x3F800000#32),
    StableHlo.unary main_cst_4 main_v101 (broadcastInDim S2x4096 ![] bcast_S_S2x4096 : (⟨S_, .f32⟩ : BufTy).Contents (Elt F) → (⟨S2x4096, .f32⟩ : BufTy).Contents (Elt F)),
    StableHlo.binary main_v101 main_v100 main_v102 (Host.divf : (⟨S2x4096, .f32⟩ : BufTy).Contents (Elt F) → (⟨S2x4096, .f32⟩ : BufTy).Contents (Elt F) → (⟨S2x4096, .f32⟩ : BufTy).Contents (Elt F)),
    StableHlo.unary main_v102 main_values ((fun x => (Host.topK S2x1000 1 (FloatOps.cmpfTotal .gt) x sliceFits_S2x4096_S2x1000).1) : (⟨S2x4096, .f32⟩ : BufTy).Contents (Elt F) → (⟨S2x1000, .f32⟩ : BufTy).Contents (Elt F)),
    StableHlo.unary main_v102 main_indices ((fun x => (Host.topK S2x1000 1 (FloatOps.cmpfTotal .gt) x sliceFits_S2x4096_S2x1000).2) : (⟨S2x4096, .f32⟩ : BufTy).Contents (Elt F) → (⟨S2x1000, .i32⟩ : BufTy).Contents (Elt F)),
    StableHlo.nullary main_c_5 (constantI S_ 32 0#32),
    StableHlo.unary main_c_5 main_v103 (broadcastInDim S2x1000 ![] bcast_S_S2x1000 : (⟨S_, .i32⟩ : BufTy).Contents (Elt F) → (⟨S2x1000, .i32⟩ : BufTy).Contents (Elt F)),
    StableHlo.binary main_indices main_v103 main_v104 (cmpi .slt : (⟨S2x1000, .i32⟩ : BufTy).Contents (Elt F) → (⟨S2x1000, .i32⟩ : BufTy).Contents (Elt F) → (⟨S2x1000, .i1⟩ : BufTy).Contents (Elt F)),
    StableHlo.nullary main_c_6 (constantI S_ 32 4096#32),
    StableHlo.unary main_c_6 main_v105 (broadcastInDim S2x1000 ![] bcast_S_S2x1000 : (⟨S_, .i32⟩ : BufTy).Contents (Elt F) → (⟨S2x1000, .i32⟩ : BufTy).Contents (Elt F)),
    StableHlo.binary main_indices main_v105 main_v106 (addi : (⟨S2x1000, .i32⟩ : BufTy).Contents (Elt F) → (⟨S2x1000, .i32⟩ : BufTy).Contents (Elt F) → (⟨S2x1000, .i32⟩ : BufTy).Contents (Elt F)),
    StableHlo.ternary main_v104 main_v106 main_indices main_v107 (select : (⟨S2x1000, .i1⟩ : BufTy).Contents (Elt F) → (⟨S2x1000, .i32⟩ : BufTy).Contents (Elt F) → (⟨S2x1000, .i32⟩ : BufTy).Contents (Elt F) → (⟨S2x1000, .i32⟩ : BufTy).Contents (Elt F)),
    StableHlo.unary main_v107 main_v108 (broadcastInDim S2x1000x1 ![0, 1] bcast_S2x1000_S2x1000x1_0_1 : (⟨S2x1000, .i32⟩ : BufTy).Contents (Elt F) → (⟨S2x1000x1, .i32⟩ : BufTy).Contents (Elt F)),
    StableHlo.binary main_v76 main_v108 main_v109 ((fun x i => Host.gather gather_S2x4096x4_S2x1000x1_S2x1000x4_2_1_0_0_1_2_114 x i) : (⟨S2x4096x4, .f32⟩ : BufTy).Contents (Elt F) → (⟨S2x1000x1, .i32⟩ : BufTy).Contents (Elt F) → (⟨S2x1000x4, .f32⟩ : BufTy).Contents (Elt F)),
    StableHlo.nullary main_c_7 (constantI S_ 32 0#32),
    StableHlo.unary main_c_7 main_v110 (broadcastInDim S2x1000 ![] bcast_S_S2x1000 : (⟨S_, .i32⟩ : BufTy).Contents (Elt F) → (⟨S2x1000, .i32⟩ : BufTy).Contents (Elt F)),
    StableHlo.binary main_indices main_v110 main_v111 (cmpi .slt : (⟨S2x1000, .i32⟩ : BufTy).Contents (Elt F) → (⟨S2x1000, .i32⟩ : BufTy).Contents (Elt F) → (⟨S2x1000, .i1⟩ : BufTy).Contents (Elt F)),
    StableHlo.nullary main_c_8 (constantI S_ 32 4096#32),
    StableHlo.unary main_c_8 main_v112 (broadcastInDim S2x1000 ![] bcast_S_S2x1000 : (⟨S_, .i32⟩ : BufTy).Contents (Elt F) → (⟨S2x1000, .i32⟩ : BufTy).Contents (Elt F)),
    StableHlo.binary main_indices main_v112 main_v113 (addi : (⟨S2x1000, .i32⟩ : BufTy).Contents (Elt F) → (⟨S2x1000, .i32⟩ : BufTy).Contents (Elt F) → (⟨S2x1000, .i32⟩ : BufTy).Contents (Elt F)),
    StableHlo.ternary main_v111 main_v113 main_indices main_v114 (select : (⟨S2x1000, .i1⟩ : BufTy).Contents (Elt F) → (⟨S2x1000, .i32⟩ : BufTy).Contents (Elt F) → (⟨S2x1000, .i32⟩ : BufTy).Contents (Elt F) → (⟨S2x1000, .i32⟩ : BufTy).Contents (Elt F)),
    StableHlo.unary main_v114 main_v115 (broadcastInDim S2x1000x1 ![0, 1] bcast_S2x1000_S2x1000x1_0_1 : (⟨S2x1000, .i32⟩ : BufTy).Contents (Elt F) → (⟨S2x1000x1, .i32⟩ : BufTy).Contents (Elt F)),
    StableHlo.binary main_v96 main_v115 main_v116 ((fun x i => Host.gather gather_S4096x4_S2x1000x1_S2x1000x4_2_0_n_n_0_2_14 x i) : (⟨S4096x4, .f32⟩ : BufTy).Contents (Elt F) → (⟨S2x1000x1, .i32⟩ : BufTy).Contents (Elt F) → (⟨S2x1000x4, .f32⟩ : BufTy).Contents (Elt F)) ]

/-- Those up to the decoded boxes. -/
abbrev boxOps : List (HloOp τ sig (Elt F)) :=
  [ StableHlo.unary main_v116 main_v117 ((extractStridedSlice S2x1000x1 ![0, 0, 2] · slices_S2x1000x4_S2x1000x1_0_0_2) : (⟨S2x1000x4, .f32⟩ : BufTy).Contents (Elt F) → (⟨S2x1000x1, .f32⟩ : BufTy).Contents (Elt F)),
    StableHlo.reshape main_v117 main_v118 (rfl : (.f32 : EltTy) = .f32) shapeCasts_S2x1000x1_S2x1000,
    StableHlo.unary main_v116 main_v119 ((extractStridedSlice S2x1000x1 ![0, 0, 0] · slices_S2x1000x4_S2x1000x1_0_0_0) : (⟨S2x1000x4, .f32⟩ : BufTy).Contents (Elt F) → (⟨S2x1000x1, .f32⟩ : BufTy).Contents (Elt F)),
    StableHlo.reshape main_v119 main_v120 (rfl : (.f32 : EltTy) = .f32) shapeCasts_S2x1000x1_S2x1000,
    StableHlo.binary main_v118 main_v120 main_v121 (subf : (⟨S2x1000, .f32⟩ : BufTy).Contents (Elt F) → (⟨S2x1000, .f32⟩ : BufTy).Contents (Elt F) → (⟨S2x1000, .f32⟩ : BufTy).Contents (Elt F)),
    StableHlo.unary main_v116 main_v122 ((extractStridedSlice S2x1000x1 ![0, 0, 3] · slices_S2x1000x4_S2x1000x1_0_0_3) : (⟨S2x1000x4, .f32⟩ : BufTy).Contents (Elt F) → (⟨S2x1000x1, .f32⟩ : BufTy).Contents (Elt F)),
    StableHlo.reshape main_v122 main_v123 (rfl : (.f32 : EltTy) = .f32) shapeCasts_S2x1000x1_S2x1000,
    StableHlo.unary main_v116 main_v124 ((extractStridedSlice S2x1000x1 ![0, 0, 1] · slices_S2x1000x4_S2x1000x1_0_0_1) : (⟨S2x1000x4, .f32⟩ : BufTy).Contents (Elt F) → (⟨S2x1000x1, .f32⟩ : BufTy).Contents (Elt F)),
    StableHlo.reshape main_v124 main_v125 (rfl : (.f32 : EltTy) = .f32) shapeCasts_S2x1000x1_S2x1000,
    StableHlo.binary main_v123 main_v125 main_v126 (subf : (⟨S2x1000, .f32⟩ : BufTy).Contents (Elt F) → (⟨S2x1000, .f32⟩ : BufTy).Contents (Elt F) → (⟨S2x1000, .f32⟩ : BufTy).Contents (Elt F)),
    StableHlo.unary main_v116 main_v127 ((extractStridedSlice S2x1000x1 ![0, 0, 0] · slices_S2x1000x4_S2x1000x1_0_0_0) : (⟨S2x1000x4, .f32⟩ : BufTy).Contents (Elt F) → (⟨S2x1000x1, .f32⟩ : BufTy).Contents (Elt F)),
    StableHlo.reshape main_v127 main_v128 (rfl : (.f32 : EltTy) = .f32) shapeCasts_S2x1000x1_S2x1000,
    StableHlo.nullary main_cst_9 (constant S_ .f32 0x3F000000#32),
    StableHlo.unary main_cst_9 main_v129 (broadcastInDim S2x1000 ![] bcast_S_S2x1000 : (⟨S_, .f32⟩ : BufTy).Contents (Elt F) → (⟨S2x1000, .f32⟩ : BufTy).Contents (Elt F)),
    StableHlo.binary main_v129 main_v121 main_v130 (mulf : (⟨S2x1000, .f32⟩ : BufTy).Contents (Elt F) → (⟨S2x1000, .f32⟩ : BufTy).Contents (Elt F) → (⟨S2x1000, .f32⟩ : BufTy).Contents (Elt F)),
    StableHlo.binary main_v128 main_v130 main_v131 (addf : (⟨S2x1000, .f32⟩ : BufTy).Contents (Elt F) → (⟨S2x1000, .f32⟩ : BufTy).Contents (Elt F) → (⟨S2x1000, .f32⟩ : BufTy).Contents (Elt F)),
    StableHlo.unary main_v116 main_v132 ((extractStridedSlice S2x1000x1 ![0, 0, 1] · slices_S2x1000x4_S2x1000x1_0_0_1) : (⟨S2x1000x4, .f32⟩ : BufTy).Contents (Elt F) → (⟨S2x1000x1, .f32⟩ : BufTy).Contents (Elt F)),
    StableHlo.reshape main_v132 main_v133 (rfl : (.f32 : EltTy) = .f32) shapeCasts_S2x1000x1_S2x1000,
    StableHlo.nullary main_cst_10 (constant S_ .f32 0x3F000000#32),
    StableHlo.unary main_cst_10 main_v134 (broadcastInDim S2x1000 ![] bcast_S_S2x1000 : (⟨S_, .f32⟩ : BufTy).Contents (Elt F) → (⟨S2x1000, .f32⟩ : BufTy).Contents (Elt F)),
    StableHlo.binary main_v134 main_v126 main_v135 (mulf : (⟨S2x1000, .f32⟩ : BufTy).Contents (Elt F) → (⟨S2x1000, .f32⟩ : BufTy).Contents (Elt F) → (⟨S2x1000, .f32⟩ : BufTy).Contents (Elt F)),
    StableHlo.binary main_v133 main_v135 main_v136 (addf : (⟨S2x1000, .f32⟩ : BufTy).Contents (Elt F) → (⟨S2x1000, .f32⟩ : BufTy).Contents (Elt F) → (⟨S2x1000, .f32⟩ : BufTy).Contents (Elt F)),
    StableHlo.unary main_v109 main_v137 ((extractStridedSlice S2x1000x1 ![0, 0, 0] · slices_S2x1000x4_S2x1000x1_0_0_0) : (⟨S2x1000x4, .f32⟩ : BufTy).Contents (Elt F) → (⟨S2x1000x1, .f32⟩ : BufTy).Contents (Elt F)),
    StableHlo.reshape main_v137 main_v138 (rfl : (.f32 : EltTy) = .f32) shapeCasts_S2x1000x1_S2x1000,
    StableHlo.unary main_v109 main_v139 ((extractStridedSlice S2x1000x1 ![0, 0, 1] · slices_S2x1000x4_S2x1000x1_0_0_1) : (⟨S2x1000x4, .f32⟩ : BufTy).Contents (Elt F) → (⟨S2x1000x1, .f32⟩ : BufTy).Contents (Elt F)),
    StableHlo.reshape main_v139 main_v140 (rfl : (.f32 : EltTy) = .f32) shapeCasts_S2x1000x1_S2x1000,
    StableHlo.unary main_v109 main_v141 ((extractStridedSlice S2x1000x1 ![0, 0, 2] · slices_S2x1000x4_S2x1000x1_0_0_2) : (⟨S2x1000x4, .f32⟩ : BufTy).Contents (Elt F) → (⟨S2x1000x1, .f32⟩ : BufTy).Contents (Elt F)),
    StableHlo.reshape main_v141 main_v142 (rfl : (.f32 : EltTy) = .f32) shapeCasts_S2x1000x1_S2x1000,
    StableHlo.unary main_v109 main_v143 ((extractStridedSlice S2x1000x1 ![0, 0, 3] · slices_S2x1000x4_S2x1000x1_0_0_3) : (⟨S2x1000x4, .f32⟩ : BufTy).Contents (Elt F) → (⟨S2x1000x1, .f32⟩ : BufTy).Contents (Elt F)),
    StableHlo.reshape main_v143 main_v144 (rfl : (.f32 : EltTy) = .f32) shapeCasts_S2x1000x1_S2x1000,
    StableHlo.nullary main_cst_11 (constant S_ .f32 0x40845349#32),
    StableHlo.unary main_cst_11 main_v145 (broadcastInDim S2x1000 ![] bcast_S_S2x1000 : (⟨S_, .f32⟩ : BufTy).Contents (Elt F) → (⟨S2x1000, .f32⟩ : BufTy).Contents (Elt F)),
    StableHlo.binary main_v142 main_v145 main_v146 (minimumf : (⟨S2x1000, .f32⟩ : BufTy).Contents (Elt F) → (⟨S2x1000, .f32⟩ : BufTy).Contents (Elt F) → (⟨S2x1000, .f32⟩ : BufTy).Contents (Elt F)),
    StableHlo.nullary main_cst_12 (constant S_ .f32 0x40845349#32),
    StableHlo.unary main_cst_12 main_v147 (broadcastInDim S2x1000 ![] bcast_S_S2x1000 : (⟨S_, .f32⟩ : BufTy).Contents (Elt F) → (⟨S2x1000, .f32⟩ : BufTy).Contents (Elt F)),
    StableHlo.binary main_v144 main_v147 main_v148 (minimumf : (⟨S2x1000, .f32⟩ : BufTy).Contents (Elt F) → (⟨S2x1000, .f32⟩ : BufTy).Contents (Elt F) → (⟨S2x1000, .f32⟩ : BufTy).Contents (Elt F)),
    StableHlo.binary main_v138 main_v121 main_v149 (mulf : (⟨S2x1000, .f32⟩ : BufTy).Contents (Elt F) → (⟨S2x1000, .f32⟩ : BufTy).Contents (Elt F) → (⟨S2x1000, .f32⟩ : BufTy).Contents (Elt F)),
    StableHlo.binary main_v149 main_v131 main_v150 (addf : (⟨S2x1000, .f32⟩ : BufTy).Contents (Elt F) → (⟨S2x1000, .f32⟩ : BufTy).Contents (Elt F) → (⟨S2x1000, .f32⟩ : BufTy).Contents (Elt F)),
    StableHlo.binary main_v140 main_v126 main_v151 (mulf : (⟨S2x1000, .f32⟩ : BufTy).Contents (Elt F) → (⟨S2x1000, .f32⟩ : BufTy).Contents (Elt F) → (⟨S2x1000, .f32⟩ : BufTy).Contents (Elt F)),
    StableHlo.binary main_v151 main_v136 main_v152 (addf : (⟨S2x1000, .f32⟩ : BufTy).Contents (Elt F) → (⟨S2x1000, .f32⟩ : BufTy).Contents (Elt F) → (⟨S2x1000, .f32⟩ : BufTy).Contents (Elt F)),
    StableHlo.unary main_v146 main_v153 (Host.exp : (⟨S2x1000, .f32⟩ : BufTy).Contents (Elt F) → (⟨S2x1000, .f32⟩ : BufTy).Contents (Elt F)),
    StableHlo.binary main_v153 main_v121 main_v154 (mulf : (⟨S2x1000, .f32⟩ : BufTy).Contents (Elt F) → (⟨S2x1000, .f32⟩ : BufTy).Contents (Elt F) → (⟨S2x1000, .f32⟩ : BufTy).Contents (Elt F)),
    StableHlo.unary main_v148 main_v155 (Host.exp : (⟨S2x1000, .f32⟩ : BufTy).Contents (Elt F) → (⟨S2x1000, .f32⟩ : BufTy).Contents (Elt F)),
    StableHlo.binary main_v155 main_v126 main_v156 (mulf : (⟨S2x1000, .f32⟩ : BufTy).Contents (Elt F) → (⟨S2x1000, .f32⟩ : BufTy).Contents (Elt F) → (⟨S2x1000, .f32⟩ : BufTy).Contents (Elt F)),
    StableHlo.nullary main_cst_13 (constant S_ .f32 0x3F000000#32),
    StableHlo.unary main_cst_13 main_v157 (broadcastInDim S2x1000 ![] bcast_S_S2x1000 : (⟨S_, .f32⟩ : BufTy).Contents (Elt F) → (⟨S2x1000, .f32⟩ : BufTy).Contents (Elt F)),
    StableHlo.binary main_v157 main_v154 main_v158 (mulf : (⟨S2x1000, .f32⟩ : BufTy).Contents (Elt F) → (⟨S2x1000, .f32⟩ : BufTy).Contents (Elt F) → (⟨S2x1000, .f32⟩ : BufTy).Contents (Elt F)),
    StableHlo.binary main_v150 main_v158 main_v159 (subf : (⟨S2x1000, .f32⟩ : BufTy).Contents (Elt F) → (⟨S2x1000, .f32⟩ : BufTy).Contents (Elt F) → (⟨S2x1000, .f32⟩ : BufTy).Contents (Elt F)),
    StableHlo.nullary main_cst_14 (constant S_ .f32 0x3F000000#32),
    StableHlo.unary main_cst_14 main_v160 (broadcastInDim S2x1000 ![] bcast_S_S2x1000 : (⟨S_, .f32⟩ : BufTy).Contents (Elt F) → (⟨S2x1000, .f32⟩ : BufTy).Contents (Elt F)),
    StableHlo.binary main_v160 main_v156 main_v161 (mulf : (⟨S2x1000, .f32⟩ : BufTy).Contents (Elt F) → (⟨S2x1000, .f32⟩ : BufTy).Contents (Elt F) → (⟨S2x1000, .f32⟩ : BufTy).Contents (Elt F)),
    StableHlo.binary main_v152 main_v161 main_v162 (subf : (⟨S2x1000, .f32⟩ : BufTy).Contents (Elt F) → (⟨S2x1000, .f32⟩ : BufTy).Contents (Elt F) → (⟨S2x1000, .f32⟩ : BufTy).Contents (Elt F)),
    StableHlo.nullary main_cst_15 (constant S_ .f32 0x3F000000#32),
    StableHlo.unary main_cst_15 main_v163 (broadcastInDim S2x1000 ![] bcast_S_S2x1000 : (⟨S_, .f32⟩ : BufTy).Contents (Elt F) → (⟨S2x1000, .f32⟩ : BufTy).Contents (Elt F)),
    StableHlo.binary main_v163 main_v154 main_v164 (mulf : (⟨S2x1000, .f32⟩ : BufTy).Contents (Elt F) → (⟨S2x1000, .f32⟩ : BufTy).Contents (Elt F) → (⟨S2x1000, .f32⟩ : BufTy).Contents (Elt F)),
    StableHlo.binary main_v150 main_v164 main_v165 (addf : (⟨S2x1000, .f32⟩ : BufTy).Contents (Elt F) → (⟨S2x1000, .f32⟩ : BufTy).Contents (Elt F) → (⟨S2x1000, .f32⟩ : BufTy).Contents (Elt F)),
    StableHlo.nullary main_cst_16 (constant S_ .f32 0x3F000000#32),
    StableHlo.unary main_cst_16 main_v166 (broadcastInDim S2x1000 ![] bcast_S_S2x1000 : (⟨S_, .f32⟩ : BufTy).Contents (Elt F) → (⟨S2x1000, .f32⟩ : BufTy).Contents (Elt F)),
    StableHlo.binary main_v166 main_v156 main_v167 (mulf : (⟨S2x1000, .f32⟩ : BufTy).Contents (Elt F) → (⟨S2x1000, .f32⟩ : BufTy).Contents (Elt F) → (⟨S2x1000, .f32⟩ : BufTy).Contents (Elt F)),
    StableHlo.binary main_v152 main_v167 main_v168 (addf : (⟨S2x1000, .f32⟩ : BufTy).Contents (Elt F) → (⟨S2x1000, .f32⟩ : BufTy).Contents (Elt F) → (⟨S2x1000, .f32⟩ : BufTy).Contents (Elt F)),
    StableHlo.unary main_v159 main_v169 (broadcastInDim S2x1000x1 ![0, 1] bcast_S2x1000_S2x1000x1_0_1 : (⟨S2x1000, .f32⟩ : BufTy).Contents (Elt F) → (⟨S2x1000x1, .f32⟩ : BufTy).Contents (Elt F)),
    StableHlo.unary main_v162 main_v170 (broadcastInDim S2x1000x1 ![0, 1] bcast_S2x1000_S2x1000x1_0_1 : (⟨S2x1000, .f32⟩ : BufTy).Contents (Elt F) → (⟨S2x1000x1, .f32⟩ : BufTy).Contents (Elt F)),
    StableHlo.unary main_v165 main_v171 (broadcastInDim S2x1000x1 ![0, 1] bcast_S2x1000_S2x1000x1_0_1 : (⟨S2x1000, .f32⟩ : BufTy).Contents (Elt F) → (⟨S2x1000x1, .f32⟩ : BufTy).Contents (Elt F)),
    StableHlo.unary main_v168 main_v172 (broadcastInDim S2x1000x1 ![0, 1] bcast_S2x1000_S2x1000x1_0_1 : (⟨S2x1000, .f32⟩ : BufTy).Contents (Elt F) → (⟨S2x1000x1, .f32⟩ : BufTy).Contents (Elt F)),
    StableHlo.nary ![main_v169, main_v170, main_v171, main_v172] main_v173 (fun u => (concatenate S2x1000x4 2 [⟨S2x1000x1, (u 0 : (⟨S2x1000x1, .f32⟩ : BufTy).Contents (Elt F))⟩, ⟨S2x1000x1, (u 1 : (⟨S2x1000x1, .f32⟩ : BufTy).Contents (Elt F))⟩, ⟨S2x1000x1, (u 2 : (⟨S2x1000x1, .f32⟩ : BufTy).Contents (Elt F))⟩, ⟨S2x1000x1, (u 3 : (⟨S2x1000x1, .f32⟩ : BufTy).Contents (Elt F))⟩] concatenates_S2x1000x1_S2x1000x1_S2x1000x1_S2x1000x1_S2x1000x4_d2 : (⟨S2x1000x4, .f32⟩ : BufTy).Contents (Elt F))) ]

/-- Those left of the stretch. -/
abbrev restOps : List (HloOp τ sig (Elt F)) :=
  [ StableHlo.unary main_v173 main_v174 ((extractStridedSlice S2x1000x1 ![0, 0, 0] · slices_S2x1000x4_S2x1000x1_0_0_0) : (⟨S2x1000x4, .f32⟩ : BufTy).Contents (Elt F) → (⟨S2x1000x1, .f32⟩ : BufTy).Contents (Elt F)),
    StableHlo.reshape main_v174 main_v175 (rfl : (.f32 : EltTy) = .f32) shapeCasts_S2x1000x1_S2x1000,
    StableHlo.nullary main_cst_17 (constant S_ .f32 0x00000000#32),
    StableHlo.nullary main_cst_18 (constant S_ .f32 0x44800000#32) ]

/-- They are the stretch. -/
theorem stretch_eq : (hostOps0_4 : List (HloOp τ sig (Elt F))) = anchorOps ++ (pickOps ++ (boxOps ++ restOps)) := rfl

end

/-- The rows picked from a table of four columns: each is one row, whole. -/
theorem gather_row {α : Type} (x : S4096x4.Idx → α) (idx : IVec S2x1000x1 32) (b : Fin 2) (k : Fin 1000) :
    ∃ r : Fin 4096, ∀ q : Fin 4,
      Host.gather gather_S4096x4_S2x1000x1_S2x1000x4_2_0_n_n_0_2_14 x idx (ix3 b k q) = x (ix2 r q) := by
  let D := gather_S4096x4_S2x1000x1_S2x1000x4_2_0_n_n_0_2_14
  have hrow : ∀ q : Fin 4, D.start (ix3 b k q) idx 0 = D.start (ix3 b k 0) idx 0 := by
    intro q
    unfold GatherDims.start
    rw [dif_pos (show (0 : Fin 2) ∈ D.startIndexMap from List.mem_singleton.mpr rfl),
      dif_pos (show (0 : Fin 2) ∈ D.startIndexMap from List.mem_singleton.mpr rfl)]
    congr 4
    funext a
    refine Fin.ext ?_
    match a with
    | ⟨0, _⟩ => rfl
    | ⟨1, _⟩ => rfl
    | ⟨2, _⟩ => rfl
  refine ⟨D.operandIdx (ix3 b k 0) idx 0, fun q => ?_⟩
  show x (D.operandIdx (ix3 b k q) idx) = _
  congr 1
  funext a
  refine Fin.ext ?_
  obtain rfl | rfl : a = (0 : Fin 2) ∨ a = (1 : Fin 2) := by revert a; decide
  · show D.start (ix3 b k q) idx 0 + D.batchCoord (ix3 b k q) 0 + D.offCoord (ix3 b k q) 0
      = D.start (ix3 b k 0) idx 0 + D.batchCoord (ix3 b k 0) 0 + D.offCoord (ix3 b k 0) 0
    rw [hrow q]
    rfl
  · show D.start (ix3 b k q) idx 1 + D.batchCoord (ix3 b k q) 1 + D.offCoord (ix3 b k q) 1 = q.val
    have h1 : D.start (ix3 b k q) idx 1 = 0 := by
      unfold GatherDims.start
      rw [dif_neg (show (1 : Fin 2) ∉ D.startIndexMap from by decide)]
    have h2 : D.batchCoord (ix3 b k q) 1 = 0 := rfl
    have h3 : D.offCoord (ix3 b k q) 1 = q.val := rfl
    rw [h1, h2, h3]; omega

variable (V : Valuation τ sig (Elt Ideal))

/-- The row of constants added to every place: its second and fourth are zero. -/
theorem row_val : @Eq EReal (after hostOps0 V (Proc.devRef .tc main_v0) (ix2 0 1)) 0
    ∧ @Eq EReal (after hostOps0 V (Proc.devRef .tc main_v0) (ix2 0 3)) 0 := by
  constructor
  · after_reads_at
    rw [show lit0 (S4.rowMajor (ix1 (1 : Fin 4))) = 0x80000000#32 from rfl]
    simp [Ideal.ofBits, Ideal.ieee]
  · after_reads_at
    rw [show lit0 (S4.rowMajor (ix1 (3 : Fin 4))) = 0x00000000#32 from rfl]
    simp [Ideal.ofBits, Ideal.ieee]

/-- An anchor's two y coordinates are one real number. -/
theorem anchor_val (h1 : @Eq EReal (V (Proc.devRef .tc main_v0) (ix2 0 1)) 0)
    (h3 : @Eq EReal (V (Proc.devRef .tc main_v0) (ix2 0 3)) 0) (r : Fin 4096) :
    ∃ w : ℝ, @Eq EReal (after anchorOps V (Proc.devRef .tc main_v96) (ix2 r 1)) (w : EReal)
      ∧ @Eq EReal (after anchorOps V (Proc.devRef .tc main_v96) (ix2 r 3)) (w : EReal) := by
  refine ⟨((IntOp.muli (BitVec.ofNat 32 (r.val / 64)) 16#32).toInt : ℝ), ?_, ?_⟩
  · after_reads_at
    simp only [upto, anchorOps, List.take]
    after_reads_at
    rw [h1, add_zero]
    rfl
  · after_reads_at
    simp only [upto, anchorOps, List.take]
    after_reads_at
    rw [h3, add_zero]
    rfl

/-- Each of the picked anchors is one of the anchors. -/
theorem pick_val (b : Fin 2) (k : Fin 1000) : ∃ r : Fin 4096, ∀ q : Fin 4,
    @Eq EReal (after pickOps V (Proc.devRef .tc main_v116) (ix3 b k q)) (V (Proc.devRef .tc main_v96) (ix2 r q)) := by
  after_reads_simp
  exact gather_row _ _ b k

/-- The box decoded from an anchor without height has none either. -/
theorem box_val (b : Fin 2) (k : Fin 1000) (w : ℝ)
    (h1 : @Eq EReal (V (Proc.devRef .tc main_v116) (ix3 b k 1)) w)
    (h3 : @Eq EReal (V (Proc.devRef .tc main_v116) (ix3 b k 3)) w) :
    @Eq EReal (after boxOps V (Proc.devRef .tc main_v173) (ix3 b k 1)) (after boxOps V (Proc.devRef .tc main_v173) (ix3 b k 3)) := by
  have hz : (w : EReal) - (w : EReal) = 0 := by rw [← EReal.coe_sub, sub_self]; rfl
  after_reads_at
  simp only [upto, boxOps, List.take]
  after_reads_at
  simp only [h1, h3, hz, mul_zero, sub_zero, add_zero]

/-- A coordinate kept within the picture. -/
def clip (y : EReal) : EReal := min (Ideal.ofBits .f32 0x44800000#32) (max (Ideal.ofBits .f32 0x00000000#32) y)

/-- The lower y coordinate, clipped. -/
theorem lo_val (b : Fin 2) (k : Fin 1000) :
    @Eq EReal (after hostOps0_7 (after hostOps0_6 V) (Proc.devRef .tc main_v179) (ix2 b k))
      (clip (V (Proc.devRef .tc main_v173) (ix3 b k 1))) := by
  after_reads_at
  rfl

/-- The upper y coordinate, clipped. -/
theorem hi_val (b : Fin 2) (k : Fin 1000) :
    @Eq EReal (after hostOps0_11 (after hostOps0_10 V) (Proc.devRef .tc main_v185) (ix2 b k))
      (clip (V (Proc.devRef .tc main_v173) (ix3 b k 3))) := by
  after_reads_at
  rfl

/-- The test's constant, about a thousandth, is positive. -/
theorem small_pos : (0 : EReal) < Ideal.ofBits .f32 0x3A83126F#32 := by
  simp [Ideal.ofBits, Ideal.ieee]
  rw [← EReal.coe_mul]
  exact EReal.coe_pos.2 (by positivity)

/-- A number less itself is not at least a thousandth. -/
theorem not_wide (y : EReal) : Ideal.cmp .oge (y - y) (Ideal.ofBits .f32 0x3A83126F#32) = 0#1 := by
  have h : ¬ Ideal.ofBits .f32 0x3A83126F#32 ≤ y - y := not_le.2 (lt_of_le_of_lt EReal.sub_self_le_zero small_pos)
  show BitVec.ofBool (decide (Ideal.ofBits .f32 0x3A83126F#32 ≤ y - y)) = 0#1
  rw [decide_eq_false h]; rfl

/-- A bit and no bit is none. -/
theorem and_zero (a : BitVec 1) : IntOp.andi a 0#1 = 0#1 := by revert a; decide

/-- A box without height fails the test of size. -/
theorem valid_val (b : Fin 2) (k : Fin 1000)
    (h : @Eq EReal (V (Proc.devRef .tc main_v179) (ix2 b k)) (V (Proc.devRef .tc main_v185) (ix2 b k))) :
    @Eq (BitVec 1) (after hostOps0_12 V (Proc.devRef .tc main_v205) (ix2 b k)) 0#1 := by
  after_reads_at
  simp only [upto, hostOps0_12, List.take]
  after_reads_at
  rw [h]
  have hn := not_wide (V (Proc.devRef .tc main_v185) (ix2 b k))
  exact (congrArg (IntOp.andi _) hn).trans (and_zero _)

/-- Where no box passes the test, the result is zero. -/
theorem post_val (h : ∀ b k, @Eq (BitVec 1) (V (Proc.devRef .tc main_v205) (ix2 b k)) 0#1) (b : Fin 2) (k : Fin 1000) (q : Fin 4) :
    @Eq EReal (after hostOps0_13 V (Proc.devRef .tc main_v214) (ix3 b k q)) 0 := by
  after_reads_at
  rw [h, and_zero]
  have hz : (FloatOps.uitofp (F := Ideal) .f32 (0#1 : BitVec 1) : EReal) = 0 := by
    show (((0#1 : BitVec 1).toNat : ℝ) : EReal) = 0
    simp
  exact (congrArg (HMul.hMul (α := EReal) (β := EReal) (γ := EReal) (V (Proc.devRef .tc main_v190) (ix3 b k q))) hz).trans (mul_zero _)

/-- The last operations of the long stretch leave the boxes. -/
theorem rest_keep : after restOps V (Proc.devRef .tc main_v173) = V (Proc.devRef .tc main_v173) := by
  after_reads_simp

/-- The long stretch leaves each box without height. -/
theorem stretch_val (h1 : @Eq EReal (V (Proc.devRef .tc main_v0) (ix2 0 1)) 0)
    (h3 : @Eq EReal (V (Proc.devRef .tc main_v0) (ix2 0 3)) 0) (b : Fin 2) (k : Fin 1000) :
    @Eq EReal (after hostOps0_4 V (Proc.devRef .tc main_v173) (ix3 b k 1)) (after hostOps0_4 V (Proc.devRef .tc main_v173) (ix3 b k 3)) := by
  rw [stretch_eq, after_append, after_append, after_append, rest_keep]
  obtain ⟨r, hr⟩ := pick_val (after anchorOps V) b k
  obtain ⟨w, e1, e3⟩ := anchor_val V h1 h3 r
  exact box_val _ b k w ((hr 1).trans e1) ((hr 3).trans e3)

/-- What the stretches after it hand on: the two clipped y coordinates, which are equal where the box's are. -/
theorem clips_val (b : Fin 2) (k : Fin 1000)
    (h : @Eq EReal (V (Proc.devRef .tc main_v173) (ix3 b k 1)) (V (Proc.devRef .tc main_v173) (ix3 b k 3))) :
    @Eq (BitVec 1) (after hostOps0_12 (after hostOps0_11 (after hostOps0_10 (after hostOps0_9 (after hostOps0_8 (after hostOps0_7
      (after hostOps0_6 (after hostOps0_5 V))))))) (Proc.devRef .tc main_v205) (ix2 b k)) 0#1 := by
  apply valid_val
  refine Eq.trans ?_ (hi_val _ b k).symm
  rw [after_of_writes_sub hostOps0_11 _ hostOps0_11_writes (by decide +kernel),
    after_of_writes_sub hostOps0_10 _ hostOps0_10_writes (by decide +kernel),
    after_of_writes_sub hostOps0_9 _ hostOps0_9_writes (by decide +kernel),
    after_of_writes_sub hostOps0_8 _ hostOps0_8_writes (by decide +kernel)]
  refine (lo_val _ b k).trans ?_
  rw [after_of_writes_sub (r := main_v173) hostOps0_9 _ hostOps0_9_writes (by decide +kernel),
    after_of_writes_sub (r := main_v173) hostOps0_8 _ hostOps0_8_writes (by decide +kernel),
    after_of_writes_sub (r := main_v173) hostOps0_7 _ hostOps0_7_writes (by decide +kernel),
    after_of_writes_sub (r := main_v173) hostOps0_6 _ hostOps0_6_writes (by decide +kernel),
    after_of_writes_sub (r := main_v173) hostOps0_5 _ hostOps0_5_writes (by decide +kernel)]
  exact congrArg clip h

/-- At the loop's entry no box has passed the test. -/
theorem entry_val (b : Fin 2) (k : Fin 1000) :
    @Eq (BitVec 1) (afterL preI V (Proc.devRef .tc main_v205) (ix2 b k)) 0#1 := by
  have hk : after hostOps0_3 (after hostOps0_2 (after hostOps0_1 (after hostOps0 V))) (Proc.devRef .tc main_v0)
      = after hostOps0 V (Proc.devRef .tc main_v0) := by
    rw [after_of_writes_sub hostOps0_3 _ hostOps0_3_writes (by decide +kernel),
      after_of_writes_sub hostOps0_2 _ hostOps0_2_writes (by decide +kernel),
      after_of_writes_sub hostOps0_1 _ hostOps0_1_writes (by decide +kernel)]
  have h1 := (row_val V).1
  have h3 := (row_val V).2
  rw [← hk] at h1 h3
  exact clips_val _ b k (stretch_val _ h1 h3 b k)

/-- A buffer that the loop does not write is as it was at the entry, after any number of trips. -/
theorem loop_keep (r : Ref sig .tc) (W₀ : Dev nD → Valuation τ sig (Elt Ideal)) (c : Dev nD)
    (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (n : ℕ) :
    after condOps (atTrip condOps bodyI W₀ n c) (Proc.devRef .tc r) = W₀ c (Proc.devRef .tc r) := by
  induction n with
  | zero => rw [atTrip_zero, after_of_writes_sub condOps _ condOps_writes hc]
  | succ n ih =>
    rw [after_of_writes_sub condOps _ condOps_writes hc]
    show after while0Ops0_5 (after while0Ops0_4 (after while0Ops0_3 (after while0Ops0_2 (after while0Ops0_1
      (after while0Ops0 (after condOps (atTrip condOps bodyI W₀ n c))))))) (Proc.devRef .tc r) = _
    rw [after_of_writes_sub while0Ops0_5 _ while0Ops0_5_writes h5, after_of_writes_sub while0Ops0_4 _ while0Ops0_4_writes h4,
      after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0, ih]

variable (m : (ℓ : Loc nD τ sig) → Buf (Elt Ideal) ℓ) (ρ : Dev nD → PrngReg)

/-- The reference's result is zero. -/
theorem final (c : Dev nD) : finalContents condOps preI bodyI postI 1000 m c (Proc.devRef .tc main_v214) = fun _ => (0 : EReal) := by
  funext i
  idx_vars i
  refine post_val _ (fun b k => ?_) _ _ _
  rw [loop_keep main_v205 _ c (by decide +kernel) (by decide +kernel) (by decide +kernel) (by decide +kernel)
    (by decide +kernel) (by decide +kernel) (by decide +kernel)]
  exact entry_val _ b k

/-- A buffer no stretch writes ends as it was launched. -/
theorem all_keep (r : Ref sig .tc) (c : Dev nD)
    (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W)
    (p0 : r ∉ hostOps0_W) (p1 : r ∉ hostOps0_1_W) (p2 : r ∉ hostOps0_2_W) (p3 : r ∉ hostOps0_3_W) (p4 : r ∉ hostOps0_4_W)
    (p5 : r ∉ hostOps0_5_W) (p6 : r ∉ hostOps0_6_W) (p7 : r ∉ hostOps0_7_W) (p8 : r ∉ hostOps0_8_W) (p9 : r ∉ hostOps0_9_W)
    (p10 : r ∉ hostOps0_10_W) (p11 : r ∉ hostOps0_11_W) (p12 : r ∉ hostOps0_12_W)
    (hp : after hostOps0_13 (after condOps (atTrip condOps bodyI (entryContents preI m) 1000 c)) (Proc.devRef .tc r)
      = after condOps (atTrip condOps bodyI (entryContents preI m) 1000 c) (Proc.devRef .tc r)) :
    finalContents condOps preI bodyI postI 1000 m c (Proc.devRef .tc r) = m ((c.tc : Thread nD τ).loc r) := by
  refine hp.trans ((loop_keep r _ c hc h0 h1 h2 h3 h4 h5 1000).trans ?_)
  show after hostOps0_12 (after hostOps0_11 (after hostOps0_10 (after hostOps0_9 (after hostOps0_8 (after hostOps0_7
      (after hostOps0_6 (after hostOps0_5 (after hostOps0_4 (after hostOps0_3 (after hostOps0_2 (after hostOps0_1
      (after hostOps0 (launchContents m c))))))))))))) (Proc.devRef .tc r) = _
  rw [after_of_writes_sub hostOps0_12 _ hostOps0_12_writes p12, after_of_writes_sub hostOps0_11 _ hostOps0_11_writes p11,
    after_of_writes_sub hostOps0_10 _ hostOps0_10_writes p10, after_of_writes_sub hostOps0_9 _ hostOps0_9_writes p9,
    after_of_writes_sub hostOps0_8 _ hostOps0_8_writes p8, after_of_writes_sub hostOps0_7 _ hostOps0_7_writes p7,
    after_of_writes_sub hostOps0_6 _ hostOps0_6_writes p6, after_of_writes_sub hostOps0_5 _ hostOps0_5_writes p5,
    after_of_writes_sub hostOps0_4 _ hostOps0_4_writes p4, after_of_writes_sub hostOps0_3 _ hostOps0_3_writes p3,
    after_of_writes_sub hostOps0_2 _ hostOps0_2_writes p2, after_of_writes_sub hostOps0_1 _ hostOps0_1_writes p1,
    after_of_writes_sub hostOps0 _ hostOps0_writes p0]

/-- Argument 0 ends as it was launched. -/
theorem arg0_keep (c : Dev nD) :
    finalContents condOps preI bodyI postI 1000 m c (Proc.devRef .tc main_arg0) = m ((c.tc : Thread nD τ).loc main_arg0) := by
  apply all_keep
  case hp => generalize after condOps _ = W; after_reads_simp
  all_goals decide +kernel

/-- Argument 1 ends as it was launched. -/
theorem arg1_keep (c : Dev nD) :
    finalContents condOps preI bodyI postI 1000 m c (Proc.devRef .tc main_arg1) = m ((c.tc : Thread nD τ).loc main_arg1) := by
  apply all_keep
  case hp => generalize after condOps _ = W; after_reads_simp
  all_goals decide +kernel

/-- Argument 2 ends as it was launched. -/
theorem arg2_keep (c : Dev nD) :
    finalContents condOps preI bodyI postI 1000 m c (Proc.devRef .tc main_arg2) = m ((c.tc : Thread nD τ).loc main_arg2) := by
  apply all_keep
  case hp => generalize after condOps _ = W; after_reads_simp
  all_goals decide +kernel

/-- Argument 3 ends as it was launched. -/
theorem arg3_keep (c : Dev nD) :
    finalContents condOps preI bodyI postI 1000 m c (Proc.devRef .tc main_arg3) = m ((c.tc : Thread nD τ).loc main_arg3) := by
  apply all_keep
  case hp => generalize after condOps _ = W; after_reads_simp
  all_goals decide +kernel

/-- Argument 4 ends as it was launched. -/
theorem arg4_keep (c : Dev nD) :
    finalContents condOps preI bodyI postI 1000 m c (Proc.devRef .tc main_arg4) = m ((c.tc : Thread nD τ).loc main_arg4) := by
  apply all_keep
  case hp => generalize after condOps _ = W; after_reads_simp
  all_goals decide +kernel

/-- Argument 5 ends as it was launched. -/
theorem arg5_keep (c : Dev nD) :
    finalContents condOps preI bodyI postI 1000 m c (Proc.devRef .tc main_arg5) = m ((c.tc : Thread nD τ).loc main_arg5) := by
  apply all_keep
  case hp => generalize after condOps _ = W; after_reads_simp
  all_goals decide +kernel

/-- Argument 6 ends as it was launched. -/
theorem arg6_keep (c : Dev nD) :
    finalContents condOps preI bodyI postI 1000 m c (Proc.devRef .tc main_arg6) = m ((c.tc : Thread nD τ).loc main_arg6) := by
  apply all_keep
  case hp => generalize after condOps _ = W; after_reads_simp
  all_goals decide +kernel

/-- Argument 7 ends as it was launched. -/
theorem arg7_keep (c : Dev nD) :
    finalContents condOps preI bodyI postI 1000 m c (Proc.devRef .tc main_arg7) = m ((c.tc : Thread nD τ).loc main_arg7) := by
  apply all_keep
  case hp => generalize after condOps _ = W; after_reads_simp
  all_goals decide +kernel

/-- The reference runs from any memory: its result is zero, its arguments end as they were launched. -/
theorem run : θ_run (defs (F := Ideal)) (onTc (τ := τ) (main (F := Ideal))) ⟨m, fun _ => 0, ρ⟩ (fun r => ∀ c : Dev nD,
      r.2.mem ((c.tc : Thread nD τ).loc main_v214) = (fun _ => (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c =>
    ⟨(h c main_v214 rfl).trans (final m c), (h c main_arg0 rfl).trans (arg0_keep m c), (h c main_arg1 rfl).trans (arg1_keep m c), (h c main_arg2 rfl).trans (arg2_keep m c), (h c main_arg3 rfl).trans (arg3_keep m c), (h c main_arg4 rfl).trans (arg4_keep m c), (h c main_arg5 rfl).trans (arg5_keep m c), (h c main_arg6 rfl).trans (arg6_keep m c), (h c main_arg7 rfl).trans (arg7_keep m c)⟩) (run_fold m ρ)

end Cert.ReferenceIdeal.ZeroValue

end
-- ==== Proof.KernelClaims.lean ====
module

public import proofs.«01_k».proof.Defs
public import proofs.«01_k».proof.Proof.KernelRun
public import proofs.«01_k».proof.Proof.KernelIdealZero
public import proofs.«01_k».proof.Proof.ReferenceIdealZero
public import Idealize.ShloMosaic.Lib.Quiescent

@[expose] public section

noncomputable section

/-! # The claims about the whole kernel -/

namespace Cert.KernelClaims

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel runs, from any memory, and leaves its arguments and every counter as they were. -/
theorem frame_p : Cert.quiescent_Kernel := fun m ρ _ =>
  (θ_run (Cert.Kernel.defs (F := Bits)) _ _).mono (fun _ h => ⟨fun c => (h.1 c).2, h.2⟩) (Cert.Kernel.Run.frame m ρ)

/-- So does its idealization. -/
theorem frame_pi : Cert.quiescent_KernelIdeal := fun m ρ _ =>
  (θ_run (Cert.KernelIdeal.defs (F := Ideal)) _ _).mono (fun _ h => ⟨fun c => (h.1 c).2, h.2⟩) (Cert.KernelIdeal.Run.frame m ρ)

/-- So does the reference, which has no counters. -/
theorem frame_ri : Cert.quiescent_ReferenceIdeal := fun m ρ _ =>
  (θ_run (Cert.ReferenceIdeal.defs (F := Ideal)) _ _).mono
    (fun r h => ⟨fun c => (h c).2, sem_eq_zero_of_no_sems rfl r.2⟩) (Cert.ReferenceIdeal.ZeroValue.run m ρ)

/-- Nothing was rewritten. -/
theorem preserves : Cert.preserves_Kernel_KernelIdeal := trivial

/-- Over the extended reals the kernel and the reference leave the same array. -/
theorem algebraic : Cert.algebraic_KernelIdeal_ReferenceIdeal := fun m ρ m' ρ' _ _ =>
  ⟨fun _ => fun _ => (0 : EReal),
    (θ_run (Cert.KernelIdeal.defs (F := Ideal)) _ _).mono
      (fun _ h c => ⟨(h.1 c).1.trans (Cert.KernelIdeal.ZeroValue.final m ρ c), (h.1 c).2⟩) (Cert.KernelIdeal.Run.frame m ρ),
    Cert.ReferenceIdeal.ZeroValue.run m' ρ'⟩

end Cert.KernelClaims

end
-- ==== Proof.ConvSpec.lean ====
module

public import Idealize.ShloMosaic.Lib.Pointwise

@[expose] public section

set_option maxRecDepth 16384

noncomputable section

/-! # The convolution and its two heads, written once over the extended reals

The value both programs of the convolution pair are shown to compute: a 3 by 3 convolution with a border of zeros, its
bias, the rectifier, and the five 1 by 1 filters (one score, four box offsets) with their biases, in eight rows of which
the last three are zero. -/

namespace Cert.ConvSpec

open Idealize.ShloMosaic

/-- An activation map read at row `r` and column `s` of the bordered image: zero on the border. -/
def padRead (x : FVec Ideal ⟨4, ![2, 512, 64, 64]⟩ .f32) (b : Fin 2) (k : Fin 512) (r s : ℕ) : EReal :=
  if h : (1 ≤ r ∧ r < 65) ∧ (1 ≤ s ∧ s < 65) then x (ix4 b k ⟨r - 1, by omega⟩ ⟨s - 1, by omega⟩) else 0

/-- One of the nine taps: the sum over the input channels at the place the tap reads. -/
def tap (x : FVec Ideal ⟨4, ![2, 512, 64, 64]⟩ .f32) (w : FVec Ideal ⟨4, ![512, 512, 3, 3]⟩ .f32)
    (b : Fin 2) (o : Fin 512) (r s : ℕ) (dy dx : Fin 3) : EReal :=
  ∑ k : Fin 512, padRead x b k (r + dy) (s + dx) * w (ix4 o k dy dx)

/-- The rectified convolution at one output channel and place. -/
def act (x : FVec Ideal ⟨4, ![2, 512, 64, 64]⟩ .f32) (w : FVec Ideal ⟨4, ![512, 512, 3, 3]⟩ .f32)
    (cb : FVec Ideal ⟨1, ![512]⟩ .f32) (b : Fin 2) (o : Fin 512) (r s : ℕ) : EReal :=
  max (tap x w b o r s 0 0 + tap x w b o r s 0 1 + tap x w b o r s 0 2 + tap x w b o r s 1 0 + tap x w b o r s 1 1
    + tap x w b o r s 1 2 + tap x w b o r s 2 0 + tap x w b o r s 2 1 + tap x w b o r s 2 2 + cb (ix1 o)) 0

/-- The weights of the eight rows: the score filter, the four offset filters, three rows of zeros. -/
def headW (sw : FVec Ideal ⟨4, ![1, 512, 1, 1]⟩ .f32) (bw : FVec Ideal ⟨4, ![4, 512, 1, 1]⟩ .f32) (q : Fin 8) (o : Fin 512) :
    EReal :=
  if q.val < 1 then sw (ix4 0 o 0 0) else if h : q.val - 1 < 4 then bw (ix4 ⟨q.val - 1, h⟩ o 0 0) else 0

/-- The biases of the eight rows. -/
def headB (sb : FVec Ideal ⟨1, ![1]⟩ .f32) (bb : FVec Ideal ⟨1, ![4]⟩ .f32) (q : Fin 8) : EReal :=
  if q.val < 1 then sb (ix1 0) else if h : q.val - 1 < 4 then bb (ix1 ⟨q.val - 1, h⟩) else 0

/-- The eight rows at every place of every image. -/
def rows (x : FVec Ideal ⟨4, ![2, 512, 64, 64]⟩ .f32) (w : FVec Ideal ⟨4, ![512, 512, 3, 3]⟩ .f32)
    (cb : FVec Ideal ⟨1, ![512]⟩ .f32) (sw : FVec Ideal ⟨4, ![1, 512, 1, 1]⟩ .f32) (sb : FVec Ideal ⟨1, ![1]⟩ .f32)
    (bw : FVec Ideal ⟨4, ![4, 512, 1, 1]⟩ .f32) (bb : FVec Ideal ⟨1, ![4]⟩ .f32) :
    FVec Ideal ⟨3, ![2, 8, 4096]⟩ .f32 :=
  fun j => (∑ o : Fin 512, headW sw bw (j 1) o * act x w cb (j 0) o ((j 2).val / 64) ((j 2).val % 64)) + headB sb bb (j 1)

end Cert.ConvSpec
-- ==== Proof.ConvKernel.lean ====
module

public import proofs.«01_k».proof.Proof.Gen.ConvIdeal.Value
public import proofs.«01_k».proof.Proof.ConvSpec
public import Idealize.ShloMosaic.Lib.Pointwise
public import Idealize.ShloMosaic.Lib.Pipeline.ValueKit

@[expose] public section

set_option maxRecDepth 16384

noncomputable section

/-! # The convolution kernel's block, as the convolution at the block's places -/

namespace Cert.ConvIdeal.RowsValue

open Cert.ConvIdeal Cert.ConvIdeal.Gen Idealize.ShloMosaic Idealize.ShloMosaic.TcCoe Idealize.SL.Sem

/-! ## The masks: a flat place's neighbour inside the image, as the words decide it -/

/-- The flat place of a lane of a block. -/
theorem lane_val (i : grid0.Coords) (l : Fin 512) :
    k0_pay3 i (ix2 0 l) = BitVec.ofNat 32 (512 * (i 1).val + l.val) := by
  pointwise [k0_pay3]
  show BitVec.ofNat 32 l.val + BitVec.ofNat 32 (i 1).val * 512#32 = _
  rw [Nat.add_comm, BitVec.ofNat_add, Nat.mul_comm, BitVec.ofNat_mul]

/-- The column of a lane: its flat place modulo the width. -/
theorem col_val (i : grid0.Coords) (l : Fin 512) :
    k0_pay4 i (ix2 0 l) = BitVec.ofNat 32 ((512 * (i 1).val + l.val) % 64) := by
  have hi : (i 1).val < 8 := (i 1).isLt
  pointwise [k0_pay4]
  rw [lane_val]
  generalize hp : 512 * (i 1).val + l.val = p
  have hp' : p < 4096 := by omega
  have key := (by decide +kernel : ∀ p : Fin 4096, Scalar.select
      (IntOp.andi
        (IntOp.xori (IntOp.cmpi CmpIPredicate.slt (IntOp.remsi ArithUnit.vector (BitVec.ofNat 32 p.val)
              (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 p.val)
            (Scalar.select (Scalar.cmpi CmpIPredicate.eq 64#32 0#32) 1#32 64#32)) 0#32))
      (IntOp.addi (IntOp.remsi ArithUnit.vector (BitVec.ofNat 32 p.val)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 p.val)
        (Scalar.select (Scalar.cmpi CmpIPredicate.eq 64#32 0#32) 1#32 64#32)) = BitVec.ofNat 32 (p.val % 64))
  exact key ⟨p, hp'⟩

/-- Whether the tap in row `dy` and column `dx` of the filter reads inside the image at the flat place `p`. -/
def inside (p : ℕ) (dy dx : Fin 3) : BitVec 1 :=
  BitVec.ofBool (decide ((1 ≤ p / 64 + dy.val ∧ p / 64 + dy.val < 65) ∧ (1 ≤ p % 64 + dx.val ∧ p % 64 + dx.val < 65)))

/-- The words' test for this tap. -/
theorem mask00 (p : ℕ) (hp : p < 4096) :
    IntOp.andi (IntOp.andi (IntOp.cmpi CmpIPredicate.sge (IntOp.addi (BitVec.ofNat 32 p) 4294967231#32) 0#32)
      (IntOp.cmpi CmpIPredicate.slt (IntOp.addi (BitVec.ofNat 32 p) 4294967231#32) 4096#32))
      (IntOp.cmpi CmpIPredicate.sgt (BitVec.ofNat 32 (p % 64)) 0#32) = inside p 0 0 :=
  (by decide +kernel : ∀ p : Fin 4096, (fun p : ℕ => IntOp.andi (IntOp.andi (IntOp.cmpi CmpIPredicate.sge (IntOp.addi (BitVec.ofNat 32 p) 4294967231#32) 0#32)
      (IntOp.cmpi CmpIPredicate.slt (IntOp.addi (BitVec.ofNat 32 p) 4294967231#32) 4096#32))
      (IntOp.cmpi CmpIPredicate.sgt (BitVec.ofNat 32 (p % 64)) 0#32) = inside p 0 0) p.val) ⟨p, hp⟩

/-- The words' test for this tap. -/
theorem mask01 (p : ℕ) (hp : p < 4096) :
    IntOp.andi (IntOp.cmpi CmpIPredicate.sge (IntOp.addi (BitVec.ofNat 32 p) 4294967232#32) 0#32)
      (IntOp.cmpi CmpIPredicate.slt (IntOp.addi (BitVec.ofNat 32 p) 4294967232#32) 4096#32) = inside p 0 1 :=
  (by decide +kernel : ∀ p : Fin 4096, (fun p : ℕ => IntOp.andi (IntOp.cmpi CmpIPredicate.sge (IntOp.addi (BitVec.ofNat 32 p) 4294967232#32) 0#32)
      (IntOp.cmpi CmpIPredicate.slt (IntOp.addi (BitVec.ofNat 32 p) 4294967232#32) 4096#32) = inside p 0 1) p.val) ⟨p, hp⟩

/-- The words' test for this tap. -/
theorem mask02 (p : ℕ) (hp : p < 4096) :
    IntOp.andi (IntOp.andi (IntOp.cmpi CmpIPredicate.sge (IntOp.addi (BitVec.ofNat 32 p) 4294967233#32) 0#32)
      (IntOp.cmpi CmpIPredicate.slt (IntOp.addi (BitVec.ofNat 32 p) 4294967233#32) 4096#32))
      (IntOp.cmpi CmpIPredicate.slt (BitVec.ofNat 32 (p % 64)) 63#32) = inside p 0 2 :=
  (by decide +kernel : ∀ p : Fin 4096, (fun p : ℕ => IntOp.andi (IntOp.andi (IntOp.cmpi CmpIPredicate.sge (IntOp.addi (BitVec.ofNat 32 p) 4294967233#32) 0#32)
      (IntOp.cmpi CmpIPredicate.slt (IntOp.addi (BitVec.ofNat 32 p) 4294967233#32) 4096#32))
      (IntOp.cmpi CmpIPredicate.slt (BitVec.ofNat 32 (p % 64)) 63#32) = inside p 0 2) p.val) ⟨p, hp⟩

/-- The words' test for this tap. -/
theorem mask10 (p : ℕ) (hp : p < 4096) :
    IntOp.andi (IntOp.andi (IntOp.cmpi CmpIPredicate.sge (IntOp.addi (BitVec.ofNat 32 p) 4294967295#32) 0#32)
      (IntOp.cmpi CmpIPredicate.slt (IntOp.addi (BitVec.ofNat 32 p) 4294967295#32) 4096#32))
      (IntOp.cmpi CmpIPredicate.sgt (BitVec.ofNat 32 (p % 64)) 0#32) = inside p 1 0 :=
  (by decide +kernel : ∀ p : Fin 4096, (fun p : ℕ => IntOp.andi (IntOp.andi (IntOp.cmpi CmpIPredicate.sge (IntOp.addi (BitVec.ofNat 32 p) 4294967295#32) 0#32)
      (IntOp.cmpi CmpIPredicate.slt (IntOp.addi (BitVec.ofNat 32 p) 4294967295#32) 4096#32))
      (IntOp.cmpi CmpIPredicate.sgt (BitVec.ofNat 32 (p % 64)) 0#32) = inside p 1 0) p.val) ⟨p, hp⟩

/-- The words' test for this tap. -/
theorem mask11 (p : ℕ) (hp : p < 4096) :
    IntOp.andi (IntOp.cmpi CmpIPredicate.sge (IntOp.addi (BitVec.ofNat 32 p) 0#32) 0#32)
      (IntOp.cmpi CmpIPredicate.slt (IntOp.addi (BitVec.ofNat 32 p) 0#32) 4096#32) = inside p 1 1 :=
  (by decide +kernel : ∀ p : Fin 4096, (fun p : ℕ => IntOp.andi (IntOp.cmpi CmpIPredicate.sge (IntOp.addi (BitVec.ofNat 32 p) 0#32) 0#32)
      (IntOp.cmpi CmpIPredicate.slt (IntOp.addi (BitVec.ofNat 32 p) 0#32) 4096#32) = inside p 1 1) p.val) ⟨p, hp⟩

/-- The words' test for this tap. -/
theorem mask12 (p : ℕ) (hp : p < 4096) :
    IntOp.andi (IntOp.andi (IntOp.cmpi CmpIPredicate.sge (IntOp.addi (BitVec.ofNat 32 p) 1#32) 0#32)
      (IntOp.cmpi CmpIPredicate.slt (IntOp.addi (BitVec.ofNat 32 p) 1#32) 4096#32))
      (IntOp.cmpi CmpIPredicate.slt (BitVec.ofNat 32 (p % 64)) 63#32) = inside p 1 2 :=
  (by decide +kernel : ∀ p : Fin 4096, (fun p : ℕ => IntOp.andi (IntOp.andi (IntOp.cmpi CmpIPredicate.sge (IntOp.addi (BitVec.ofNat 32 p) 1#32) 0#32)
      (IntOp.cmpi CmpIPredicate.slt (IntOp.addi (BitVec.ofNat 32 p) 1#32) 4096#32))
      (IntOp.cmpi CmpIPredicate.slt (BitVec.ofNat 32 (p % 64)) 63#32) = inside p 1 2) p.val) ⟨p, hp⟩

/-- The words' test for this tap. -/
theorem mask20 (p : ℕ) (hp : p < 4096) :
    IntOp.andi (IntOp.andi (IntOp.cmpi CmpIPredicate.sge (IntOp.addi (BitVec.ofNat 32 p) 63#32) 0#32)
      (IntOp.cmpi CmpIPredicate.slt (IntOp.addi (BitVec.ofNat 32 p) 63#32) 4096#32))
      (IntOp.cmpi CmpIPredicate.sgt (BitVec.ofNat 32 (p % 64)) 0#32) = inside p 2 0 :=
  (by decide +kernel : ∀ p : Fin 4096, (fun p : ℕ => IntOp.andi (IntOp.andi (IntOp.cmpi CmpIPredicate.sge (IntOp.addi (BitVec.ofNat 32 p) 63#32) 0#32)
      (IntOp.cmpi CmpIPredicate.slt (IntOp.addi (BitVec.ofNat 32 p) 63#32) 4096#32))
      (IntOp.cmpi CmpIPredicate.sgt (BitVec.ofNat 32 (p % 64)) 0#32) = inside p 2 0) p.val) ⟨p, hp⟩

/-- The words' test for this tap. -/
theorem mask21 (p : ℕ) (hp : p < 4096) :
    IntOp.andi (IntOp.cmpi CmpIPredicate.sge (IntOp.addi (BitVec.ofNat 32 p) 64#32) 0#32)
      (IntOp.cmpi CmpIPredicate.slt (IntOp.addi (BitVec.ofNat 32 p) 64#32) 4096#32) = inside p 2 1 :=
  (by decide +kernel : ∀ p : Fin 4096, (fun p : ℕ => IntOp.andi (IntOp.cmpi CmpIPredicate.sge (IntOp.addi (BitVec.ofNat 32 p) 64#32) 0#32)
      (IntOp.cmpi CmpIPredicate.slt (IntOp.addi (BitVec.ofNat 32 p) 64#32) 4096#32) = inside p 2 1) p.val) ⟨p, hp⟩

/-- The words' test for this tap. -/
theorem mask22 (p : ℕ) (hp : p < 4096) :
    IntOp.andi (IntOp.andi (IntOp.cmpi CmpIPredicate.sge (IntOp.addi (BitVec.ofNat 32 p) 65#32) 0#32)
      (IntOp.cmpi CmpIPredicate.slt (IntOp.addi (BitVec.ofNat 32 p) 65#32) 4096#32))
      (IntOp.cmpi CmpIPredicate.slt (BitVec.ofNat 32 (p % 64)) 63#32) = inside p 2 2 :=
  (by decide +kernel : ∀ p : Fin 4096, (fun p : ℕ => IntOp.andi (IntOp.andi (IntOp.cmpi CmpIPredicate.sge (IntOp.addi (BitVec.ofNat 32 p) 65#32) 0#32)
      (IntOp.cmpi CmpIPredicate.slt (IntOp.addi (BitVec.ofNat 32 p) 65#32) 4096#32))
      (IntOp.cmpi CmpIPredicate.slt (BitVec.ofNat 32 (p % 64)) 63#32) = inside p 2 2) p.val) ⟨p, hp⟩

/-- One masked product of the kernel is one tap of the convolution: `hcat` says what the three blocks side by side hold,
    `hw` what the tap's weight block holds. -/
theorem tap_val (x : FVec Ideal ⟨4, ![2, 512, 64, 64]⟩ .f32) (w : FVec Ideal ⟨4, ![512, 512, 3, 3]⟩ .f32) (b : Fin 2)
    (g l : ℕ) (hg : g < 8) (hl : l < 512) (xc : FVec Ideal S512x1536 .f32)
    (hcat : ∀ (k : Fin 512) (j : Fin 1536) (h : 512 ≤ 512 * g + j.val ∧ 512 * g + j.val < 4608),
      xc (ix2 k j) = x (ix4 b k ⟨(512 * g + j.val - 512) / 64, by omega⟩ ⟨(512 * g + j.val - 512) % 64, by omega⟩))
    (o : Fin 512) (dy dx : Fin 3) (wt : Fin 512 → EReal) (hw : ∀ k, wt k = w (ix4 o k dy dx)) (j : Fin 1536)
    (hj : j.val = 447 + 64 * dy.val + dx.val + l) (M : BitVec 1) (hM : M = inside (512 * g + l) dy dx) :
    (∑ k : Fin 512, Scalar.select M (wt k * xc (ix2 k j)) (0 : EReal))
      = ConvSpec.tap x w b o ((512 * g + l) / 64) ((512 * g + l) % 64) dy dx := by
  unfold ConvSpec.tap
  refine Finset.sum_congr rfl fun k _ => ?_
  have hdy := dy.isLt
  have hdx := dx.isLt
  subst hM
  unfold inside ConvSpec.padRead
  by_cases h : (1 ≤ (512 * g + l) / 64 + dy.val ∧ (512 * g + l) / 64 + dy.val < 65)
      ∧ (1 ≤ (512 * g + l) % 64 + dx.val ∧ (512 * g + l) % 64 + dx.val < 65)
  · rw [dif_pos h, decide_eq_true h]
    show wt k * xc (ix2 k j) = _
    rw [hw, hcat k j (by omega), mul_comm]
    congr 3
    · apply Fin.ext
      show (512 * g + j.val - 512) / 64 = (512 * g + l) / 64 + dy.val - 1
      omega
    · apply Fin.ext
      show (512 * g + j.val - 512) % 64 = (512 * g + l) % 64 + dx.val - 1
      omega
  · rw [dif_neg h, decide_eq_false h, zero_mul]
    rfl

/-- A block of the result, from what the input blocks hold: the two heads' sums over the rectified convolution. -/
theorem out_val (i : grid0.Coords) (x0 x1 x2 : Vec Ideal S1x512x512 .f32) (x3 : Vec Ideal S9x512x512 .f32)
    (x4 : Vec Ideal S8x512 .f32) (x5 : Vec Ideal S8x1 .f32) (x6 : Vec Ideal S512x1 .f32)
    (x : FVec Ideal ⟨4, ![2, 512, 64, 64]⟩ .f32) (w : FVec Ideal ⟨4, ![512, 512, 3, 3]⟩ .f32)
    (cb : FVec Ideal ⟨1, ![512]⟩ .f32) (b : Fin 2)
    (hcat : ∀ (k : Fin 512) (j : Fin 1536) (h : 512 ≤ 512 * (i 1).val + j.val ∧ 512 * (i 1).val + j.val < 4608),
      k0_pay2 (F := Ideal) x0 x1 x2 (ix2 k j)
        = x (ix4 b k ⟨(512 * (i 1).val + j.val - 512) / 64, by omega⟩ ⟨(512 * (i 1).val + j.val - 512) % 64, by omega⟩))
    (hw : ∀ (dy dx : Fin 3) (k o : Fin 512) (h : 3 * dy.val + dx.val < 9),
      x3 (ix3 ⟨3 * dy.val + dx.val, h⟩ k o) = w (ix4 o k dy dx))
    (hb : ∀ o : Fin 512, x6 (ix2 o 0) = cb (ix1 o)) (q : Fin 8) (l : Fin 512) :
    out0_7 (F := Ideal) i x0 x1 x2 x3 x4 x5 x6 (ix3 0 q l)
      = (∑ o : Fin 512, x4 (ix2 q o) * ConvSpec.act x w cb b o ((512 * (i 1).val + l.val) / 64) ((512 * (i 1).val + l.val) % 64))
        + x5 (ix2 q 0) := by
  have hi : (i 1).val < 8 := (i 1).isLt
  have hl : l.val < 512 := l.isLt
  have hp : 512 * (i 1).val + l.val < 4096 := by omega
  unfold_out out0_7
  frame_out
  pointwise [k0_pay1, k0_pay5, k0_pay6, k0_pay7, k0_pay8, k0_pay9, k0_pay10, k0_pay11, k0_pay12, k0_pay13, k0_pay14,
    k0_pay15, k0_pay16, k0_pay17, lane_val, col_val]
  congr 1
  refine Finset.sum_congr rfl fun o _ => ?_
  unfold ConvSpec.act
  rw [hb o]
  rw [tap_val x w b (i 1).val l.val hi hl _ hcat o 0 0 (fun k => x3 (ix3 0 k o)) (fun k => hw 0 0 k o (by decide)) ⟨447 + l.val, by omega⟩ rfl _ (mask00 _ hp)]
  rw [tap_val x w b (i 1).val l.val hi hl _ hcat o 0 1 (fun k => x3 (ix3 1 k o)) (fun k => hw 0 1 k o (by decide)) ⟨448 + l.val, by omega⟩ rfl _ (mask01 _ hp)]
  rw [tap_val x w b (i 1).val l.val hi hl _ hcat o 0 2 (fun k => x3 (ix3 2 k o)) (fun k => hw 0 2 k o (by decide)) ⟨449 + l.val, by omega⟩ rfl _ (mask02 _ hp)]
  rw [tap_val x w b (i 1).val l.val hi hl _ hcat o 1 0 (fun k => x3 (ix3 3 k o)) (fun k => hw 1 0 k o (by decide)) ⟨511 + l.val, by omega⟩ rfl _ (mask10 _ hp)]
  rw [tap_val x w b (i 1).val l.val hi hl _ hcat o 1 1 (fun k => x3 (ix3 4 k o)) (fun k => hw 1 1 k o (by decide)) ⟨512 + l.val, by omega⟩ rfl _ (mask11 _ hp)]
  rw [tap_val x w b (i 1).val l.val hi hl _ hcat o 1 2 (fun k => x3 (ix3 5 k o)) (fun k => hw 1 2 k o (by decide)) ⟨513 + l.val, by omega⟩ rfl _ (mask12 _ hp)]
  rw [tap_val x w b (i 1).val l.val hi hl _ hcat o 2 0 (fun k => x3 (ix3 6 k o)) (fun k => hw 2 0 k o (by decide)) ⟨575 + l.val, by omega⟩ rfl _ (mask20 _ hp)]
  rw [tap_val x w b (i 1).val l.val hi hl _ hcat o 2 1 (fun k => x3 (ix3 7 k o)) (fun k => hw 2 1 k o (by decide)) ⟨576 + l.val, by omega⟩ rfl _ (mask21 _ hp)]
  rw [tap_val x w b (i 1).val l.val hi hl _ hcat o 2 2 (fun k => x3 (ix3 8 k o)) (fun k => hw 2 2 k o (by decide)) ⟨577 + l.val, by omega⟩ rfl _ (mask22 _ hp)]

end Cert.ConvIdeal.RowsValue
-- ==== Proof.ConvRows.lean ====
module

public import proofs.«01_k».proof.Proof.ConvKernel

@[expose] public section

set_option maxRecDepth 16384

noncomputable section

/-! # The convolution kernel's result array -/

namespace Cert.ConvIdeal.RowsValue

open Cert.ConvIdeal Cert.ConvIdeal.Gen Idealize.ShloMosaic Idealize.ShloMosaic.TcCoe Idealize.SL.Sem

variable (m : (ℓ : Loc nD τ sig) → Buf (Elt Ideal) ℓ) (ρ : Dev nD → PrngReg)

/-- What the result array is shown to hold. -/
abbrev G (c : Dev nD) : FVec Ideal ⟨3, ![2, 8, 4096]⟩ .f32 :=
  ConvSpec.rows (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The blocks the seven windows that move, or not, with the grid point take. -/
theorem coords_val : ∀ t : Fin cfg0.N, (win0_7.index t 0 = (grid0.coords t 0).val ∧ win0_7.index t 1 = 0 ∧ win0_7.index t 2 = (grid0.coords t 1).val)
    ∧ (win0_0.index t 0 = (grid0.coords t 0).val ∧ win0_0.index t 1 = 0 ∧ win0_0.index t 2 = (grid0.coords t 1).val - 1)
    ∧ (win0_1.index t 0 = (grid0.coords t 0).val ∧ win0_1.index t 1 = 0 ∧ win0_1.index t 2 = (grid0.coords t 1).val)
    ∧ (win0_2.index t 0 = (grid0.coords t 0).val ∧ win0_2.index t 1 = 0 ∧ win0_2.index t 2 = min ((grid0.coords t 1).val + 1) 7)
    ∧ (grid0.coords t 0).val < 2 ∧ (grid0.coords t 1).val < 8 :=
  (by decide +kernel : ∀ t : Fin grid0.N, (win0_7.index t 0 = (grid0.coords t 0).val ∧ win0_7.index t 1 = 0 ∧ win0_7.index t 2 = (grid0.coords t 1).val)
    ∧ (win0_0.index t 0 = (grid0.coords t 0).val ∧ win0_0.index t 1 = 0 ∧ win0_0.index t 2 = (grid0.coords t 1).val - 1)
    ∧ (win0_1.index t 0 = (grid0.coords t 0).val ∧ win0_1.index t 1 = 0 ∧ win0_1.index t 2 = (grid0.coords t 1).val)
    ∧ (win0_2.index t 0 = (grid0.coords t 0).val ∧ win0_2.index t 1 = 0 ∧ win0_2.index t 2 = min ((grid0.coords t 1).val + 1) 7)
    ∧ (grid0.coords t 0).val < 2 ∧ (grid0.coords t 1).val < 8)

/-- The windows of the weights and biases are whole arrays at every grid point. -/
theorem whole_val : ∀ t : Fin cfg0.N, (win0_3.index t 0 = 0 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0) :=
  (by decide +kernel : ∀ t : Fin grid0.N, (win0_3.index t 0 = 0 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0))

/-- What the flattened features hold when the call begins. -/
theorem V_v0 (c : Dev nD) : (V m c main_v0 : FVec Ideal S2x512x4096 .f32)
    = shapeCast S2x512x4096 (m ((c : Thread nD τ).loc main_arg0) : FVec Ideal S2x512x64x64 .f32) shapeCasts_S2x512x64x64_S2x512x4096 := by
  entry_read
  rfl

/-- What the transposed filter holds when the call begins. -/
theorem V_v2 (c : Dev nD) : (V m c main_v2 : FVec Ideal S9x512x512 .f32)
    = shapeCast S9x512x512 (transpose S3x3x512x512 [2, 3, 1, 0] (m ((c : Thread nD τ).loc main_arg1) : FVec Ideal S512x512x3x3 .f32)
        transposes_S512x512x3x3_S3x3x512x512_2_3_1_0) shapeCasts_S3x3x512x512_S9x512x512 := by
  entry_read
  rfl

/-- What the convolution's bias column holds when the call begins. -/
theorem V_v10 (c : Dev nD) : (V m c main_v10 : FVec Ideal S512x1 .f32)
    = shapeCast S512x1 (m ((c : Thread nD τ).loc main_arg2) : FVec Ideal S512 .f32) shapeCasts_S512_S512x1 := by
  entry_read
  rfl

/-- What the eight rows of head weights hold when the call begins. -/
theorem V_v6 (c : Dev nD) : (V m c main_v6 : FVec Ideal S8x512 .f32)
    = concatenate S8x512 0 [⟨S1x512, shapeCast S1x512 (m ((c : Thread nD τ).loc main_arg3) : FVec Ideal S1x512x1x1 .f32) shapeCasts_S1x512x1x1_S1x512⟩,
        ⟨S4x512, shapeCast S4x512 (m ((c : Thread nD τ).loc main_arg5) : FVec Ideal S4x512x1x1 .f32) shapeCasts_S4x512x1x1_S4x512⟩,
        ⟨S3x512, broadcastInDim S3x512 ![] bcast_S_S3x512 (constant (F := Ideal) S_ .f32 0x00000000#32)⟩]
        concatenates_S1x512_S4x512_S3x512_S8x512_d0 := by
  show StableHlo.after hostOps0 _ _ = _
  after_results_simp
  rfl

/-- What the eight head biases hold when the call begins. -/
theorem V_v9 (c : Dev nD) : (V m c main_v9 : FVec Ideal S8x1 .f32)
    = shapeCast S8x1 (concatenate S8 0 [⟨S1, (m ((c : Thread nD τ).loc main_arg4) : FVec Ideal S1 .f32)⟩,
        ⟨S4, (m ((c : Thread nD τ).loc main_arg6) : FVec Ideal S4 .f32)⟩,
        ⟨S3, broadcastInDim S3 ![] bcast_S_S3 (constant (F := Ideal) S_ .f32 0x00000000#32)⟩]
        concatenates_S1_S4_S3_S8_d0) shapeCasts_S8_S8x1 := by
  show StableHlo.after hostOps0 _ _ = _
  after_results_simp
  rfl

/-- The block before: a lane of it in the flattened features. -/
theorem blk0 (c : Dev nD) (t : Fin cfg0.N) (k l : Fin 512) (p : Fin 4096)
    (hp : p.val = 512 * ((grid0.coords t 1).val - 1) + l.val) :
    (iblk m c 0 t : Vec Ideal S1x512x512 .f32) (ix3 0 k l) = (V m c main_v0 : FVec Ideal S2x512x4096 .f32) (ix3 (grid0.coords t 0) k p) := by
  obtain ⟨-, ⟨a1, a2, a3⟩, -⟩ := coords_val t
  show ((cfg0.win 0).blk t).view.read (Elt Ideal) (V m c main_v0) (ix3 0 k l) = _
  generalize V m c main_v0 = X
  blk_ext [a1, a2, a3]

/-- The block itself: a lane of it in the flattened features. -/
theorem blk1 (c : Dev nD) (t : Fin cfg0.N) (k l : Fin 512) (p : Fin 4096)
    (hp : p.val = 512 * (grid0.coords t 1).val + l.val) :
    (iblk m c 1 t : Vec Ideal S1x512x512 .f32) (ix3 0 k l) = (V m c main_v0 : FVec Ideal S2x512x4096 .f32) (ix3 (grid0.coords t 0) k p) := by
  obtain ⟨-, -, ⟨a1, a2, a3⟩, -⟩ := coords_val t
  show ((cfg0.win 1).blk t).view.read (Elt Ideal) (V m c main_v0) (ix3 0 k l) = _
  generalize V m c main_v0 = X
  blk_ext [a1, a2, a3]

/-- The block after: a lane of it in the flattened features. -/
theorem blk2 (c : Dev nD) (t : Fin cfg0.N) (k l : Fin 512) (p : Fin 4096)
    (hp : p.val = 512 * (min ((grid0.coords t 1).val + 1) 7) + l.val) :
    (iblk m c 2 t : Vec Ideal S1x512x512 .f32) (ix3 0 k l) = (V m c main_v0 : FVec Ideal S2x512x4096 .f32) (ix3 (grid0.coords t 0) k p) := by
  obtain ⟨-, -, -, ⟨a1, a2, a3⟩, -⟩ := coords_val t
  show ((cfg0.win 2).blk t).view.read (Elt Ideal) (V m c main_v0) (ix3 0 k l) = _
  generalize V m c main_v0 = X
  blk_ext [a1, a2, a3]

/-- The filter's block is the whole filter. -/
theorem blk3 (c : Dev nD) (t : Fin cfg0.N) (a : Fin 9) (k l : Fin 512) :
    (iblk m c 3 t : Vec Ideal S9x512x512 .f32) (ix3 a k l) = (V m c main_v2 : FVec Ideal S9x512x512 .f32) (ix3 a k l) := by
  obtain ⟨⟨a1, a2, a3⟩, -⟩ := whole_val t
  show ((cfg0.win 3).blk t).view.read (Elt Ideal) (V m c main_v2) (ix3 a k l) = _
  generalize V m c main_v2 = X
  blk_ext [a1, a2, a3]

/-- The head weights' block is the whole array. -/
theorem blk4 (c : Dev nD) (t : Fin cfg0.N) (q : Fin 8) (l : Fin 512) :
    (iblk m c 4 t : Vec Ideal S8x512 .f32) (ix2 q l) = (V m c main_v6 : FVec Ideal S8x512 .f32) (ix2 q l) := by
  obtain ⟨-, ⟨a1, a2⟩, -⟩ := whole_val t
  show ((cfg0.win 4).blk t).view.read (Elt Ideal) (V m c main_v6) (ix2 q l) = _
  generalize V m c main_v6 = X
  blk_ext [a1, a2]

/-- The head biases' block is the whole array. -/
theorem blk5 (c : Dev nD) (t : Fin cfg0.N) (q : Fin 8) :
    (iblk m c 5 t : Vec Ideal S8x1 .f32) (ix2 q 0) = (V m c main_v9 : FVec Ideal S8x1 .f32) (ix2 q 0) := by
  obtain ⟨-, -, ⟨a1, a2⟩, -⟩ := whole_val t
  show ((cfg0.win 5).blk t).view.read (Elt Ideal) (V m c main_v9) (ix2 q 0) = _
  generalize V m c main_v9 = X
  blk_ext [a1, a2]

/-- The bias block is the whole column. -/
theorem blk6 (c : Dev nD) (t : Fin cfg0.N) (o : Fin 512) :
    (iblk m c 6 t : Vec Ideal S512x1 .f32) (ix2 o 0) = (V m c main_v10 : FVec Ideal S512x1 .f32) (ix2 o 0) := by
  obtain ⟨-, -, -, a1, a2⟩ := whole_val t
  show ((cfg0.win 6).blk t).view.read (Elt Ideal) (V m c main_v10) (ix2 o 0) = _
  generalize V m c main_v10 = X
  blk_ext [a1, a2]

/-! ## What the body needs of its blocks -/

/-- The flattened features, read back from the features. -/
theorem flat_val (c : Dev nD) (b : Fin 2) (k : Fin 512) (p : Fin 4096) :
    (V m c main_v0 : FVec Ideal S2x512x4096 .f32) (ix3 b k p)
      = (m ((c : Thread nD τ).loc main_arg0) : FVec Ideal S2x512x64x64 .f32) (ix4 b k ⟨p.val / 64, by omega⟩ ⟨p.val % 64, by omega⟩) := by
  rw [V_v0]
  pointwise

/-- The three blocks side by side: a lane of them in the features. -/
theorem cat_val (c : Dev nD) (t : Fin cfg0.N) (k : Fin 512) (j : Fin 1536)
    (h : 512 ≤ 512 * (grid0.coords t 1).val + j.val ∧ 512 * (grid0.coords t 1).val + j.val < 4608) :
    k0_pay2 (F := Ideal) (iblk m c 0 t) (iblk m c 1 t) (iblk m c 2 t) (ix2 k j)
      = (m ((c : Thread nD τ).loc main_arg0) : FVec Ideal S2x512x64x64 .f32) (ix4 (grid0.coords t 0) k
          ⟨(512 * (grid0.coords t 1).val + j.val - 512) / 64, by omega⟩
          ⟨(512 * (grid0.coords t 1).val + j.val - 512) % 64, by omega⟩) := by
  have d2 : (grid0.coords t 1).val < 8 := (grid0.coords t 1).isLt
  have hj := j.isLt
  rw [← flat_val m c (grid0.coords t 0) k ⟨512 * (grid0.coords t 1).val + j.val - 512, by omega⟩]
  pointwise [k0_pay2]
  by_cases h1 : j.val < 512
  · rw [dif_pos h1]
    exact blk0 m c t k _ _ (by show 512 * (grid0.coords t 1).val + j.val - 512 = _ + j.val; omega)
  · rw [dif_neg h1]
    by_cases h2 : j.val - 512 < 512
    · rw [dif_pos h2]
      exact blk1 m c t k _ _ (by show 512 * (grid0.coords t 1).val + j.val - 512 = _ + (j.val - 512); omega)
    · rw [dif_neg h2]
      exact blk2 m c t k _ _ (by show 512 * (grid0.coords t 1).val + j.val - 512 = _ + (j.val - 512 - 512); omega)

/-- One tap's weights, read back from the filter. -/
theorem weight_val (c : Dev nD) (t : Fin cfg0.N) (dy dx : Fin 3) (k o : Fin 512) (h : 3 * dy.val + dx.val < 9) :
    (iblk m c 3 t : Vec Ideal S9x512x512 .f32) (ix3 ⟨3 * dy.val + dx.val, h⟩ k o)
      = (m ((c : Thread nD τ).loc main_arg1) : FVec Ideal S512x512x3x3 .f32) (ix4 o k dy dx) := by
  have h1 := dy.isLt
  have h2 := dx.isLt
  rw [blk3, V_v2]
  pointwise

/-- The bias block, read back from the argument. -/
theorem bias_val (c : Dev nD) (t : Fin cfg0.N) (o : Fin 512) :
    (iblk m c 6 t : Vec Ideal S512x1 .f32) (ix2 o 0) = (m ((c : Thread nD τ).loc main_arg2) : FVec Ideal S512 .f32) (ix1 o) := by
  rw [blk6, V_v10]
  pointwise

/-- The head weights' block, read back from the two heads' arguments. -/
theorem headW_val (c : Dev nD) (t : Fin cfg0.N) (q : Fin 8) (o : Fin 512) :
    (iblk m c 4 t : Vec Ideal S8x512 .f32) (ix2 q o)
      = ConvSpec.headW (m ((c : Thread nD τ).loc main_arg3)) (m ((c : Thread nD τ).loc main_arg5)) q o := by
  rw [blk4, V_v6]
  pointwise [ConvSpec.headW]
  split_ifs <;> rfl

/-- The head biases' block, read back from the two heads' arguments. -/
theorem headB_val (c : Dev nD) (t : Fin cfg0.N) (q : Fin 8) :
    (iblk m c 5 t : Vec Ideal S8x1 .f32) (ix2 q 0)
      = ConvSpec.headB (m ((c : Thread nD τ).loc main_arg4)) (m ((c : Thread nD τ).loc main_arg6)) q := by
  rw [blk5, V_v9]
  pointwise [ConvSpec.headB]
  by_cases h1 : q.val < 1
  · rw [dif_pos h1, if_pos h1]
    congr 2
    exact Fin.ext (by show q.val = 0; omega)
  · rw [dif_neg h1, if_neg h1]

/-- What a grid point leaves in the result's staging buffer. -/
theorem point_val (c : Dev nD) (t : Fin cfg0.N) (q : Fin 8) (l : Fin 512) (p : Fin 4096)
    (hp : p.val = 512 * (grid0.coords t 1).val + l.val) :
    out0_7 (F := Ideal) (grid0.coords t) (iblk m c 0 t) (iblk m c 1 t) (iblk m c 2 t) (iblk m c 3 t) (iblk m c 4 t) (iblk m c 5 t)
      (iblk m c 6 t) (ix3 0 q l) = G m c (ix3 (grid0.coords t 0) q p) := by
  rw [out_val (grid0.coords t) (iblk m c 0 t) (iblk m c 1 t) (iblk m c 2 t) (iblk m c 3 t) (iblk m c 4 t) (iblk m c 5 t)
    (iblk m c 6 t) (m ((c : Thread nD τ).loc main_arg0)) (m ((c : Thread nD τ).loc main_arg1))
    (m ((c : Thread nD τ).loc main_arg2)) (grid0.coords t 0) (cat_val m c t) (weight_val m c t) (bias_val m c t) q l,
    headB_val, ← hp]
  simp only [headW_val]
  rfl

/-- The result array. -/
theorem final (c : Dev nD) : (dats m 0 c).arrAt 7 cfg0.N = G m c := by
  refine (dats m 0 c).arrAt_eq_of_covers 7 _ (by decide +kernel) fun t hf y => ?_
  obtain ⟨⟨a1, a2, a3⟩, -⟩ := coords_val t
  blk_simp
  rw [after0_7]
  idx_vars y

  obtain rfl : y0 = 0 := Subsingleton.elim _ _
  have hi : (grid0.coords t 1).val < 8 := (grid0.coords t 1).isLt
  have hl : y2.val < 512 := y2.isLt
  refine (point_val m c t y1 y2 ⟨512 * (grid0.coords t 1).val + y2.val, by omega⟩ rfl).trans ?_
  generalize G m c = X
  blk_ext [a1, a2, a3]

/-- The run, read: the result array at the eight rows of the convolution, the arguments unchanged. -/
theorem run : θ_run defs (onTc (τ := τ) (main (F := Ideal))) ⟨m, fun _ => 0, ρ⟩ fun r => ∀ c : Dev nD,
      r.2.mem ((c : Thread nD τ).loc main_v11) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.ConvIdeal.RowsValue
-- ==== Proof.ConvRef.lean ====
module

public import proofs.«01_k».proof.Proof.Gen.ConvReferenceIdeal.Run
public import proofs.«01_k».proof.Proof.ConvSpec
public import Idealize.ShloMosaic.Lib.Pointwise
public import Idealize.ShloMosaic.Lib.Pipeline.ValueKit
public import Idealize.ShloMosaic.Lib.Tactic.CleanTypes

@[expose] public section

set_option maxRecDepth 16384

noncomputable section

/-! # The convolution reference's result array -/

namespace Cert.ConvReferenceIdeal.RowsValue

open Cert.ConvReferenceIdeal Cert.ConvReferenceIdeal.Value Idealize.ShloMosaic Idealize.ShloMosaic.TcCoe Idealize.SL.Sem

/-- A tap as the reference's padded slice states it: the condition `C` is that the place read is inside the image. -/
theorem tap_of (x : FVec Ideal ⟨4, ![2, 512, 64, 64]⟩ .f32) (w : FVec Ideal ⟨4, ![512, 512, 3, 3]⟩ .f32)
    (b : Fin 2) (o : Fin 512) (r s : ℕ) (dy dx : Fin 3) (C : Prop) [Decidable C] (z : EReal) (hz : z = 0)
    (R S : C → Fin 64) (hC : C ↔ (1 ≤ r + dy.val ∧ r + dy.val < 65) ∧ (1 ≤ s + dx.val ∧ s + dx.val < 65))
    (hR : ∀ h, (R h).val = r + dy.val - 1) (hS : ∀ h, (S h).val = s + dx.val - 1) :
    (∑ k : Fin 512, (if h : C then x (ix4 b k (R h) (S h)) else z) * w (ix4 o k dy dx)) = ConvSpec.tap x w b o r s dy dx := by
  unfold ConvSpec.tap
  refine Finset.sum_congr rfl fun k _ => congrArg (· * _) ?_
  unfold ConvSpec.padRead
  by_cases h : C
  · rw [dif_pos h, dif_pos (hC.mp h)]
    congr 2
    · exact Fin.ext (hR h)
    · exact Fin.ext (hS h)
  · rw [dif_neg h, dif_neg fun h' => h (hC.mpr h'), hz]

/-- The border's value. -/
theorem sitofp_zero : (FloatOps.sitofp (F := Ideal) FTy.f32 (0#32) : EReal) = 0 := by
  show ((((0#32 : BitVec 32).toInt : ℤ) : ℝ) : EReal) = 0
  norm_num

/-- The tap in row 0 and column 0 of the filter. -/
theorem tap00 (x : FVec Ideal ⟨4, ![2, 512, 64, 64]⟩ .f32) (w : FVec Ideal ⟨4, ![512, 512, 3, 3]⟩ .f32)
    (b : Fin 2) (o : Fin 512) (r s : ℕ) (hr : r < 64) (hs : s < 64) :
    (∑ k : Fin 512, (if h : (1 ≤ r ∧ r - 1 < 64) ∧ 1 ≤ s ∧ s - 1 < 64 then x (ix4 b k ⟨r - 1, by omega⟩ ⟨s - 1, by omega⟩)
      else (FloatOps.sitofp (F := Ideal) FTy.f32 (0#32) : EReal)) * w (ix4 o k 0 0)) = ConvSpec.tap x w b o r s 0 0 :=
  tap_of x w b o r s 0 0 _ _ sitofp_zero (fun h => ⟨r - 1, by omega⟩) (fun h => ⟨s - 1, by omega⟩)
    (by show _ ↔ (1 ≤ r + 0 ∧ r + 0 < 65) ∧ (1 ≤ s + 0 ∧ s + 0 < 65); omega)
    (fun _ => by show r - 1 = r + 0 - 1; omega) (fun _ => by show s - 1 = s + 0 - 1; omega)

/-- The tap in row 0 and column 1 of the filter. -/
theorem tap01 (x : FVec Ideal ⟨4, ![2, 512, 64, 64]⟩ .f32) (w : FVec Ideal ⟨4, ![512, 512, 3, 3]⟩ .f32)
    (b : Fin 2) (o : Fin 512) (r s : ℕ) (hr : r < 64) (hs : s < 64) :
    (∑ k : Fin 512, (if h : (1 ≤ r ∧ r - 1 < 64) ∧ s < 64 then x (ix4 b k ⟨r - 1, by omega⟩ ⟨s, by omega⟩)
      else (FloatOps.sitofp (F := Ideal) FTy.f32 (0#32) : EReal)) * w (ix4 o k 0 1)) = ConvSpec.tap x w b o r s 0 1 :=
  tap_of x w b o r s 0 1 _ _ sitofp_zero (fun h => ⟨r - 1, by omega⟩) (fun h => ⟨s, by omega⟩)
    (by show _ ↔ (1 ≤ r + 0 ∧ r + 0 < 65) ∧ (1 ≤ s + 1 ∧ s + 1 < 65); omega)
    (fun _ => by show r - 1 = r + 0 - 1; omega) (fun _ => by show s = s + 1 - 1; omega)

/-- The tap in row 0 and column 2 of the filter. -/
theorem tap02 (x : FVec Ideal ⟨4, ![2, 512, 64, 64]⟩ .f32) (w : FVec Ideal ⟨4, ![512, 512, 3, 3]⟩ .f32)
    (b : Fin 2) (o : Fin 512) (r s : ℕ) (hr : r < 64) (hs : s < 64) :
    (∑ k : Fin 512, (if h : (1 ≤ r ∧ r - 1 < 64) ∧ 1 ≤ 2 + s ∧ 2 + s - 1 < 64 then x (ix4 b k ⟨r - 1, by omega⟩ ⟨2 + s - 1, by omega⟩)
      else (FloatOps.sitofp (F := Ideal) FTy.f32 (0#32) : EReal)) * w (ix4 o k 0 2)) = ConvSpec.tap x w b o r s 0 2 :=
  tap_of x w b o r s 0 2 _ _ sitofp_zero (fun h => ⟨r - 1, by omega⟩) (fun h => ⟨2 + s - 1, by omega⟩)
    (by show _ ↔ (1 ≤ r + 0 ∧ r + 0 < 65) ∧ (1 ≤ s + 2 ∧ s + 2 < 65); omega)
    (fun _ => by show r - 1 = r + 0 - 1; omega) (fun _ => by show 2 + s - 1 = s + 2 - 1; omega)

/-- The tap in row 1 and column 0 of the filter. -/
theorem tap10 (x : FVec Ideal ⟨4, ![2, 512, 64, 64]⟩ .f32) (w : FVec Ideal ⟨4, ![512, 512, 3, 3]⟩ .f32)
    (b : Fin 2) (o : Fin 512) (r s : ℕ) (hr : r < 64) (hs : s < 64) :
    (∑ k : Fin 512, (if h : r < 64 ∧ 1 ≤ s ∧ s - 1 < 64 then x (ix4 b k ⟨r, by omega⟩ ⟨s - 1, by omega⟩)
      else (FloatOps.sitofp (F := Ideal) FTy.f32 (0#32) : EReal)) * w (ix4 o k 1 0)) = ConvSpec.tap x w b o r s 1 0 :=
  tap_of x w b o r s 1 0 _ _ sitofp_zero (fun h => ⟨r, by omega⟩) (fun h => ⟨s - 1, by omega⟩)
    (by show _ ↔ (1 ≤ r + 1 ∧ r + 1 < 65) ∧ (1 ≤ s + 0 ∧ s + 0 < 65); omega)
    (fun _ => by show r = r + 1 - 1; omega) (fun _ => by show s - 1 = s + 0 - 1; omega)

/-- The tap in row 1 and column 1 of the filter. -/
theorem tap11 (x : FVec Ideal ⟨4, ![2, 512, 64, 64]⟩ .f32) (w : FVec Ideal ⟨4, ![512, 512, 3, 3]⟩ .f32)
    (b : Fin 2) (o : Fin 512) (r s : ℕ) (hr : r < 64) (hs : s < 64) :
    (∑ k : Fin 512, (if h : r < 64 ∧ s < 64 then x (ix4 b k ⟨r, by omega⟩ ⟨s, by omega⟩)
      else (FloatOps.sitofp (F := Ideal) FTy.f32 (0#32) : EReal)) * w (ix4 o k 1 1)) = ConvSpec.tap x w b o r s 1 1 :=
  tap_of x w b o r s 1 1 _ _ sitofp_zero (fun h => ⟨r, by omega⟩) (fun h => ⟨s, by omega⟩)
    (by show _ ↔ (1 ≤ r + 1 ∧ r + 1 < 65) ∧ (1 ≤ s + 1 ∧ s + 1 < 65); omega)
    (fun _ => by show r = r + 1 - 1; omega) (fun _ => by show s = s + 1 - 1; omega)

/-- The tap in row 1 and column 2 of the filter. -/
theorem tap12 (x : FVec Ideal ⟨4, ![2, 512, 64, 64]⟩ .f32) (w : FVec Ideal ⟨4, ![512, 512, 3, 3]⟩ .f32)
    (b : Fin 2) (o : Fin 512) (r s : ℕ) (hr : r < 64) (hs : s < 64) :
    (∑ k : Fin 512, (if h : r < 64 ∧ 1 ≤ 2 + s ∧ 2 + s - 1 < 64 then x (ix4 b k ⟨r, by omega⟩ ⟨2 + s - 1, by omega⟩)
      else (FloatOps.sitofp (F := Ideal) FTy.f32 (0#32) : EReal)) * w (ix4 o k 1 2)) = ConvSpec.tap x w b o r s 1 2 :=
  tap_of x w b o r s 1 2 _ _ sitofp_zero (fun h => ⟨r, by omega⟩) (fun h => ⟨2 + s - 1, by omega⟩)
    (by show _ ↔ (1 ≤ r + 1 ∧ r + 1 < 65) ∧ (1 ≤ s + 2 ∧ s + 2 < 65); omega)
    (fun _ => by show r = r + 1 - 1; omega) (fun _ => by show 2 + s - 1 = s + 2 - 1; omega)

/-- The tap in row 2 and column 0 of the filter. -/
theorem tap20 (x : FVec Ideal ⟨4, ![2, 512, 64, 64]⟩ .f32) (w : FVec Ideal ⟨4, ![512, 512, 3, 3]⟩ .f32)
    (b : Fin 2) (o : Fin 512) (r s : ℕ) (hr : r < 64) (hs : s < 64) :
    (∑ k : Fin 512, (if h : (1 ≤ 2 + r ∧ 2 + r - 1 < 64) ∧ 1 ≤ s ∧ s - 1 < 64 then x (ix4 b k ⟨2 + r - 1, by omega⟩ ⟨s - 1, by omega⟩)
      else (FloatOps.sitofp (F := Ideal) FTy.f32 (0#32) : EReal)) * w (ix4 o k 2 0)) = ConvSpec.tap x w b o r s 2 0 :=
  tap_of x w b o r s 2 0 _ _ sitofp_zero (fun h => ⟨2 + r - 1, by omega⟩) (fun h => ⟨s - 1, by omega⟩)
    (by show _ ↔ (1 ≤ r + 2 ∧ r + 2 < 65) ∧ (1 ≤ s + 0 ∧ s + 0 < 65); omega)
    (fun _ => by show 2 + r - 1 = r + 2 - 1; omega) (fun _ => by show s - 1 = s + 0 - 1; omega)

/-- The tap in row 2 and column 1 of the filter. -/
theorem tap21 (x : FVec Ideal ⟨4, ![2, 512, 64, 64]⟩ .f32) (w : FVec Ideal ⟨4, ![512, 512, 3, 3]⟩ .f32)
    (b : Fin 2) (o : Fin 512) (r s : ℕ) (hr : r < 64) (hs : s < 64) :
    (∑ k : Fin 512, (if h : (1 ≤ 2 + r ∧ 2 + r - 1 < 64) ∧ s < 64 then x (ix4 b k ⟨2 + r - 1, by omega⟩ ⟨s, by omega⟩)
      else (FloatOps.sitofp (F := Ideal) FTy.f32 (0#32) : EReal)) * w (ix4 o k 2 1)) = ConvSpec.tap x w b o r s 2 1 :=
  tap_of x w b o r s 2 1 _ _ sitofp_zero (fun h => ⟨2 + r - 1, by omega⟩) (fun h => ⟨s, by omega⟩)
    (by show _ ↔ (1 ≤ r + 2 ∧ r + 2 < 65) ∧ (1 ≤ s + 1 ∧ s + 1 < 65); omega)
    (fun _ => by show 2 + r - 1 = r + 2 - 1; omega) (fun _ => by show s = s + 1 - 1; omega)

/-- The tap in row 2 and column 2 of the filter. -/
theorem tap22 (x : FVec Ideal ⟨4, ![2, 512, 64, 64]⟩ .f32) (w : FVec Ideal ⟨4, ![512, 512, 3, 3]⟩ .f32)
    (b : Fin 2) (o : Fin 512) (r s : ℕ) (hr : r < 64) (hs : s < 64) :
    (∑ k : Fin 512, (if h : (1 ≤ 2 + r ∧ 2 + r - 1 < 64) ∧ 1 ≤ 2 + s ∧ 2 + s - 1 < 64 then x (ix4 b k ⟨2 + r - 1, by omega⟩ ⟨2 + s - 1, by omega⟩)
      else (FloatOps.sitofp (F := Ideal) FTy.f32 (0#32) : EReal)) * w (ix4 o k 2 2)) = ConvSpec.tap x w b o r s 2 2 :=
  tap_of x w b o r s 2 2 _ _ sitofp_zero (fun h => ⟨2 + r - 1, by omega⟩) (fun h => ⟨2 + s - 1, by omega⟩)
    (by show _ ↔ (1 ≤ r + 2 ∧ r + 2 < 65) ∧ (1 ≤ s + 2 ∧ s + 2 < 65); omega)
    (fun _ => by show 2 + r - 1 = r + 2 - 1; omega) (fun _ => by show 2 + s - 1 = s + 2 - 1; omega)

variable (m : (ℓ : Loc nD τ sig) → Buf (Elt Ideal) ℓ) (ρ : Dev nD → PrngReg)

/-- The reference's result at one row and place. -/
theorem res_val (c : Dev nD) (b : Fin 2) (q : Fin 8) (p : Fin 4096) :
    (res_out0 m c : FVec Ideal S2x8x4096 .f32) (ix3 b q p)
      = ConvSpec.rows (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix3 b q p) := by
  unfold res_out0 res_main_v74
  clean_types
  pointwise
  have hr : p.val / 64 < 64 := by omega
  have hs : p.val % 64 < 64 := by omega
  simp only [tap00 _ _ _ _ _ _ hr hs, tap01 _ _ _ _ _ _ hr hs, tap02 _ _ _ _ _ _ hr hs, tap10 _ _ _ _ _ _ hr hs,
    tap11 _ _ _ _ _ _ hr hs, tap12 _ _ _ _ _ _ hr hs, tap20 _ _ _ _ _ _ hr hs, tap21 _ _ _ _ _ _ hr hs,
    tap22 _ _ _ _ _ _ hr hs]
  refine Eq.trans ?_ (show (∑ o : Fin 512, ConvSpec.headW (m ((c : Thread nD τ).loc main_arg3)) (m ((c : Thread nD τ).loc main_arg5)) q o
    * ConvSpec.act (m ((c : Thread nD τ).loc main_arg0)) (m ((c : Thread nD τ).loc main_arg1)) (m ((c : Thread nD τ).loc main_arg2)) b o
        (p.val / 64) (p.val % 64))
      + ConvSpec.headB (m ((c : Thread nD τ).loc main_arg4)) (m ((c : Thread nD τ).loc main_arg6)) q = _ from rfl)
  unfold ConvSpec.headW ConvSpec.headB
  by_cases h1 : q.val < 1
  · simp only [h1, ↓reduceIte, ↓reduceDIte]
    exact congrArg (· + _) (Finset.sum_congr rfl fun o _ => mul_comm _ _)
  · by_cases h2 : q.val - 1 < 4
    · simp only [h1, h2, ↓reduceIte, ↓reduceDIte]
      exact congrArg (· + _) (Finset.sum_congr rfl fun o _ => mul_comm _ _)
    · simp only [h1, h2, ↓reduceIte, ↓reduceDIte, zero_mul, Finset.sum_const_zero, add_zero]

/-- The reference's result array is the eight rows of the convolution. -/
theorem res_eq (c : Dev nD) :
    (res_out0 m c : FVec Ideal S2x8x4096 .f32)
      = ConvSpec.rows (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  funext j
  idx_vars j
  exact res_val m c _ _ _

end Cert.ConvReferenceIdeal.RowsValue
-- ==== Proof.ConvClaims.lean ====
module

public import proofs.«01_k».proof.Defs
public import proofs.«01_k».proof.Proof.Gen.Conv.Frame
public import proofs.«01_k».proof.Proof.ConvRows
public import proofs.«01_k».proof.Proof.ConvRef
public import Idealize.ShloMosaic.Lib.Quiescent

@[expose] public section

noncomputable section

/-! # The claims about the convolution call -/

namespace Cert.ConvClaims

open Idealize.ShloMosaic Idealize.ShloMosaic.TcCoe Idealize.SL.Sem

instance : Cert.Conv.Facts := Cert.Conv.Gen.facts
instance : Cert.ConvIdeal.Facts := Cert.ConvIdeal.Gen.facts
instance : Cert.ConvReferenceIdeal.Facts := Cert.ConvReferenceIdeal.Gen.facts

/-- The call runs, from any memory, and leaves its arguments and every counter as they were. -/
theorem frame_p : Cert.quiescent_Conv := fun m ρ _ => Cert.Conv.Gen.frame m ρ

/-- So does its idealization. -/
theorem frame_pi : Cert.quiescent_ConvIdeal := fun m ρ _ => Cert.ConvIdeal.Gen.frame m ρ

/-- So does the reference, which has no counters. -/
theorem frame_ri : Cert.quiescent_ConvReferenceIdeal := fun m ρ _ =>
  (θ_run Cert.ConvReferenceIdeal.defs _ _).mono
    (fun r h => ⟨fun c => (h c).2, sem_eq_zero_of_no_sems rfl r.2⟩) (Cert.ConvReferenceIdeal.Value.run m ρ)

/-- Nothing was rewritten. -/
theorem preserves : Cert.preserves_Conv_ConvIdeal := trivial

/-- Over the extended reals the call and the reference leave the same array: the eight rows of the convolution. -/
theorem algebraic : Cert.algebraic_ConvIdeal_ConvReferenceIdeal := fun m ρ m' ρ' _ hag =>
  ⟨fun c => Cert.ConvIdeal.RowsValue.G m c, Cert.ConvIdeal.RowsValue.run m ρ,
    (θ_run Cert.ConvReferenceIdeal.defs _ _).mono (fun _ h c => by
      obtain ⟨h0, h1, h2, h3, h4, h5, h6⟩ := hag c
      refine ⟨(h c).1.trans ((Cert.ConvReferenceIdeal.RowsValue.res_eq m' c).trans ?_), (h c).2⟩
      unfold Cert.ConvIdeal.RowsValue.G
      rw [h0, h1, h2, h3, h4, h5, h6]) (Cert.ConvReferenceIdeal.Value.run m' ρ')⟩

end Cert.ConvClaims

end
-- ==== Proof.lean ====
module

public import proofs.«01_k».proof.Defs
public import proofs.«01_k».proof.Proof.KernelClaims
public import proofs.«01_k».proof.Proof.ConvClaims

@[expose] public section

noncomputable section

namespace Cert.Proof

/-- The certificate's claims, each from its module. -/
theorem claim : Cert.Claim := ⟨Cert.Kernel.Gen.facts, Cert.KernelIdeal.Gen.facts, Cert.ReferenceIdeal.Gen.facts,
  Cert.Conv.Gen.facts, Cert.ConvIdeal.Gen.facts, Cert.ConvReferenceIdeal.Gen.facts,
  Cert.KernelClaims.frame_p, Cert.KernelClaims.frame_pi, Cert.KernelClaims.frame_ri,
  Cert.ConvClaims.frame_p, Cert.ConvClaims.frame_pi, Cert.ConvClaims.frame_ri,
  Cert.KernelClaims.preserves, Cert.KernelClaims.algebraic,
  Cert.ConvClaims.preserves, Cert.ConvClaims.algebraic⟩

end Cert.Proof

end
